-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v66_0)) (v1 : (c : Dev Cert.Kernel4Ideal.nD) → Buf (Elt Ideal) ((c.tc : Thread Cert.Kernel4Ideal.nD Cert.Kernel4Ideal.τ).loc Cert.Kernel4Ideal.main_v66_1)) (v2 : (c : Dev Cert.Kernel4Ideal.nD) → Buf (Elt Ideal) ((c.tc : Thread Cert.Kernel4Ideal.nD Cert.Kernel4Ideal.τ).loc Cert.Kernel4Ideal.main_v66_2)) (v3 : (c : Dev Cert.Kernel4Ideal.nD) → Buf (Elt Ideal) ((c.tc : Thread Cert.Kernel4Ideal.nD Cert.Kernel4Ideal.τ).loc Cert.Kernel4Ideal.main_v66_3)) (v4 : (c : Dev Cert.Kernel4Ideal.nD) → Buf (Elt Ideal) ((c.tc : Thread Cert.Kernel4Ideal.nD Cert.Kernel4Ideal.τ).loc Cert.Kernel4Ideal.main_v66_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v66_0) = v0 c
          ∧ r.2.mem ((c.tc : Thread Cert.Kernel4Ideal.nD Cert.Kernel4Ideal.τ).loc Cert.Kernel4Ideal.main_v66_1) = v1 c
          ∧ r.2.mem ((c.tc : Thread Cert.Kernel4Ideal.nD Cert.Kernel4Ideal.τ).loc Cert.Kernel4Ideal.main_v66_2) = v2 c
          ∧ r.2.mem ((c.tc : Thread Cert.Kernel4Ideal.nD Cert.Kernel4Ideal.τ).loc Cert.Kernel4Ideal.main_v66_3) = v3 c
          ∧ r.2.mem ((c.tc : Thread Cert.Kernel4Ideal.nD Cert.Kernel4Ideal.τ).loc Cert.Kernel4Ideal.main_v66_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v109) = v0 c
          ∧ r.2.mem ((c.tc : Thread Cert.Reference4Ideal.nD Cert.Reference4Ideal.τ).loc Cert.Reference4Ideal.main_v112) = v1 c
          ∧ r.2.mem ((c.tc : Thread Cert.Reference4Ideal.nD Cert.Reference4Ideal.τ).loc Cert.Reference4Ideal.main_v116) = v2 c
          ∧ r.2.mem ((c.tc : Thread Cert.Reference4Ideal.nD Cert.Reference4Ideal.τ).loc Cert.Reference4Ideal.main_v118) = v3 c
          ∧ r.2.mem ((c.tc : Thread Cert.Reference4Ideal.nD Cert.Reference4Ideal.τ).loc Cert.Reference4Ideal.main_v120) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S65536x1024 : Shape := ⟨2, ![65536, 1024]⟩
abbrev S65536x2048 : Shape := ⟨2, ![65536, 2048]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_

variable [Facts]

def fn {F : FTy → Type} [FloatOps F] (main_arg0 : FVec F S65536x1024 .bf16) (main_arg1 : FVec F S65536x1024 .bf16) (main_arg2 : FVec F S65536x2048 .bf16) : IVec S_ 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_c : IVec S_ 1 := constantI S_ 1 1#1
  let main_v4 : IVec S_ 1 := (fun x v => Host.reduce IntOp.andi x v reducesTo_S65536x1024_S_d0_1 h_S_) main_v3 main_c
  let main_v5 : FVec F S65536x1024 .f32 := (extf .f32 · bitsLt_bf16_f32) main_arg1
  let main_v6 : FVec F S65536x1024 .f32 := Host.absf main_v5
  let main_cst_0 : FVec F S_ .f32 := constant S_ .f32 0x7F800000#32
  let main_v7 : FVec F S65536x1024 .f32 := broadcastInDim S65536x1024 ![] bcast_S_S65536x1024 main_cst_0
  let main_v8 : IVec S65536x1024 1 := cmpf .olt main_v6 main_v7
  let main_c_1 : IVec S_ 1 := constantI S_ 1 1#1
  let main_v9 : IVec S_ 1 := (fun x v => Host.reduce IntOp.andi x v reducesTo_S65536x1024_S_d0_1 h_S_) main_v8 main_c_1
  let main_v10 : IVec S_ 1 := andi main_v4 main_v9
  let main_v11 : FVec F S65536x2048 .f32 := (extf .f32 · bitsLt_bf16_f32) main_arg2
  let main_v12 : FVec F S65536x2048 .f32 := Host.absf main_v11
  let main_cst_2 : FVec F S_ .f32 := constant S_ .f32 0x7F800000#32
  let main_v13 : FVec F S65536x2048 .f32 := broadcastInDim S65536x2048 ![] bcast_S_S65536x2048 main_cst_2
  let main_v14 : IVec S65536x2048 1 := cmpf .olt main_v12 main_v13
  let main_c_3 : IVec S_ 1 := constantI S_ 1 1#1
  let main_v15 : IVec S_ 1 := (fun x v => Host.reduce IntOp.andi x v reducesTo_S65536x2048_S_d0_1 h_S_) main_v14 main_c_3
  let main_v16 : IVec S_ 1 := andi main_v10 main_v15
  main_v16
-- ==== Kernel.lean ====
abbrev S65536x1024 : Shape := ⟨2, ![65536, 1024]⟩
abbrev S65536x2048 : Shape := ⟨2, ![65536, 2048]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S256x4 : Shape := ⟨2, ![256, 4]⟩
abbrev S256x4x256 : Shape := ⟨3, ![256, 4, 256]⟩
abbrev S256x1024 : Shape := ⟨2, ![256, 1024]⟩
abbrev S256x256x1024 : Shape := ⟨3, ![256, 256, 1024]⟩
abbrev S1x256x1024 : Shape := ⟨3, ![1, 256, 1024]⟩
abbrev S1024x65536 : Shape := ⟨2, ![1024, 65536]⟩
abbrev S2048x256 : Shape := ⟨2, ![2048, 256]⟩
abbrev S256x2048 : Shape := ⟨2, ![256, 2048]⟩
abbrev S2048x512 : Shape := ⟨2, ![2048, 512]⟩
abbrev S1x256x1 : Shape := ⟨3, ![1, 256, 1]⟩
abbrev S1x1x1 : Shape := ⟨3, ![1, 1, 1]⟩
abbrev S256x512 : Shape := ⟨2, ![256, 512]⟩
abbrev S1x1 : Shape := ⟨2, ![1, 1]⟩

abbrev nBuf : Space → Nat
  | .hbm => 130
  | .vmem => 17
  | .smem => 0
  | _ => 0

abbrev hbmTy0_0 (i : Nat) : BufTy := match i % 128 with
  | 0 => ⟨S65536x1024, .bf16⟩
  | 1 => ⟨S65536x1024, .bf16⟩
  | 2 => ⟨S65536x2048, .bf16⟩
  | 3 => ⟨S4, .f32⟩
  | 4 => ⟨S_, .f32⟩
  | 5 => ⟨S4, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S256, .f32⟩
  | 15 => ⟨S256x1, .f32⟩
  | 16 => ⟨S1x256, .f32⟩
  | 17 => ⟨S256x256, .f32⟩
  | 18 => ⟨S256x256, .f32⟩
  | 19 => ⟨S256x256, .f32⟩
  | 20 => ⟨S1x256x256, .f32⟩
  | 21 => ⟨S_, .f32⟩
  | 22 => ⟨S1x256x256, .f32⟩
  | 23 => ⟨S1x256x256, .i1⟩
  | 24 => ⟨S1x256x256, .f32⟩
  | 25 => ⟨S4x1x1, .f32⟩
  | 26 => ⟨S4x256x256, .f32⟩
  | 27 => ⟨S4x256x256, .f32⟩
  | 28 => ⟨S4x256x256, .f32⟩
  | 29 => ⟨S4x256x256, .f32⟩
  | 30 => ⟨S_, .f32⟩
  | 31 => ⟨S_, .f32⟩
  | 32 => ⟨S4x256x256, .i1⟩
  | 33 => ⟨S4x256x256, .f32⟩
  | 34 => ⟨S4x256x256, .f32⟩
  | 35 => ⟨S1x256, .f32⟩
  | 36 => ⟨S_, .f32⟩
  | 37 => ⟨S1x256, .f32⟩
  | 38 => ⟨S1x256, .f32⟩
  | 39 => ⟨S4x1, .f32⟩
  | 40 => ⟨S4x256, .f32⟩
  | 41 => ⟨S4x256, .f32⟩
  | 42 => ⟨S4x256, .f32⟩
  | 43 => ⟨S4x256, .f32⟩
  | 44 => ⟨S4x256x1, .f32⟩
  | 45 => ⟨S1x256, .f32⟩
  | 46 => ⟨S_, .f32⟩
  | 47 => ⟨S1x256, .f32⟩
  | 48 => ⟨S1x256, .f32⟩
  | 49 => ⟨S4x1, .f32⟩
  | 50 => ⟨S4x256, .f32⟩
  | 51 => ⟨S4x256, .f32⟩
  | 52 => ⟨S4x256, .f32⟩
  | 53 => ⟨S4x256, .f32⟩
  | 54 => ⟨S4x256x1, .f32⟩
  | 55 => ⟨S_, .f32⟩
  | 56 => ⟨S4, .f32⟩
  | 57 => ⟨S4, .f32⟩
  | 58 => ⟨S4, .f32⟩
  | 59 => ⟨S4x1x1, .f32⟩
  | 60 => ⟨S4x256, .f32⟩
  | 61 => ⟨S256x4, .f32⟩
  | 62 => ⟨S256x4x256, .f32⟩
  | 63 => ⟨S256x1024, .f32⟩
  | 64 => ⟨S65536x1024, .f32⟩
  | 65 => ⟨S256x256x1024, .f32⟩
  | 66 => ⟨S1x256x1024, .f32⟩
  | 67 => ⟨S256x256x1024, .f32⟩
  | 68 => ⟨S256x256x1024, .f32⟩
  | 69 => ⟨S65536x1024, .f32⟩
  | 70 => ⟨S1024x65536, .f32⟩
  | 71 => ⟨S1024x65536, .bf16⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S256, .f32⟩
  | 84 => ⟨S256x1, .f32⟩
  | 85 => ⟨S1x256, .f32⟩
  | 86 => ⟨S256x256, .f32⟩
  | 87 => ⟨S256x256, .f32⟩
  | 88 => ⟨S256x256, .f32⟩
  | 89 => ⟨S1x256x256, .f32⟩
  | 90 => ⟨S_, .f32⟩
  | 91 => ⟨S1x256x256, .f32⟩
  | 92 => ⟨S1x256x256, .i1⟩
  | 93 => ⟨S1x256x256, .f32⟩
  | 94 => ⟨S4x1x1, .f32⟩
  | 95 => ⟨S4x256x256, .f32⟩
  | 96 => ⟨S4x256x256, .f32⟩
  | 97 => ⟨S4x256x256, .f32⟩
  | 98 => ⟨S4x256x256, .f32⟩
  | 99 => ⟨S_, .f32⟩
  | 100 => ⟨S_, .f32⟩
  | 101 => ⟨S4x256x256, .i1⟩
  | 102 => ⟨S4x256x256, .f32⟩
  | 103 => ⟨S4x256x256, .f32⟩
  | 104 => ⟨S1x256, .f32⟩
  | 105 => ⟨S_, .f32⟩
  | 106 => ⟨S1x256, .f32⟩
  | 107 => ⟨S1x256, .f32⟩
  | 108 => ⟨S4x1, .f32⟩
  | 109 => ⟨S4x256, .f32⟩
  | 110 => ⟨S4x256, .f32⟩
  | 111 => ⟨S4x256, .f32⟩
  | 112 => ⟨S4x256, .f32⟩
  | 113 => ⟨S4x256x1, .f32⟩
  | 114 => ⟨S1x256, .f32⟩
  | 115 => ⟨S_, .f32⟩
  | 116 => ⟨S1x256, .f32⟩
  | 117 => ⟨S1x256, .f32⟩
  | 118 => ⟨S4x1, .f32⟩
  | 119 => ⟨S4x256, .f32⟩
  | 120 => ⟨S4x256, .f32⟩
  | 121 => ⟨S4x256, .f32⟩
  | 122 => ⟨S4x256, .f32⟩
  | 123 => ⟨S4x256x1, .f32⟩
  | 124 => ⟨S_, .f32⟩
  | 125 => ⟨S4, .f32⟩
  | 126 => ⟨S4, .f32⟩
  | 127 => ⟨S4, .f32⟩
  | _ => ⟨S65536x1024, .bf16⟩

abbrev hbmTy0_1 (i : Nat) : BufTy := match i % 128 with
  | 0 => ⟨S4x1x1, .f32⟩
  | 1 => ⟨S65536x2048, .f32⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x2048, .bf16⟩
  | .local _ .vmem, ⟨5, _⟩ => ⟨S256x2048, .bf16⟩
  | .local _ .vmem, ⟨6, _⟩ => ⟨S2048x512, .bf16⟩
  | .local _ .vmem, ⟨7, _⟩ => ⟨S2048x512, .bf16⟩
  | .local _ .vmem, ⟨8, _⟩ => ⟨S1x256x256, .f32⟩
  | .local _ .vmem, ⟨9, _⟩ => ⟨S1x256x256, .f32⟩
  | .local _ .vmem, ⟨10, _⟩ => ⟨S1x256x1, .f32⟩
  | .local _ .vmem, ⟨11, _⟩ => ⟨S1x256x1, .f32⟩
  | .local _ .vmem, ⟨12, _⟩ => ⟨S1x1x1, .f32⟩
  | .local _ .vmem, ⟨13, _⟩ => ⟨S1x1x1, .f32⟩
  | .local _ .vmem, ⟨14, _⟩ => ⟨S2048x512, .f32⟩
  | .local _ .vmem, ⟨15, _⟩ => ⟨S2048x512, .f32⟩
  | .local _ .vmem, ⟨16, _⟩ => ⟨S256x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_11 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v81 : Ref sig .tc := ⟨.hbm, 103, rfl⟩
abbrev main_v82 : Ref sig .tc := ⟨.hbm, 104, rfl⟩
abbrev main_cst_12 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_13 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_14 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S65536x1024 : Shape := ⟨2, ![65536, 1024]⟩
abbrev S65536x2048 : Shape := ⟨2, ![65536, 2048]⟩
abbrev S8x8192x4x256 : Shape := ⟨4, ![8, 8192, 4, 256]⟩
abbrev S8x4x8192x256 : Shape := ⟨4, ![8, 4, 8192, 256]⟩
abbrev S8x8192x4x512 : Shape := ⟨4, ![8, 8192, 4, 512]⟩
abbrev S8x4x8192x512 : Shape := ⟨4, ![8, 4, 8192, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S8x4x256x512 : Shape := ⟨4, ![8, 4, 256, 512]⟩
abbrev S8x4x64x128x256 : Shape := ⟨5, ![8, 4, 64, 128, 256]⟩
abbrev S64x8x4x128x256 : Shape := ⟨5, ![64, 8, 4, 128, 256]⟩
abbrev S8x4x64x128x512 : Shape := ⟨5, ![8, 4, 64, 128, 512]⟩
abbrev S64x8x4x128x512 : Shape := ⟨5, ![64, 8, 4, 128, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩

abbrev nBuf : Space → Nat
  | .hbm => 137
  | .vmem => 0
  | .smem => 0
  | _ => 0

abbrev hbmTy0_0 (i : Nat) : BufTy := match i % 128 with
  | 0 => ⟨S65536x1024, .bf16⟩
  | 1 => ⟨S65536x1024, .bf16⟩
  | 2 => ⟨S65536x2048, .bf16⟩
  | 3 => ⟨S8x8192x4x256, .bf16⟩
  | 4 => ⟨S8x4x8192x256, .bf16⟩
  | 5 => ⟨S8x4x8192x256, .f32⟩
  | 6 => ⟨S8x8192x4x256, .bf16⟩
  | 7 => ⟨S8x4x8192x256, .bf16⟩
  | 8 => ⟨S8x4x8192x256, .f32⟩
  | 9 => ⟨S8x8192x4x512, .bf16⟩
  | 10 => ⟨S8x4x8192x512, .bf16⟩
  | 11 => ⟨S8x4x8192x512, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S128, .f32⟩
  | 24 => ⟨S128x1, .f32⟩
  | 25 => ⟨S1x128, .f32⟩
  | 26 => ⟨S128x128, .f32⟩
  | 27 => ⟨S128x128, .f32⟩
  | 28 => ⟨S128x128, .f32⟩
  | 29 => ⟨S1x128x128, .f32⟩
  | 30 => ⟨S_, .f32⟩
  | 31 => ⟨S1x128x128, .f32⟩
  | 32 => ⟨S1x128x128, .i1⟩
  | 33 => ⟨S1x128x128, .f32⟩
  | 34 => ⟨S4x1x1, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S1x128, .f32⟩
  | 45 => ⟨S_, .f32⟩
  | 46 => ⟨S1x128, .f32⟩
  | 47 => ⟨S1x128, .f32⟩
  | 48 => ⟨S4x1, .f32⟩
  | 49 => ⟨S4x128, .f32⟩
  | 50 => ⟨S4x128, .f32⟩
  | 51 => ⟨S4x128, .f32⟩
  | 52 => ⟨S4x128, .f32⟩
  | 53 => ⟨S1x128, .f32⟩
  | 54 => ⟨S_, .f32⟩
  | 55 => ⟨S1x128, .f32⟩
  | 56 => ⟨S1x128, .f32⟩
  | 57 => ⟨S4x1, .f32⟩
  | 58 => ⟨S4x128, .f32⟩
  | 59 => ⟨S4x128, .f32⟩
  | 60 => ⟨S4x128, .f32⟩
  | 61 => ⟨S4x128, .f32⟩
  | 62 => ⟨S_, .f32⟩
  | 63 => ⟨S4, .f32⟩
  | 64 => ⟨S4, .f32⟩
  | 65 => ⟨S4, .f32⟩
  | 66 => ⟨S_, .f32⟩
  | 67 => ⟨S8x4x256x512, .f32⟩
  | 68 => ⟨S8x4x64x128x256, .f32⟩
  | 69 => ⟨S64x8x4x128x256, .f32⟩
  | 70 => ⟨S8x4x64x128x256, .f32⟩
  | 71 => ⟨S64x8x4x128x256, .f32⟩
  | 72 => ⟨S8x4x64x128x512, .f32⟩
  | 73 => ⟨S64x8x4x128x512, .f32⟩
  | 74 => ⟨S_, .f32⟩
  | 75 => ⟨S64x8x4x128x512, .f32⟩
  | 76 => ⟨S_, .i32⟩
  | 77 => ⟨S64x8x4x128x256, .f32⟩
  | 78 => ⟨S64x8x4x128x256, .f32⟩
  | 79 => ⟨S64x8x4x128x512, .f32⟩
  | 80 => ⟨S4x128x128, .f32⟩
  | 81 => ⟨S4x128, .f32⟩
  | 82 => ⟨S4, .f32⟩
  | 83 => ⟨S4x128, .f32⟩
  | 84 => ⟨S_, .i32⟩
  | 85 => ⟨S8x4x256x512, .f32⟩
  | 86 => ⟨S64x8x4x128x512, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x8x4x128x256, .f32⟩
  | 94 => ⟨S8x4x128x256, .f32⟩
  | 95 => ⟨S_, .i32⟩
  | 96 => ⟨S_, .i32⟩
  | 97 => ⟨S_, .i32⟩
  | 98 => ⟨S_, .i32⟩
  | 99 => ⟨S1x8x4x128x256, .f32⟩
  | 100 => ⟨S8x4x128x256, .f32⟩
  | 101 => ⟨S_, .i32⟩
  | 102 => ⟨S_, .i32⟩
  | 103 => ⟨S_, .i32⟩
  | 104 => ⟨S_, .i32⟩
  | 105 => ⟨S1x8x4x128x512, .f32⟩
  | 106 => ⟨S8x4x128x512, .f32⟩
  | 107 => ⟨S8x4x128x128, .f32⟩
  | 108 => ⟨S1x4x128x128, .f32⟩
  | 109 => ⟨S8x4x128x128, .f32⟩
  | 110 => ⟨S8x4x128x128, .f32⟩
  | 111 => ⟨S8x4x128x512, .f32⟩
  | 112 => ⟨S8x4x128x512, .f32⟩
  | 113 => ⟨S1x4x128x1, .f32⟩
  | 114 => ⟨S8x4x128x512, .f32⟩
  | 115 => ⟨S8x4x128x512, .f32⟩
  | 116 => ⟨S1x4x1x1, .f32⟩
  | 117 => ⟨S8x4x256x512, .f32⟩
  | 118 => ⟨S8x4x256x512, .f32⟩
  | 119 => ⟨S1x4x128x1, .f32⟩
  | 120 => ⟨S8x4x128x256, .f32⟩
  | 121 => ⟨S8x4x128x256, .f32⟩
  | 122 => ⟨S8x4x256x512, .f32⟩
  | 123 => ⟨S8x4x256x512, .f32⟩
  | 124 => ⟨S8x4x128x512, .f32⟩
  | 125 => ⟨S1x8x4x128x512, .f32⟩
  | 126 => ⟨S_, .i32⟩
  | 127 => ⟨S_, .i32⟩
  | _ => ⟨S65536x1024, .bf16⟩

abbrev hbmTy0_1 (i : Nat) : BufTy := match i % 128 with
  | 0 => ⟨S_, .i32⟩
  | 1 => ⟨S_, .i32⟩
  | 2 => ⟨S64x8x4x128x512, .f32⟩
  | 3 => ⟨S_, .i32⟩
  | 4 => ⟨S_, .i32⟩
  | 5 => ⟨S8x4x64x128x512, .f32⟩
  | 6 => ⟨S8x4x8192x512, .f32⟩
  | 7 => ⟨S8x8192x4x512, .f32⟩
  | 8 => ⟨S65536x2048, .f32⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_c : Ref sig .tc := ⟨.hbm, 76, rfl⟩
abbrev main_v60_0 : Ref sig .tc := ⟨.hbm, 77, rfl⟩
abbrev main_v60_1 : Ref sig .tc := ⟨.hbm, 78, rfl⟩
abbrev main_v60_2 : Ref sig .tc := ⟨.hbm, 79, rfl⟩
abbrev main_v60_3 : Ref sig .tc := ⟨.hbm, 80, rfl⟩
abbrev main_v60_4 : Ref sig .tc := ⟨.hbm, 81, rfl⟩
abbrev main_v60_5 : Ref sig .tc := ⟨.hbm, 82, rfl⟩
abbrev main_v60_6 : Ref sig .tc := ⟨.hbm, 83, rfl⟩
abbrev main_v60_7 : Ref sig .tc := ⟨.hbm, 84, rfl⟩
abbrev main_v60_8 : Ref sig .tc := ⟨.hbm, 85, rfl⟩
abbrev main_v60_9 : Ref sig .tc := ⟨.hbm, 86, rfl⟩
abbrev main_while0c_c_18 : Ref sig .tc := ⟨.hbm, 87, rfl⟩
abbrev main_while0c_v65 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_call1_c_1 : Ref sig .tc := ⟨.hbm, 91, rfl⟩
abbrev main_while0b_call1_c_2 : Ref sig .tc := ⟨.hbm, 92, rfl⟩
abbrev main_while0b_call1_v0 : Ref sig .tc := ⟨.hbm, 93, rfl⟩
abbrev main_while0b_v65 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v66 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v86 : Ref sig .tc := ⟨.hbm, 130, rfl⟩
abbrev main_while0b_c_18 : Ref sig .tc := ⟨.hbm, 131, rfl⟩
abbrev main_while0b_v87 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x8192x16x64 : Shape := ⟨4, ![8, 8192, 16, 64]⟩
abbrev S8x16x64x8192 : Shape := ⟨4, ![8, 16, 64, 8192]⟩
abbrev S65536x1024 : Shape := ⟨2, ![65536, 1024]⟩
abbrev S1x1024 : Shape := ⟨2, ![1, 1024]⟩
abbrev S512x1024 : Shape := ⟨2, ![512, 1024]⟩
abbrev S1x16x64x512 : Shape := ⟨4, ![1, 16, 64, 512]⟩
abbrev S16x64x512 : Shape := ⟨3, ![16, 64, 512]⟩
abbrev S1024x512 : Shape := ⟨2, ![1024, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x8192x16x64, .f32⟩
  | .hbm, ⟨8, _⟩ => ⟨S8x16x64x8192, .f32⟩
  | .hbm, ⟨9, _⟩ => ⟨S8x16x64x8192, .bf16⟩
  | .hbm, ⟨10, _⟩ => ⟨S65536x1024, .f32⟩
  | .hbm, ⟨11, _⟩ => ⟨S1024x1024, .bf16⟩
  | .hbm, ⟨12, _⟩ => ⟨S1x1024, .f32⟩
  | .hbm, ⟨13, _⟩ => ⟨S1024x5632, .bf16⟩
  | .hbm, ⟨14, _⟩ => ⟨S2816x1024, .bf16⟩
  | .hbm, ⟨15, _⟩ => ⟨S1x1024, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x16x64x512, .bf16⟩
  | .local _ .vmem, ⟨3, _⟩ => ⟨S1x16x64x512, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x8192x1024, .f32⟩
  | .hbm, ⟨8, _⟩ => ⟨S8x8192x1024, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S8x8192x5632, .f32⟩
  | .hbm, ⟨26, _⟩ => ⟨S8x8192x2816, .f32⟩
  | .hbm, ⟨27, _⟩ => ⟨S8x8192x2816, .f32⟩
  | .hbm, ⟨28, _⟩ => ⟨S8x8192x2816, .f32⟩
  | .hbm, ⟨29, _⟩ => ⟨S8x8192x2816, .f32⟩
  | .hbm, ⟨30, _⟩ => ⟨S_, .f32⟩
  | .hbm, ⟨31, _⟩ => ⟨S8x8192x2816, .f32⟩
  | .hbm, ⟨32, _⟩ => ⟨S8x8192x2816, .f32⟩
  | .hbm, ⟨33, _⟩ => ⟨S_, .f32⟩
  | .hbm, ⟨34, _⟩ => ⟨S8x8192x2816, .f32⟩
  | .hbm, ⟨35, _⟩ => ⟨S8x8192x2816, .f32⟩
  | .hbm, ⟨36, _⟩ => ⟨S8x8192x2816, .f32⟩
  | .hbm, ⟨37, _⟩ => ⟨S8x8192x2816, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel3.lean ====
abbrev S8x8192x1024 : Shape := ⟨3, ![8, 8192, 1024]⟩
abbrev S65536x2048 : Shape := ⟨2, ![65536, 2048]⟩
abbrev S2048 : Shape := ⟨1, ![2048]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8x8192x1024, .f32⟩
  | .hbm, ⟨1, _⟩ => ⟨S65536x2048, .f32⟩
  | .hbm, ⟨2, _⟩ => ⟨S65536x2048, .bf16⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S65536x1024, .f32⟩
  | .hbm, ⟨10, _⟩ => ⟨S1x2048, .f32⟩
  | .hbm, ⟨11, _⟩ => ⟨S2048x1024, .bf16⟩
  | .hbm, ⟨12, _⟩ => ⟨S1x1024, .f32⟩
  | .hbm, ⟨13, _⟩ => ⟨S1024x5632, .bf16⟩
  | .hbm, ⟨14, _⟩ => ⟨S2816x1024, .bf16⟩
  | .hbm, ⟨15, _⟩ => ⟨S1x1024, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x8192x1024 : Shape := ⟨3, ![8, 8192, 1024]⟩
abbrev S65536x2048 : Shape := ⟨2, ![65536, 2048]⟩
abbrev S2048 : Shape := ⟨1, ![2048]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S8x8192x4x512 : Shape := ⟨4, ![8, 8192, 4, 512]⟩
abbrev S8x4x8192x512 : Shape := ⟨4, ![8, 4, 8192, 512]⟩
abbrev S8x8192x2048 : Shape := ⟨3, ![8, 8192, 2048]⟩
abbrev S_ : Shape := ⟨0, ![]⟩
abbrev S8x4x8192 : Shape := ⟨3, ![8, 4, 8192]⟩
abbrev S8x4x8192x1 : Shape := ⟨4, ![8, 4, 8192, 1]⟩
abbrev S1x1x2048 : Shape := ⟨3, ![1, 1, 2048]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S65536x2048, .f32⟩
  | .hbm, ⟨2, _⟩ => ⟨S65536x2048, .bf16⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S8x8192x4x512, .f32⟩
  | .hbm, ⟨10, _⟩ => ⟨S8x4x8192x512, .f32⟩
  | .hbm, ⟨11, _⟩ => ⟨S8x8192x2048, .bf16⟩
  | .hbm, ⟨12, _⟩ => ⟨S_, .f32⟩
  | .hbm, ⟨13, _⟩ => ⟨S8x4x8192, .f32⟩
  | .hbm, ⟨14, _⟩ => ⟨S8x4x8192x1, .f32⟩
  | .hbm, ⟨15, _⟩ => ⟨S_, .f32⟩
  | .hbm, ⟨16, _⟩ => ⟨S8x4x8192x1, .f32⟩
  | .hbm, ⟨17, _⟩ => ⟨S8x4x8192x1, .f32⟩
  | .hbm, ⟨18, _⟩ => ⟨S8x4x8192x512, .f32⟩
  | .hbm, ⟨19, _⟩ => ⟨S8x4x8192x512, .f32⟩
  | .hbm, ⟨20, _⟩ => ⟨S8x4x8192x512, .f32⟩
  | .hbm, ⟨21, _⟩ => ⟨S_, .f32⟩
  | .hbm, ⟨22, _⟩ => ⟨S8x4x8192, .f32⟩
  | .hbm, ⟨23, _⟩ => ⟨S8x4x8192x1, .f32⟩
  | .hbm, ⟨24, _⟩ => ⟨S_, .f32⟩
  | .hbm, ⟨25, _⟩ => ⟨S8x4x8192x1, .f32⟩
  | .hbm, ⟨26, _⟩ => ⟨S8x4x8192x1, .f32⟩
  | .hbm, ⟨27, _⟩ => ⟨S_, .f32⟩
  | .hbm, ⟨28, _⟩ => ⟨S8x4x8192x1, .f32⟩
  | .hbm, ⟨29, _⟩ => ⟨S8x4x8192x1, .f32⟩
  | .hbm, ⟨30, _⟩ => ⟨S8x4x8192x1, .f32⟩
  | .hbm, ⟨31, _⟩ => ⟨S8x4x8192x512, .f32⟩
  | .hbm, ⟨32, _⟩ => ⟨S8x4x8192x512, .f32⟩
  | .hbm, ⟨33, _⟩ => ⟨S8x8192x4x512, .f32⟩
  | .hbm, ⟨34, _⟩ => ⟨S8x8192x2048, .f32⟩
  | .hbm, ⟨35, _⟩ => ⟨S1x1x2048, .f32⟩
  | .hbm, ⟨36, _⟩ => ⟨S8x8192x2048, .f32⟩
  | .hbm, ⟨37, _⟩ => ⟨S8x8192x2048, .f32⟩
  | .hbm, ⟨38, _⟩ => ⟨S8x8192x2048, .f32⟩
  | .hbm, ⟨39, _⟩ => ⟨S8x8192x2048, .f32⟩
  | .hbm, ⟨40, _⟩ => ⟨S8x8192x2048, .f32⟩
  | .hbm, ⟨41, _⟩ => ⟨S_, .f32⟩
  | .hbm, ⟨42, _⟩ => ⟨S8x8192x2048, .f32⟩
  | .hbm, ⟨43, _⟩ => ⟨S8x8192x2048, .f32⟩
  | .hbm, ⟨44, _⟩ => ⟨S_, .f32⟩
  | .hbm, ⟨45, _⟩ => ⟨S8x8192x2048, .f32⟩
  | .hbm, ⟨46, _⟩ => ⟨S8x8192x2048, .f32⟩
  | .hbm, ⟨47, _⟩ => ⟨S8x8192x2048, .f32⟩
  | .hbm, ⟨48, _⟩ => ⟨S8x8192x2048, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x1, .f32⟩
  | .hbm, ⟨62, _⟩ => ⟨S8x8192x1024, .f32⟩
  | .hbm, ⟨63, _⟩ => ⟨S8x8192x1024, .f32⟩
  | .hbm, ⟨64, _⟩ => ⟨S1x1x1024, .f32⟩
  | .hbm, ⟨65, _⟩ => ⟨S8x8192x1024, .f32⟩
  | .hbm, ⟨66, _⟩ => ⟨S8x8192x1024, .f32⟩
  | .hbm, ⟨67, _⟩ => ⟨S8x8192x5632, .f32⟩
  | .hbm, ⟨68, _⟩ => ⟨S8x8192x2816, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S_, .f32⟩
  | .hbm, ⟨73, _⟩ => ⟨S8x8192x2816, .f32⟩
  | .hbm, ⟨74, _⟩ => ⟨S8x8192x2816, .f32⟩
  | .hbm, ⟨75, _⟩ => ⟨S_, .f32⟩
  | .hbm, ⟨76, _⟩ => ⟨S8x8192x2816, .f32⟩
  | .hbm, ⟨77, _⟩ => ⟨S8x8192x2816, .f32⟩
  | .hbm, ⟨78, _⟩ => ⟨S8x8192x2816, .f32⟩
  | .hbm, ⟨79, _⟩ => ⟨S8x8192x2816, .f32⟩
  | .hbm, ⟨80, _⟩ => ⟨S8x8192x1024, .f32⟩
  | .hbm, ⟨81, _⟩ => ⟨S8x8192x1024, .f32⟩
  | .hbm, ⟨82, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024 : Shape := ⟨1, ![1024]⟩
abbrev S1024x6144 : Shape := ⟨2, ![1024, 6144]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S65536x1024 : Shape := ⟨2, ![65536, 1024]⟩
abbrev S1x1024 : Shape := ⟨2, ![1, 1024]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x4x1x256x1x1 : Shape := ⟨6, ![1, 4, 1, 256, 1, 1]⟩
abbrev S1x4x2x256x1x1 : Shape := ⟨6, ![1, 4, 2, 256, 1, 1]⟩
abbrev S4x512x1 : Shape := ⟨3, ![4, 512, 1]⟩
abbrev S1024x65536 : Shape := ⟨2, ![1024, 65536]⟩
abbrev S65536x2048 : Shape := ⟨2, ![65536, 2048]⟩
abbrev S512x1024 : Shape := ⟨2, ![512, 1024]⟩
abbrev S512x128 : Shape := ⟨2, ![512, 128]⟩
abbrev S1024x512 : Shape := ⟨2, ![1024, 512]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x1 : Shape := ⟨3, ![1, 512, 1]⟩
abbrev S128x512 : Shape := ⟨2, ![128, 512]⟩
abbrev S512x512 : Shape := ⟨2, ![512, 512]⟩

abbrev nBuf : Space → Nat
  | .hbm => 87
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6144, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S8192, .f32⟩
  | .hbm, ⟨12, _⟩ => ⟨S8192x1, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S65536x1024, .f32⟩
  | .hbm, ⟨20, _⟩ => ⟨S1x1024, .f32⟩
  | .hbm, ⟨21, _⟩ => ⟨S1024x6144, .bf16⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S256, .f32⟩
  | .hbm, ⟨34, _⟩ => ⟨S256x1, .f32⟩
  | .hbm, ⟨35, _⟩ => ⟨S1x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S_, .f32⟩
  | .hbm, ⟨41, _⟩ => ⟨S1x256x256, .f32⟩
  | .hbm, ⟨42, _⟩ => ⟨S1x256x256, .i1⟩
  | .hbm, ⟨43, _⟩ => ⟨S1x256x256, .f32⟩
  | .hbm, ⟨44, _⟩ => ⟨S4x1x1, .f32⟩
  | .hbm, ⟨45, _⟩ => ⟨S4x256x256, .f32⟩
  | .hbm, ⟨46, _⟩ => ⟨S4x256x256, .f32⟩
  | .hbm, ⟨47, _⟩ => ⟨S4x256x256, .f32⟩
  | .hbm, ⟨48, _⟩ => ⟨S4x256x256, .f32⟩
  | .hbm, ⟨49, _⟩ => ⟨S_, .f32⟩
  | .hbm, ⟨50, _⟩ => ⟨S_, .f32⟩
  | .hbm, ⟨51, _⟩ => ⟨S4x256x256, .i1⟩
  | .hbm, ⟨52, _⟩ => ⟨S4x256x256, .f32⟩
  | .hbm, ⟨53, _⟩ => ⟨S4x256x256, .f32⟩
  | .hbm, ⟨54, _⟩ => ⟨S1x256, .f32⟩
  | .hbm, ⟨55, _⟩ => ⟨S_, .f32⟩
  | .hbm, ⟨56, _⟩ => ⟨S1x256, .f32⟩
  | .hbm, ⟨57, _⟩ => ⟨S1x256, .f32⟩
  | .hbm, ⟨58, _⟩ => ⟨S4x1, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x256x1, .f32⟩
  | .hbm, ⟨64, _⟩ => ⟨S1x256, .f32⟩
  | .hbm, ⟨65, _⟩ => ⟨S_, .f32⟩
  | .hbm, ⟨66, _⟩ => ⟨S1x256, .f32⟩
  | .hbm, ⟨67, _⟩ => ⟨S1x256, .f32⟩
  | .hbm, ⟨68, _⟩ => ⟨S4x1, .f32⟩
  | .hbm, ⟨69, _⟩ => ⟨S4x256, .f32⟩
  | .hbm, ⟨70, _⟩ => ⟨S4x256, .f32⟩
  | .hbm, ⟨71, _⟩ => ⟨S4x256, .f32⟩
  | .hbm, ⟨72, _⟩ => ⟨S4x256, .f32⟩
  | .hbm, ⟨73, _⟩ => ⟨S4x256x1, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4x1x1, .f32⟩
  | .hbm, ⟨79, _⟩ => ⟨S1x4x1x256x1x1, .f32⟩
  | .hbm, ⟨80, _⟩ => ⟨S1x4x2x256x1x1, .f32⟩
  | .hbm, ⟨81, _⟩ => ⟨S4x512x1, .f32⟩
  | .hbm, ⟨82, _⟩ => ⟨S65536x1024, .bf16⟩
  | .hbm, ⟨83, _⟩ => ⟨S65536x1024, .bf16⟩
  | .hbm, ⟨84, _⟩ => ⟨S1024x65536, .bf16⟩
  | .hbm, ⟨85, _⟩ => ⟨S65536x2048, .bf16⟩
  | .hbm, ⟨86, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4x512x1, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66_0 : Ref sig .tc := ⟨.hbm, 82, rfl⟩
abbrev main_v66_1 : Ref sig .tc := ⟨.hbm, 83, rfl⟩
abbrev main_v66_2 : Ref sig .tc := ⟨.hbm, 84, rfl⟩
abbrev main_v66_3 : Ref sig .tc := ⟨.hbm, 85, rfl⟩
abbrev main_v66_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x8192x1024 : Shape := ⟨3, ![8, 8192, 1024]⟩
abbrev S1024 : Shape := ⟨1, ![1024]⟩
abbrev S1024x6144 : Shape := ⟨2, ![1024, 6144]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x6144 : Shape := ⟨3, ![8, 8192, 6144]⟩
abbrev S8x8192x2048 : Shape := ⟨3, ![8, 8192, 2048]⟩
abbrev S8x8192x4x256 : Shape := ⟨4, ![8, 8192, 4, 256]⟩
abbrev S8x4x8192x256 : Shape := ⟨4, ![8, 4, 8192, 256]⟩
abbrev S8192 : Shape := ⟨1, ![8192]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S8x4x8192x128 : Shape := ⟨4, ![8, 4, 8192, 128]⟩
abbrev S1x1x8192x128 : Shape := ⟨4, ![1, 1, 8192, 128]⟩
abbrev S4 : Shape := ⟨1, ![4]⟩
abbrev S256 : Shape := ⟨1, ![256]⟩
abbrev S1x256 : Shape := ⟨2, ![1, 256]⟩
abbrev S4x1 : Shape := ⟨2, ![4, 1]⟩
abbrev S4x256 : Shape := ⟨2, ![4, 256]⟩
abbrev S8x4x32x256x256 : Shape := ⟨5, ![8, 4, 32, 256, 256]⟩
abbrev S1x4x1x256x1 : Shape := ⟨5, ![1, 4, 1, 256, 1]⟩
abbrev S65536x1024 : Shape := ⟨2, ![65536, 1024]⟩
abbrev S1024x65536 : Shape := ⟨2, ![1024, 65536]⟩
abbrev S65536x2048 : Shape := ⟨2, ![65536, 2048]⟩

abbrev nBuf : Space → Nat
  | .hbm => 136
  | .vmem => 0
  | .smem => 0
  | _ => 0

abbrev hbmTy0_0 (i : Nat) : BufTy := match i % 128 with
  | 0 => ⟨S8x8192x1024, .f32⟩
  | 1 => ⟨S1024, .f32⟩
  | 2 => ⟨S1024x6144, .f32⟩
  | 3 => ⟨S8x8192x1024, .f32⟩
  | 4 => ⟨S_, .f32⟩
  | 5 => ⟨S8x8192, .f32⟩
  | 6 => ⟨S8x8192x1, .f32⟩
  | 7 => ⟨S_, .f32⟩
  | 8 => ⟨S8x8192x1, .f32⟩
  | 9 => ⟨S8x8192x1, .f32⟩
  | 10 => ⟨S_, .f32⟩
  | 11 => ⟨S8x8192x1, .f32⟩
  | 12 => ⟨S8x8192x1, .f32⟩
  | 13 => ⟨S8x8192x1, .f32⟩
  | 14 => ⟨S8x8192x1024, .f32⟩
  | 15 => ⟨S8x8192x1024, .f32⟩
  | 16 => ⟨S1x1x1024, .f32⟩
  | 17 => ⟨S8x8192x1024, .f32⟩
  | 18 => ⟨S8x8192x1024, .f32⟩
  | 19 => ⟨S8x8192x6144, .f32⟩
  | 20 => ⟨S8x8192x1024, .f32⟩
  | 21 => ⟨S8x8192x1024, .f32⟩
  | 22 => ⟨S8x8192x2048, .f32⟩
  | 23 => ⟨S8x8192x2048, .f32⟩
  | 24 => ⟨S8x8192x4x256, .f32⟩
  | 25 => ⟨S8x4x8192x256, .f32⟩
  | 26 => ⟨S8x8192x4x256, .f32⟩
  | 27 => ⟨S8x4x8192x256, .f32⟩
  | 28 => ⟨S8192, .f32⟩
  | 29 => ⟨S128, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S8192x1, .f32⟩
  | 38 => ⟨S1x128, .f32⟩
  | 39 => ⟨S8192x128, .f32⟩
  | 40 => ⟨S8192x128, .f32⟩
  | 41 => ⟨S8192x128, .f32⟩
  | 42 => ⟨S8192x128, .f32⟩
  | 43 => ⟨S8192x128, .f32⟩
  | 44 => ⟨S8x4x8192x128, .f32⟩
  | 45 => ⟨S8x4x8192x128, .f32⟩
  | 46 => ⟨S1x1x8192x128, .f32⟩
  | 47 => ⟨S8x4x8192x128, .f32⟩
  | 48 => ⟨S8x4x8192x128, .f32⟩
  | 49 => ⟨S1x1x8192x128, .f32⟩
  | 50 => ⟨S8x4x8192x128, .f32⟩
  | 51 => ⟨S8x4x8192x128, .f32⟩
  | 52 => ⟨S8x4x8192x128, .f32⟩
  | 53 => ⟨S1x1x8192x128, .f32⟩
  | 54 => ⟨S8x4x8192x128, .f32⟩
  | 55 => ⟨S8x4x8192x128, .f32⟩
  | 56 => ⟨S1x1x8192x128, .f32⟩
  | 57 => ⟨S8x4x8192x128, .f32⟩
  | 58 => ⟨S8x4x8192x128, .f32⟩
  | 59 => ⟨S8x4x8192x128, .f32⟩
  | 60 => ⟨S8x4x8192x256, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S8192x1, .f32⟩
  | 70 => ⟨S1x128, .f32⟩
  | 71 => ⟨S8192x128, .f32⟩
  | 72 => ⟨S8192x128, .f32⟩
  | 73 => ⟨S8192x128, .f32⟩
  | 74 => ⟨S8192x128, .f32⟩
  | 75 => ⟨S8192x128, .f32⟩
  | 76 => ⟨S8x4x8192x128, .f32⟩
  | 77 => ⟨S8x4x8192x128, .f32⟩
  | 78 => ⟨S1x1x8192x128, .f32⟩
  | 79 => ⟨S8x4x8192x128, .f32⟩
  | 80 => ⟨S8x4x8192x128, .f32⟩
  | 81 => ⟨S1x1x8192x128, .f32⟩
  | 82 => ⟨S8x4x8192x128, .f32⟩
  | 83 => ⟨S8x4x8192x128, .f32⟩
  | 84 => ⟨S8x4x8192x128, .f32⟩
  | 85 => ⟨S1x1x8192x128, .f32⟩
  | 86 => ⟨S8x4x8192x128, .f32⟩
  | 87 => ⟨S8x4x8192x128, .f32⟩
  | 88 => ⟨S1x1x8192x128, .f32⟩
  | 89 => ⟨S8x4x8192x128, .f32⟩
  | 90 => ⟨S8x4x8192x128, .f32⟩
  | 91 => ⟨S8x4x8192x128, .f32⟩
  | 92 => ⟨S8x4x8192x256, .f32⟩
  | 93 => ⟨S_, .f32⟩
  | 94 => ⟨S8x4x8192x256, .f32⟩
  | 95 => ⟨S8x4x8192x256, .f32⟩
  | 96 => ⟨S4, .f32⟩
  | 97 => ⟨S_, .f32⟩
  | 98 => ⟨S4, .f32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S256, .f32⟩
  | 108 => ⟨S1x256, .f32⟩
  | 109 => ⟨S_, .f32⟩
  | 110 => ⟨S1x256, .f32⟩
  | 111 => ⟨S1x256, .f32⟩
  | 112 => ⟨S4x1, .f32⟩
  | 113 => ⟨S4x256, .f32⟩
  | 114 => ⟨S4x256, .f32⟩
  | 115 => ⟨S4x256, .f32⟩
  | 116 => ⟨S4x256, .f32⟩
  | 117 => ⟨S8x4x32x256x256, .f32⟩
  | 118 => ⟨S1x4x1x256x1, .f32⟩
  | 119 => ⟨S8x4x32x256x256, .f32⟩
  | 120 => ⟨S8x4x32x256x256, .f32⟩
  | 121 => ⟨S8x4x8192x256, .f32⟩
  | 122 => ⟨S8x8192x4x256, .f32⟩
  | 123 => ⟨S65536x1024, .f32⟩
  | 124 => ⟨S65536x1024, .bf16⟩
  | 125 => ⟨S8x8192x4x256, .f32⟩
  | 126 => ⟨S65536x1024, .f32⟩
  | 127 => ⟨S65536x1024, .bf16⟩
  | _ => ⟨S8x8192x1024, .f32⟩

abbrev hbmTy0_1 (i : Nat) : BufTy := match i % 128 with
  | 0 => ⟨S8x8192x4x256, .f32⟩
  | 1 => ⟨S65536x1024, .f32⟩
  | 2 => ⟨S1024x65536, .f32⟩
  | 3 => ⟨S1024x65536, .bf16⟩
  | 4 => ⟨S65536x2048, .f32⟩
  | 5 => ⟨S65536x2048, .bf16⟩
  | 6 => ⟨S65536x2048, .f32⟩
  | 7 => ⟨S65536x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_6 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_7 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩
abbrev main_cst_9 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_10 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩

abbrev nD : Nat := 1
abbrev τ : Topo := Topo.v7x

variable {F : FTy → Type} [FloatOps F]
-- ==== Kernel5.lean ====
abbrev S8x8192x1024 : Shape := ⟨3, ![8, 8192, 1024]⟩
abbrev S1024 : Shape := ⟨1, ![1024]⟩
abbrev S1024x2048 : Shape := ⟨2, ![1024, 2048]⟩
abbrev S1024x1024 : Shape := ⟨2, ![1024, 1024]⟩
abbrev S65536x1024 : Shape := ⟨2, ![65536, 1024]⟩
abbrev S1x1024 : Shape := ⟨2, ![1, 1024]⟩
abbrev S8x16x8192x64 : Shape := ⟨4, ![8, 16, 8192, 64]⟩
abbrev S8x16x64x8192 : Shape := ⟨4, ![8, 16, 64, 8192]⟩
abbrev S512x1024 : Shape := ⟨2, ![512, 1024]⟩
abbrev S1x16x512x64 : Shape := ⟨4, ![1, 16, 512, 64]⟩
abbrev S1x16x64x512 : Shape := ⟨4, ![1, 16, 64, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x64 : Shape := ⟨2, ![512, 64]⟩
abbrev S1x1x512x64 : Shape := ⟨4, ![1, 1, 512, 64]⟩
abbrev S64x512 : Shape := ⟨2, ![64, 512]⟩
abbrev S1x1x64x512 : Shape := ⟨4, ![1, 1, 64, 512]⟩

abbrev nBuf : Space → Nat
  | .hbm => 13
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S65536x1024, .f32⟩
  | .hbm, ⟨6, _⟩ => ⟨S1x1024, .f32⟩
  | .hbm, ⟨7, _⟩ => ⟨S1x1024, .f32⟩
  | .hbm, ⟨8, _⟩ => ⟨S1024x2048, .bf16⟩
  | .hbm, ⟨9, _⟩ => ⟨S1024x1024, .bf16⟩
  | .hbm, ⟨10, _⟩ => ⟨S8x16x8192x64, .bf16⟩
  | .hbm, ⟨11, _⟩ => ⟨S8x16x8192x64, .bf16⟩
  | .hbm, ⟨12, _⟩ => ⟨S8x16x64x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x16x64x512, .bf16⟩
  | .local _ .vmem, ⟨11, _⟩ => ⟨S1x16x64x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8x8192x1024 : Shape := ⟨3, ![8, 8192, 1024]⟩
abbrev S1024 : Shape := ⟨1, ![1024]⟩
abbrev S1024x2048 : Shape := ⟨2, ![1024, 2048]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2048 : Shape := ⟨3, ![8, 8192, 2048]⟩
abbrev S8x8192x16x64 : Shape := ⟨4, ![8, 8192, 16, 64]⟩
abbrev S8x16x8192x64 : Shape := ⟨4, ![8, 16, 8192, 64]⟩
abbrev S8x16x64x8192 : Shape := ⟨4, ![8, 16, 64, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2048, .f32⟩
  | .hbm, ⟨22, _⟩ => ⟨S8x8192x1024, .f32⟩
  | .hbm, ⟨23, _⟩ => ⟨S8x8192x1024, .f32⟩
  | .hbm, ⟨24, _⟩ => ⟨S8x8192x16x64, .f32⟩
  | .hbm, ⟨25, _⟩ => ⟨S8x16x8192x64, .f32⟩
  | .hbm, ⟨26, _⟩ => ⟨S8x8192x16x64, .f32⟩
  | .hbm, ⟨27, _⟩ => ⟨S8x16x8192x64, .f32⟩
  | .hbm, ⟨28, _⟩ => ⟨S8x8192x1024, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S8x8192x1, .f32⟩
  | .hbm, ⟨39, _⟩ => ⟨S8x8192x1024, .f32⟩
  | .hbm, ⟨40, _⟩ => ⟨S8x8192x1024, .f32⟩
  | .hbm, ⟨41, _⟩ => ⟨S1x1x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x16x64, .f32⟩
  | .hbm, ⟨46, _⟩ => ⟨S8x16x8192x64, .f32⟩
  | .hbm, ⟨47, _⟩ => ⟨S_, .f32⟩
  | .hbm, ⟨48, _⟩ => ⟨S8x16x8192x64, .f32⟩
  | .hbm, ⟨49, _⟩ => ⟨S8x16x8192x64, .f32⟩
  | .hbm, ⟨50, _⟩ => ⟨S8x16x8192x64, .bf16⟩
  | .hbm, ⟨51, _⟩ => ⟨S8x16x8192x64, .bf16⟩
  | .hbm, ⟨52, _⟩ => ⟨S8x16x64x8192, .f32⟩
  | .hbm, ⟨53, _⟩ => ⟨S8x16x64x8192, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.RetMath.lean ====
/- The mathematics of the retention, over the reals: the closed form of its output and of its state, and that working in
   chunks of any length gives both. -/
module

public import Idealize.ShloMosaic.Lib.Pipeline.ValueKit
public import Idealize.ShloMosaic.Lib.IdealHost

@[expose] public section

noncomputable section

namespace Cert.Retention

open scoped BigOperators
open Idealize.ShloMosaic

/-- A finite sum of reals is the same sum taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The decay over a distance of `x` positions, `L` being the logarithm of the decay over one. -/
def decay (L x : ℝ) : ℝ := Real.exp (x * L)

/-- Decays over two distances multiply to the decay over their sum. -/
theorem decay_mul (L x y : ℝ) : decay L x * decay L y = decay L (x + y) := by
  unfold decay; rw [← Real.exp_add, add_mul]

/-- The state before position `N`: every earlier position's key-value product, decayed by its distance to the last of them. -/
def stateAt {D E : ℕ} (L : ℝ) (k : ℕ → Fin D → ℝ) (v : ℕ → Fin E → ℝ) (N : ℕ) (d : Fin D) (e : Fin E) : ℝ :=
  ∑ s ∈ Finset.range N, decay L ((N : ℝ) - 1 - s) * k s d * v s e

/-- The output at position `t`: every position up to it, its value weighted by the decayed product of query and key. -/
def outAt {D E : ℕ} (L : ℝ) (q k : ℕ → Fin D → ℝ) (v : ℕ → Fin E → ℝ) (t : ℕ) (e : Fin E) : ℝ :=
  ∑ s ∈ Finset.range (t + 1), decay L ((t : ℝ) - s) * (∑ d, q t d * k s d) * v s e

variable {D E : ℕ} (L : ℝ) (q k : ℕ → Fin D → ℝ) (v : ℕ → Fin E → ℝ)

/-- Before the first position the state is zero. -/
theorem stateAt_zero (d : Fin D) (e : Fin E) : stateAt L k v 0 d e = 0 := by simp [stateAt]

/-- The state after a chunk of `C` positions. -/
theorem stateAt_add (N C : ℕ) (d : Fin D) (e : Fin E) :
    stateAt L k v N d e * decay L C + ∑ j : Fin C, k (N + j) d * decay L ((C : ℝ) - 1 - j) * v (N + j) e
      = stateAt L k v (N + C) d e := by
  unfold stateAt
  rw [Finset.sum_range_add, Finset.sum_mul]
  refine congrArg₂ (· + ·) (Finset.sum_congr rfl fun s _ => ?_) ?_
  · rw [show ((N + C : ℕ) : ℝ) - 1 - s = ((N : ℝ) - 1 - s) + C by push_cast; ring, ← decay_mul]
    ring
  · rw [← Fin.sum_univ_eq_sum_range (fun j => decay L (((N + C : ℕ) : ℝ) - 1 - ((N + j : ℕ) : ℝ)) * k (N + j) d * v (N + j) e) C]
    refine Finset.sum_congr rfl fun j _ => ?_
    rw [show (((N + C : ℕ) : ℝ) - 1 - ((N + (j : ℕ) : ℕ) : ℝ)) = (C : ℝ) - 1 - j by push_cast; ring]
    ring

/-- The output of position `i` of a chunk of `C` positions that begins at `N`: what the chunk itself contributes, and what
    the state before the chunk does. -/
theorem outAt_chunk (N C : ℕ) (i : Fin C) (e : Fin E) :
    (∑ j : Fin C, (∑ d, q (N + i) d * k (N + j) d) * (if (j : ℕ) ≤ i then decay L ((i : ℝ) - j) else 0) * v (N + j) e)
      + (∑ d, q (N + i) d * stateAt L k v N d e) * decay L ((i : ℝ) + 1) = outAt L q k v (N + i) e := by
  unfold outAt stateAt
  rw [show N + (i : ℕ) + 1 = N + ((i : ℕ) + 1) from by ring, Finset.sum_range_add, add_comm]
  refine congrArg₂ (· + ·) ?_ ?_
  · simp only [Finset.mul_sum, Finset.sum_mul]
    rw [Finset.sum_comm]
    refine Finset.sum_congr rfl fun s _ => Finset.sum_congr rfl fun d _ => ?_
    rw [show ((N + (i : ℕ) : ℕ) : ℝ) - s = ((N : ℝ) - 1 - s) + (((i : ℕ) : ℝ) + 1) by push_cast; ring,
      ← decay_mul L ((N : ℝ) - 1 - s) (((i : ℕ) : ℝ) + 1)]
    ring
  · rw [Fin.sum_univ_eq_sum_range (fun j => (∑ d, q (N + i) d * k (N + j) d) * (if j ≤ (i : ℕ) then decay L (((i : ℕ) : ℝ) - (j : ℝ)) else 0) * v (N + j) e) C]
    have hsub : Finset.range ((i : ℕ) + 1) ⊆ Finset.range C := Finset.range_subset_range.2 i.isLt
    rw [← Finset.sum_subset hsub fun j _ hj => by
      have : ¬ j ≤ (i : ℕ) := by simpa [Nat.lt_succ_iff] using hj
      rw [if_neg this]; ring]
    refine Finset.sum_congr rfl fun j hj => ?_
    have : j ≤ (i : ℕ) := by simpa [Nat.lt_succ_iff] using hj
    rw [if_pos this, show ((N + (i : ℕ) : ℕ) : ℝ) - ((N + j : ℕ) : ℝ) = ((i : ℕ) : ℝ) - j by push_cast; ring]
    ring

/-- The state's step over the extended reals, its operands being reals. -/
theorem state_step (N C : ℕ) (d : Fin D) (e : Fin E) (S c : EReal) (A B : Fin C → EReal)
    (hS : S = (stateAt L k v N d e : ℝ)) (hc : c = (decay L C : ℝ))
    (hA : ∀ j, A j = (k (N + j) d * decay L ((C : ℝ) - 1 - j) : ℝ)) (hB : ∀ j, B j = (v (N + j) e : ℝ)) :
    S * c + ∑ j, A j * B j = (stateAt L k v (N + C) d e : ℝ) := by
  rw [← stateAt_add, hS, hc, EReal.coe_add, coe_sum, EReal.coe_mul]
  refine congrArg₂ (· + ·) rfl (Finset.sum_congr rfl fun j _ => ?_)
  rw [hA, hB, ← EReal.coe_mul]

/-- A chunk's output over the extended reals, its operands being reals. -/
theorem out_step (N C : ℕ) (i : Fin C) (e : Fin E) (Q S : Fin D → EReal) (K : Fin C → Fin D → EReal) (M B : Fin C → EReal)
    (c : EReal) (hQ : ∀ d, Q d = (q (N + i) d : ℝ)) (hK : ∀ j d, K j d = (k (N + j) d : ℝ))
    (hM : ∀ j, M j = ((if (j : ℕ) ≤ i then decay L ((i : ℝ) - j) else 0 : ℝ) : EReal)) (hB : ∀ j, B j = (v (N + j) e : ℝ))
    (hS : ∀ d, S d = (stateAt L k v N d e : ℝ)) (hc : c = (decay L ((i : ℝ) + 1) : ℝ)) :
    (∑ j, (∑ d, Q d * K j d) * M j * B j) + (∑ d, Q d * S d) * c = (outAt L q k v (N + i) e : ℝ) := by
  rw [← outAt_chunk, hc, EReal.coe_add, coe_sum, EReal.coe_mul, coe_sum]
  refine congrArg₂ (· + ·) (Finset.sum_congr rfl fun j _ => ?_)
    (congrArg₂ (· * ·) (Finset.sum_congr rfl fun d _ => ?_) rfl)
  · rw [EReal.coe_mul, EReal.coe_mul, coe_sum, hM, hB]
    refine congrArg₂ (· * ·) (congrArg₂ (· * ·) (Finset.sum_congr rfl fun d _ => ?_) rfl) rfl
    rw [hQ, hK, EReal.coe_mul]
  · rw [hQ, hS, EReal.coe_mul]

/-! ## The decays, as the two programs compute them -/

/-- The logarithm of head `h`'s decay over one position, as both programs compute it. -/
def logDecay (h : ℕ) : EReal :=
  Ideal.log (1 - Ideal.pow (Ideal.ofBits .f32 0x40000000#32) (Ideal.ofBits .f32 0xC0A00000#32 - ((h : ℝ) : EReal)))

/-- The patterns of the literals, as reals. -/
theorem bits_two : Ideal.ofBits .f32 0x40000000#32 = ((2 : ℝ) : EReal) := by
  simp [Ideal.ofBits, Ideal.ieee, -EReal.coe_mul]; norm_num
theorem bits_neg_five : Ideal.ofBits .f32 0xC0A00000#32 = ((-5 : ℝ) : EReal) := by
  simp [Ideal.ofBits, Ideal.ieee, -EReal.coe_mul, -EReal.coe_neg]; norm_num
theorem bits_127 : Ideal.ofBits .f32 0x42FE0000#32 = ((127 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_255 : Ideal.ofBits .f32 0x437F0000#32 = ((255 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num

/-- That logarithm as a real. -/
def lg (h : ℕ) : ℝ := Real.log (1 - Real.rpow 2 (-5 - h))

/-- The decay of every head is a number between zero and one, so its logarithm is a real. -/
theorem logDecay_eq (h : ℕ) : logDecay h = (lg h : EReal) := by
  unfold logDecay lg
  rw [bits_two, bits_neg_five, ← EReal.coe_sub, Ideal.pow_coe_coe, ← EReal.coe_one, ← EReal.coe_sub, Ideal.log_coe, if_neg]
  have h1 : Real.rpow 2 (-5 - (h : ℝ)) < 1 := Real.rpow_lt_one_of_one_lt_of_neg (by norm_num) (by
    have : (0 : ℝ) ≤ h := Nat.cast_nonneg h
    linarith)
  linarith

/-- The exponential both programs take is the decay. -/
theorem exp_logDecay (x : ℝ) (h : ℕ) : Ideal.exp ((x : EReal) * logDecay h) = (decay (lg h) x : ℝ) := by
  rw [logDecay_eq, ← EReal.coe_mul, Ideal.exp_coe, decay]

/-- A small index read as a 32-bit word and made a float is itself. -/
theorem toInt_ofNat (n : ℕ) (hn : n < 65536) : (BitVec.ofNat 32 n).toInt = (n : ℤ) := by
  rw [BitVec.toInt_eq_toNat_cond, BitVec.toNat_ofNat, Nat.mod_eq_of_lt (by omega), if_pos (by omega)]

theorem sitofp_ofNat (n : ℕ) (hn : n < 65536) : FloatOps.sitofp (F := Ideal) .f32 (BitVec.ofNat 32 n) = ((n : ℝ) : EReal) := by
  show (((BitVec.ofNat 32 n).toInt : ℝ) : EReal) = _
  rw [toInt_ofNat n hn]; norm_cast

/-- What the host writes for a decay over `x` positions is that decay. -/
theorem host_decay (x : EReal) (y : ℝ) (h : ℕ) (hh : h < 65536) (hx : x = (y : EReal)) :
    Ideal.exp (x * Ideal.log (1 - Ideal.pow (Ideal.ofBits .f32 0x40000000#32)
      (Ideal.ofBits .f32 0xC0A00000#32 - FloatOps.sitofp (F := Ideal) .f32 (BitVec.ofNat 32 h)))) = (decay (lg h) y : ℝ) := by
  rw [sitofp_ofNat h hh, hx]
  exact exp_logDecay y h

/-- An entry of a matrix of numbers as a real. -/
def rd {R C : ℕ} (X : (⟨2, ![R, C]⟩ : Shape).Idx → EReal) (r c : ℕ) : ℝ :=
  if h : r < R ∧ c < C then (X (ix2 ⟨r, h.1⟩ ⟨c, h.2⟩)).toReal else 0

/-- Where the matrix holds numbers, its entry is that real. -/
theorem rd_coe {R C : ℕ} (X : (⟨2, ![R, C]⟩ : Shape).Idx → EReal) (hX : ∀ i, X i ≠ ⊤ ∧ X i ≠ ⊥) (r : Fin R) (c : Fin C) :
    X (ix2 r c) = ((rd X r c : ℝ) : EReal) := by
  unfold rd
  rw [dif_pos ⟨r.isLt, c.isLt⟩, EReal.coe_toReal (hX _).1 (hX _).2]

/-- The positions of batch `b`, head `h` of a matrix whose rows are batches by positions and columns heads by features. -/
def seqOf {R C : ℕ} (D : ℕ) (X : (⟨2, ![R, C]⟩ : Shape).Idx → EReal) (b h : ℕ) : ℕ → Fin D → ℝ :=
  fun t d => rd X (b * 8192 + t) (h * D + d)

end Cert.Retention

end
-- ==== Proof.KerHost.lean ====
/- The arrays the host lays out before the kernel's region, read at an index: the decays and the decayed keys. -/
module

public import proofs.«01_k».proof.Proof.Gen.KernelIdeal.Value
public import proofs.«01_k».proof.Proof.RetMath
public import Idealize.ShloMosaic.Lib.Pipeline.ValueKit
public import Idealize.ShloMosaic.Lib.StableHlo.ReadAt
public import Idealize.ShloMosaic.Lib.StableHlo.RunLoop

@[expose] public section

set_option maxRecDepth 16384

noncomputable section

open Idealize.ShloMosaic Idealize.ShloMosaic.TcCoe Idealize.SL.Sem

namespace Cert.KernelIdeal.Ret

open Cert.KernelIdeal Cert.KernelIdeal.Gen Cert.Retention

variable (m : (ℓ : Loc nD τ sig) → Buf (Elt Ideal) ℓ)

/-- The query decay of head `h` at position `i` of a chunk. -/
theorem qdec_at (c : Dev nD) (h : Fin 4) (i : Fin 256) :
    (show FVec Ideal S4x256x1 .f32 from V m c main_v90) (ix3 h i 0) = ((decay (lg h) ((i : ℝ) + 1) : ℝ) : EReal) := by
  unfold V
  show StableHlo.after [hostOps0, hostOps0_1, hostOps0_2, hostOps0_3, hostOps0_4].flatten (fun b => m (c, b)) _ _ = _
  rw [← StableHlo.afterL_eq_after_flatten]
  simp only [StableHlo.afterL_cons, StableHlo.afterL_nil]
  after_reads_at
  refine host_decay _ _ _ (by omega) ?_
  rw [sitofp_ofNat _ (by omega), EReal.coe_add, EReal.coe_one]

/-- The chunk's decay of head `h`. -/
theorem cdec_at (c : Dev nD) (h : Fin 4) :
    (show FVec Ideal S4x1x1 .f32 from V m c main_v103) (ix3 h 0 0) = ((decay (lg h) 256 : ℝ) : EReal) := by
  unfold V
  show StableHlo.after [hostOps0, hostOps0_1, hostOps0_2, hostOps0_3, hostOps0_4].flatten (fun b => m (c, b)) _ _ = _
  rw [← StableHlo.afterL_eq_after_flatten]
  simp only [StableHlo.afterL_cons, StableHlo.afterL_nil]
  after_reads_at
  exact host_decay _ _ _ (by omega) bits_256

/-- The decays within a chunk. -/
theorem dmat_at (c : Dev nD) (h : Fin 4) (i j : Fin 256) :
    (show FVec Ideal S4x256x256 .f32 from V m c main_v81) (ix3 h i j)
      = ((if (j : ℕ) ≤ i then decay (lg h) ((i : ℝ) - j) else 0 : ℝ) : EReal) := by
  unfold V
  show StableHlo.after [hostOps0, hostOps0_1, hostOps0_2, hostOps0_3, hostOps0_4].flatten (fun b => m (c, b)) _ _ = _
  rw [← StableHlo.afterL_eq_after_flatten]
  simp only [StableHlo.afterL_cons, StableHlo.afterL_nil]
  after_reads_at
  rw [sitofp_ofNat _ (by omega : (i : ℕ) < 65536), sitofp_ofNat _ (by omega : (j : ℕ) < 65536), ← EReal.coe_sub]
  by_cases hij : (j : ℕ) ≤ i
  · have h0 : (0 : EReal) ≤ (((i : ℕ) : ℝ) - ((j : ℕ) : ℝ) : ℝ) := EReal.coe_nonneg.2 (sub_nonneg.2 (Nat.cast_le.2 hij))
    rw [if_pos h0, if_pos hij]
    exact host_decay _ _ _ (by omega) rfl
  · have h0 : ¬ (0 : EReal) ≤ (((i : ℕ) : ℝ) - ((j : ℕ) : ℝ) : ℝ) := fun h =>
      hij (Nat.cast_le.1 (sub_nonneg.1 (EReal.coe_nonneg.1 h)))
    rw [if_neg h0, if_neg hij]
    exact Ideal.ofBits_zero_f32

/-- The decayed keys, transposed. -/
theorem kdt_at (c : Dev nD) (d : Fin 1024) (t : Fin 65536) :
    (show FVec Ideal S1024x65536 .bf16 from V m c main_v57) (ix2 d t)
      = (show EReal from (show FVec Ideal S65536x1024 .bf16 from m ((c : Thread nD τ).loc main_arg1)) (ix2 t d))
        * ((decay (lg ((d : ℕ) / 256)) (255 - ((t : ℕ) % 256 : ℕ)) : ℝ) : EReal) := by
  unfold V
  show StableHlo.after [hostOps0, hostOps0_1, hostOps0_2, hostOps0_3, hostOps0_4].flatten (fun b => m (c, b)) _ _ = _
  rw [← StableHlo.afterL_eq_after_flatten]
  simp only [StableHlo.afterL_cons, StableHlo.afterL_nil]
  after_reads_at
  refine Ideal.mul_congr ?_ (host_decay _ _ _ (by omega) ?_)
  · exact congrArg _ (congrArg (fun t' => ix2 t' d) (Fin.ext (by show (t : ℕ) / 256 * 256 + (t : ℕ) % 256 = t; omega)))
  · rw [sitofp_ofNat _ (by omega), bits_255, ← EReal.coe_sub]

end Cert.KernelIdeal.Ret

end
-- ==== Proof.KerPoint.lean ====
/- The kernel's body at one grid point: the state after each of its eight chunks, and the chunks' outputs. -/
module

public import proofs.«01_k».proof.Proof.KerHost

@[expose] public section

set_option maxRecDepth 16384

noncomputable section

open Idealize.ShloMosaic Idealize.ShloMosaic.TcCoe Idealize.SL.Sem

namespace Cert.KernelIdeal.Ret

open Cert.KernelIdeal Cert.KernelIdeal.Gen Cert.Retention

variable (L : ℝ) (q k : ℕ → Fin 256 → ℝ) (v : ℕ → Fin 512 → ℝ)

/-- The rows of a chunk that starts at position `N`. -/
def IsRow {D : ℕ} (f : ℕ → Fin D → ℝ) (N : ℕ) (A : (⟨2, ![256, D]⟩ : Shape).Idx → EReal) : Prop :=
  ∀ (j : Fin 256) (d : Fin D), A (ix2 j d) = ((f (N + j) d : ℝ) : EReal)

/-- The transposed keys of a chunk, each decayed to the chunk's end. -/
def IsKd (N : ℕ) (A : (⟨2, ![256, 256]⟩ : Shape).Idx → EReal) : Prop :=
  ∀ d j : Fin 256, A (ix2 d j) = ((k (N + j) d * decay L (((256 : ℕ) : ℝ) - 1 - j) : ℝ) : EReal)

/-- A chunk's key-value products, summed. -/
def IsUpd (N : ℕ) (U : (⟨2, ![256, 512]⟩ : Shape).Idx → EReal) : Prop :=
  ∃ A B, IsKd L k N A ∧ IsRow v N B ∧ ∀ (d : Fin 256) (e : Fin 512), U (ix2 d e) = ∑ j : Fin 256, A (ix2 d j) * B (ix2 j e)

/-- The state before position `N`. -/
def IsSt (N : ℕ) (S : (⟨2, ![256, 512]⟩ : Shape).Idx → EReal) : Prop :=
  ∀ (d : Fin 256) (e : Fin 512), S (ix2 d e) = ((stateAt L k v N d e : ℝ) : EReal)

/-- What the blocks of a grid point hold, its rows starting at position `N`. -/
structure Ops (N : ℕ) (x0 : FVec Ideal S2048x256 .bf16) (x1 : FVec Ideal S2048x256 .bf16) (x2 : FVec Ideal S256x2048 .bf16)
    (x3 : FVec Ideal S2048x512 .bf16) (x4 : FVec Ideal S1x256x256 .f32) (x5 : FVec Ideal S1x256x1 .f32)
    (x6 : FVec Ideal S1x1x1 .f32) : Prop where
  hq : ∀ (r : Fin 2048) (d : Fin 256), x0 (ix2 r d) = ((q (N + r) d : ℝ) : EReal)
  hk : ∀ (r : Fin 2048) (d : Fin 256), x1 (ix2 r d) = ((k (N + r) d : ℝ) : EReal)
  hkd : ∀ (d : Fin 256) (r : Fin 2048), x2 (ix2 d r) = ((k (N + r) d * decay L (255 - ((r : ℕ) % 256 : ℕ)) : ℝ) : EReal)
  hv : ∀ (r : Fin 2048) (e : Fin 512), x3 (ix2 r e) = ((v (N + r) e : ℝ) : EReal)
  hm : ∀ i j : Fin 256, x4 (ix3 0 i j) = ((if (j : ℕ) ≤ i then decay L ((i : ℝ) - j) else 0 : ℝ) : EReal)
  hqd : ∀ i : Fin 256, x5 (ix3 0 i 0) = ((decay L ((i : ℝ) + 1) : ℝ) : EReal)
  hc : x6 (ix3 0 0 0) = ((decay L (256 : ℕ) : ℝ) : EReal)

variable {L q k v} {N : ℕ} {x0 : FVec Ideal S2048x256 .bf16} {x1 : FVec Ideal S2048x256 .bf16} {x2 : FVec Ideal S256x2048 .bf16}
    {x3 : FVec Ideal S2048x512 .bf16} {x4 : FVec Ideal S1x256x256 .f32} {x5 : FVec Ideal S1x256x1 .f32} {x6 : FVec Ideal S1x1x1 .f32}

/-- The queries of the chunk at offset `o` of the block. -/
theorem Ops.rowQ (O : Ops L q k v N x0 x1 x2 x3 x4 x5 x6) (o : ℕ) (h : ∀ a, (![o, 0] : Fin 2 → ℕ) a + S256x256.size a ≤ S2048x256.size a) :
    IsRow q (N + o) (View.ld (Val := Elt Ideal) (e' := .bf16) x0 (Rect.unit ![o, 0] ![256, 256] h)) := fun j d => by
  have h0 : o + 256 ≤ 2048 := h 0
  refine (congrArg x0 (show _ = ix2 ⟨o + j, by omega⟩ d by idx_ext)).trans ((O.hq _ _).trans ?_)
  rw [Nat.add_assoc]

/-- The keys of the chunk at offset `o`. -/
theorem Ops.rowK (O : Ops L q k v N x0 x1 x2 x3 x4 x5 x6) (o : ℕ) (h : ∀ a, (![o, 0] : Fin 2 → ℕ) a + S256x256.size a ≤ S2048x256.size a) :
    IsRow k (N + o) (View.ld (Val := Elt Ideal) (e' := .bf16) x1 (Rect.unit ![o, 0] ![256, 256] h)) := fun j d => by
  have h0 : o + 256 ≤ 2048 := h 0
  refine (congrArg x1 (show _ = ix2 ⟨o + j, by omega⟩ d by idx_ext)).trans ((O.hk _ _).trans ?_)
  rw [Nat.add_assoc]

/-- The values of the chunk at offset `o`. -/
theorem Ops.rowV (O : Ops L q k v N x0 x1 x2 x3 x4 x5 x6) (o : ℕ) (h : ∀ a, (![o, 0] : Fin 2 → ℕ) a + S256x512.size a ≤ S2048x512.size a) :
    IsRow v (N + o) (View.ld (Val := Elt Ideal) (e' := .bf16) x3 (Rect.unit ![o, 0] ![256, 512] h)) := fun j d => by
  have h0 : o + 256 ≤ 2048 := h 0
  refine (congrArg x3 (show _ = ix2 ⟨o + j, by omega⟩ d by idx_ext)).trans ((O.hv _ _).trans ?_)
  rw [Nat.add_assoc]

/-- The decayed keys of the chunk at offset `o`. -/
theorem Ops.colK (O : Ops L q k v N x0 x1 x2 x3 x4 x5 x6) (o : ℕ) (ho : o % 256 = 0)
    (h : ∀ a, (![0, o] : Fin 2 → ℕ) a + S256x256.size a ≤ S256x2048.size a) :
    IsKd L k (N + o) (View.ld (Val := Elt Ideal) (e' := .bf16) x2 (Rect.unit ![0, o] ![256, 256] h)) := fun d j => by
  have h0 : o + 256 ≤ 2048 := h 1
  refine (congrArg x2 (show _ = ix2 d ⟨o + j, by omega⟩ by idx_ext)).trans ((O.hkd _ _).trans ?_)
  show (((k (N + (o + j)) d * decay L (255 - ((o + (j : ℕ)) % 256 : ℕ)) : ℝ)) : EReal) = _
  rw [Nat.add_assoc, show (o + (j : ℕ)) % 256 = j by omega]
  norm_num

/-- A chunk's products as the matrix unit takes them. -/
theorem upd6 {A : FVec Ideal S256x256 .bf16} {B : FVec Ideal S256x512 .bf16} (hA : IsKd L k N A) (hB : IsRow v N B) :
    IsUpd L k v N (k0_pay6 (F := Ideal) A B) := ⟨A, B, hA, hB, fun d e => by unfold k0_pay6; pointwise⟩
/-- The same of the next chunk. -/
theorem upd7 {A : FVec Ideal S256x256 .bf16} {B : FVec Ideal S256x512 .bf16} (hA : IsKd L k N A) (hB : IsRow v N B) :
    IsUpd L k v N (k0_pay7 (F := Ideal) A B) := upd6 hA hB
/-- The same of the next chunk. -/
theorem upd8 {A : FVec Ideal S256x256 .bf16} {B : FVec Ideal S256x512 .bf16} (hA : IsKd L k N A) (hB : IsRow v N B) :
    IsUpd L k v N (k0_pay8 (F := Ideal) A B) := upd6 hA hB
/-- The same of the next chunk. -/
theorem upd9 {A : FVec Ideal S256x256 .bf16} {B : FVec Ideal S256x512 .bf16} (hA : IsKd L k N A) (hB : IsRow v N B) :
    IsUpd L k v N (k0_pay9 (F := Ideal) A B) := upd6 hA hB
/-- The same of the next chunk. -/
theorem upd10 {A : FVec Ideal S256x256 .bf16} {B : FVec Ideal S256x512 .bf16} (hA : IsKd L k N A) (hB : IsRow v N B) :
    IsUpd L k v N (k0_pay10 (F := Ideal) A B) := upd6 hA hB

/-- One chunk more in the state. -/
theorem IsSt.next {S U T : FVec Ideal S256x512 .f32} (o : ℕ) (hS : IsSt L k v (N + o) S) (hU : IsUpd L k v (N + o) U)
    (hc : x6 (ix3 0 0 0) = ((decay L (256 : ℕ) : ℝ) : EReal))
    (hT : ∀ (d : Fin 256) (e : Fin 512), T (ix2 d e) = (show EReal from S (ix2 d e)) * x6 (ix3 0 0 0) + U (ix2 d e)) :
    IsSt L k v (N + (o + 256)) T := fun d e => by
  obtain ⟨A, B, hA, hB, hU⟩ := hU
  rw [hT, hU, ← Nat.add_assoc]
  exact state_step L k v (N + o) 256 d e _ _ (fun j => A (ix2 d j)) (fun j => B (ix2 j e)) (hS d e) hc (fun j => hA d j) fun j => hB j e

variable {S U1 U2 U3 U4 U5 : FVec Ideal S256x512 .f32} {A5 A6 A7 : FVec Ideal S256x256 .bf16} {B5 B6 B7 : FVec Ideal S256x512 .bf16}

/-- The state after the first chunk. -/
theorem st11 (O : Ops L q k v N x0 x1 x2 x3 x4 x5 x6) (o : ℕ) (hS : IsSt L k v (N + o) S) (hU : IsUpd L k v (N + o) U1) :
    IsSt L k v (N + (o + 256)) (k0_pay11 (F := Ideal) (k0_pay5 x6) U1 S) :=
  hS.next o hU O.hc fun d e => by unfold k0_pay11 k0_pay5; pointwise
/-- The state after the second chunk. -/
theorem st12 (O : Ops L q k v N x0 x1 x2 x3 x4 x5 x6) (o : ℕ) (hS : IsSt L k v (N + o) (k0_pay11 (F := Ideal) (k0_pay5 x6) U1 S))
    (hU : IsUpd L k v (N + o) U2) : IsSt L k v (N + (o + 256)) (k0_pay12 (F := Ideal) (k0_pay5 x6) U1 U2 S) :=
  hS.next o hU O.hc fun d e => by unfold k0_pay12 k0_pay5; pointwise
/-- The state after the third chunk. -/
theorem st13 (O : Ops L q k v N x0 x1 x2 x3 x4 x5 x6) (o : ℕ) (hS : IsSt L k v (N + o) (k0_pay12 (F := Ideal) (k0_pay5 x6) U1 U2 S))
    (hU : IsUpd L k v (N + o) U3) : IsSt L k v (N + (o + 256)) (k0_pay13 (F := Ideal) (k0_pay5 x6) U1 U2 U3 S) :=
  hS.next o hU O.hc fun d e => by unfold k0_pay13 k0_pay5; pointwise
/-- The state after the fourth chunk. -/
theorem st14 (O : Ops L q k v N x0 x1 x2 x3 x4 x5 x6) (o : ℕ)
    (hS : IsSt L k v (N + o) (k0_pay13 (F := Ideal) (k0_pay5 x6) U1 U2 U3 S)) (hU : IsUpd L k v (N + o) U4) :
    IsSt L k v (N + (o + 256)) (k0_pay14 (F := Ideal) (k0_pay5 x6) U1 U2 U3 U4 S) :=
  hS.next o hU O.hc fun d e => by unfold k0_pay14 k0_pay5; pointwise
/-- The state after the fifth chunk. -/
theorem st15 (O : Ops L q k v N x0 x1 x2 x3 x4 x5 x6) (o : ℕ)
    (hS : IsSt L k v (N + o) (k0_pay14 (F := Ideal) (k0_pay5 x6) U1 U2 U3 U4 S)) (hA : IsKd L k (N + o) A5) (hB : IsRow v (N + o) B5) :
    IsSt L k v (N + (o + 256)) (k0_pay15 (F := Ideal) (k0_pay5 x6) U1 U2 U3 U4 A5 B5 S) :=
  hS.next o (upd6 hA hB) O.hc fun d e => by unfold k0_pay15 k0_pay5 k0_pay6; pointwise
/-- The state after the sixth chunk. -/
theorem st16 (O : Ops L q k v N x0 x1 x2 x3 x4 x5 x6) (o : ℕ)
    (hS : IsSt L k v (N + o) (k0_pay15 (F := Ideal) (k0_pay5 x6) U1 U2 U3 U4 A5 B5 S)) (hA : IsKd L k (N + o) A6)
    (hB : IsRow v (N + o) B6) :
    IsSt L k v (N + (o + 256)) (k0_pay16 (F := Ideal) (k0_pay5 x6) U1 U2 U3 U4 A5 B5 A6 B6 S) :=
  hS.next o (upd6 hA hB) O.hc fun d e => by unfold k0_pay16 k0_pay5 k0_pay6; pointwise
/-- The state after the seventh chunk. -/
theorem st17 (O : Ops L q k v N x0 x1 x2 x3 x4 x5 x6) (o : ℕ)
    (hS : IsSt L k v (N + o) (k0_pay16 (F := Ideal) (k0_pay5 x6) U1 U2 U3 U4 A5 B5 A6 B6 S)) (hA : IsKd L k (N + o) A7)
    (hB : IsRow v (N + o) B7) :
    IsSt L k v (N + (o + 256)) (k0_pay17 (F := Ideal) (k0_pay5 x6) U1 U2 U3 U4 A5 B5 A6 B6 A7 B7 S) :=
  hS.next o (upd6 hA hB) O.hc fun d e => by unfold k0_pay17 k0_pay5 k0_pay6; pointwise
/-- The state the point leaves. -/
theorem st18 (O : Ops L q k v N x0 x1 x2 x3 x4 x5 x6) (o : ℕ) (hS : IsSt L k v (N + o) S) (hU : IsUpd L k v (N + o) U1) :
    IsSt L k v (N + (o + 256)) (k0_pay18 (F := Ideal) (k0_pay5 x6) U1 S) :=
  hS.next o hU O.hc fun d e => by unfold k0_pay18 k0_pay5; pointwise

/-- The zero state a batch's first point starts from. -/
theorem st_zero : IsSt L k v 0 (k0_pay2 (F := Ideal)) := fun d e => by
  rw [stateAt_zero]
  unfold k0_pay2; pointwise; exact EReal.coe_zero.symm

/-- A chunk's output. -/
theorem out1 (O : Ops L q k v N x0 x1 x2 x3 x4 x5 x6) {o : ℕ} {Q K : FVec Ideal S256x256 .bf16} {B : FVec Ideal S256x512 .bf16}
    (hS : IsSt L k v (N + o) S) (hQ : IsRow q (N + o) Q) (hK : IsRow k (N + o) K) (hB : IsRow v (N + o) B) (i : Fin 256) (e : Fin 512) :
    (show FVec Ideal S256x512 .f32 from k0_pay1 (F := Ideal) (k0_pay3 x4) (k0_pay4 x5) S Q B K) (ix2 i e)
      = ((outAt L q k v (N + o + i) e : ℝ) : EReal) := by
  unfold k0_pay1 k0_pay3 k0_pay4
  pointwise
  exact out_step L q k v (N + o) 256 i e (fun d => Q (ix2 i d)) (fun d => S (ix2 d e)) (fun j d => K (ix2 j d)) (fun j => x4 (ix3 0 i j))
    (fun j => B (ix2 j e)) _ (fun d => hQ i d) (fun j d => hK j d) (fun j => O.hm i j) (fun j => hB j e) (fun d => hS d e) (O.hqd i)

/-- A chunk's output, at an entry of the block. -/
theorem out_piece (O : Ops L q k v N x0 x1 x2 x3 x4 x5 x6) {o : ℕ} {Q K : FVec Ideal S256x256 .bf16} {B : FVec Ideal S256x512 .bf16}
    (hS : IsSt L k v (N + o) S) (hQ : IsRow q (N + o) Q) (hK : IsRow k (N + o) K) (hB : IsRow v (N + o) B) (y : S256x512.Idx)
    (Y : S2048x512.Idx) (h0 : (Y 0).val = o + (y 0).val) (h1 : (Y 1).val = (y 1).val) :
    (show FVec Ideal S256x512 .f32 from k0_pay1 (F := Ideal) (k0_pay3 x4) (k0_pay4 x5) S Q B K) y
      = ((outAt L q k v (N + (Y 0).val) (Y 1) : ℝ) : EReal) := by
  refine (congrArg _ (show y = @ix2 256 512 (y 0) (y 1) by idx_ext)).trans ((out1 O hS hQ hK hB (y 0) (y 1)).trans ?_)
  rw [h0, ← Nat.add_assoc]
  exact congrArg (fun e => ((outAt L q k v (N + o + (y 0).val) e : ℝ) : EReal)) (Fin.ext h1.symm)

/-- The state the body leaves at a batch's first point. -/
theorem sout_A (c : Dev nD) (i : grid0.Coords) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S2048x512 .bf16) (harg6 : arg6.IsWhole) (arg7 : Memref sig .tc .vmem S1x256x256 .f32) (harg7 : arg7.IsWhole)
    (arg8 : Memref sig .tc .vmem S1x256x1 .f32) (harg8 : arg8.IsWhole) (arg9 : Memref sig .tc .vmem S1x1x1 .f32) (harg9 : arg9.IsWhole)
    (arg10 : Memref sig .tc .vmem S2048x512 .f32) (harg10 : arg10.IsWhole) (arg11 : Memref sig .tc .vmem S256x512 .f32) (harg11 : arg11.IsWhole)
    (hc0 : cond0_0 i) (O : Ops L q k v 0 x0 x1 x2 x3 x4 x5 x6) :
    IsSt L k v (0 + 2048) (sout0_A_0 (F := Ideal) c i arg3 harg3 arg4 harg4 arg5 harg5 arg6 harg6 arg7 harg7 arg8 harg8 arg9 harg9
        arg10 harg10 arg11 harg11 hc0
        x0 x1 x2 x3 x4 x5 x6 ) := fun d e => by
  have hS : IsSt L k v 0 (k0_pay2 (F := Ideal)) := st_zero
  have s1 := st11 O 0 hS (upd6 (O.colK 0 rfl inb_S256x2048_S256x256_0_0) (O.rowV 0 inb_S2048x512_S256x512_0_0))
  have s2 := st12 O 256 s1 (upd7 (O.colK 256 rfl inb_S256x2048_S256x256_0_256) (O.rowV 256 inb_S2048x512_S256x512_256_0))
  have s3 := st13 O 512 s2 (upd8 (O.colK 512 rfl inb_S256x2048_S256x256_0_512) (O.rowV 512 inb_S2048x512_S256x512_512_0))
  have s4 := st14 O 768 s3 (upd9 (O.colK 768 rfl inb_S256x2048_S256x256_0_768) (O.rowV 768 inb_S2048x512_S256x512_768_0))
  have s5 := st15 O 1024 s4 (O.colK 1024 rfl inb_S256x2048_S256x256_0_1024) (O.rowV 1024 inb_S2048x512_S256x512_1024_0)
  have s6 := st16 O 1280 s5 (O.colK 1280 rfl inb_S256x2048_S256x256_0_1280) (O.rowV 1280 inb_S2048x512_S256x512_1280_0)
  have s7 := st17 O 1536 s6 (O.colK 1536 rfl inb_S256x2048_S256x256_0_1536) (O.rowV 1536 inb_S2048x512_S256x512_1536_0)
  have s8 := st18 O 1792 s7 (upd10 (O.colK 1792 rfl inb_S256x2048_S256x256_0_1792) (O.rowV 1792 inb_S2048x512_S256x512_1792_0))
  frame_out
  exact s8 d e

/-- The output the body writes at a batch's first point. -/
theorem out_A (c : Dev nD) (i : grid0.Coords) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S2048x512 .bf16) (harg6 : arg6.IsWhole) (arg7 : Memref sig .tc .vmem S1x256x256 .f32) (harg7 : arg7.IsWhole)
    (arg8 : Memref sig .tc .vmem S1x256x1 .f32) (harg8 : arg8.IsWhole) (arg9 : Memref sig .tc .vmem S1x1x1 .f32) (harg9 : arg9.IsWhole)
    (arg10 : Memref sig .tc .vmem S2048x512 .f32) (harg10 : arg10.IsWhole) (arg11 : Memref sig .tc .vmem S256x512 .f32) (harg11 : arg11.IsWhole)
    (hc0 : cond0_0 i) (O : Ops L q k v 0 x0 x1 x2 x3 x4 x5 x6) (y : S2048x512.Idx) :
    (show FVec Ideal S2048x512 .f32 from out0_A_7 (F := Ideal) c i arg3 harg3 arg4 harg4 arg5 harg5 arg6 harg6 arg7 harg7 arg8 harg8 arg9 harg9
        arg10 harg10 arg11 harg11
        hc0 x0 x1 x2 x3 x4 x5 x6 ) y = ((outAt L q k v (0 + (y 0).val) (y 1) : ℝ) : EReal) := by
  have hS : IsSt L k v 0 (k0_pay2 (F := Ideal)) := st_zero
  have s1 := st11 O 0 hS (upd6 (O.colK 0 rfl inb_S256x2048_S256x256_0_0) (O.rowV 0 inb_S2048x512_S256x512_0_0))
  have s2 := st12 O 256 s1 (upd7 (O.colK 256 rfl inb_S256x2048_S256x256_0_256) (O.rowV 256 inb_S2048x512_S256x512_256_0))
  have s3 := st13 O 512 s2 (upd8 (O.colK 512 rfl inb_S256x2048_S256x256_0_512) (O.rowV 512 inb_S2048x512_S256x512_512_0))
  have s4 := st14 O 768 s3 (upd9 (O.colK 768 rfl inb_S256x2048_S256x256_0_768) (O.rowV 768 inb_S2048x512_S256x512_768_0))
  have s5 := st15 O 1024 s4 (O.colK 1024 rfl inb_S256x2048_S256x256_0_1024) (O.rowV 1024 inb_S2048x512_S256x512_1024_0)
  have s6 := st16 O 1280 s5 (O.colK 1280 rfl inb_S256x2048_S256x256_0_1280) (O.rowV 1280 inb_S2048x512_S256x512_1280_0)
  have s7 := st17 O 1536 s6 (O.colK 1536 rfl inb_S256x2048_S256x256_0_1536) (O.rowV 1536 inb_S2048x512_S256x512_1536_0)
  frame_out
  canon_tiles y h
  case piece0 =>
    exact out_piece O (o := 1792) s7 (O.rowQ 1792 inb_S2048x256_S256x256_1792_0) (O.rowK 1792 inb_S2048x256_S256x256_1792_0)
      (O.rowV 1792 inb_S2048x512_S256x512_1792_0) y _ (by omega) h1
  case piece1 =>
    exact out_piece O (o := 1536) s6 (O.rowQ 1536 inb_S2048x256_S256x256_1536_0) (O.rowK 1536 inb_S2048x256_S256x256_1536_0)
      (O.rowV 1536 inb_S2048x512_S256x512_1536_0) y _ (by omega) h1
  case piece2 =>
    exact out_piece O (o := 1280) s5 (O.rowQ 1280 inb_S2048x256_S256x256_1280_0) (O.rowK 1280 inb_S2048x256_S256x256_1280_0)
      (O.rowV 1280 inb_S2048x512_S256x512_1280_0) y _ (by omega) h1
  case piece3 =>
    exact out_piece O (o := 1024) s4 (O.rowQ 1024 inb_S2048x256_S256x256_1024_0) (O.rowK 1024 inb_S2048x256_S256x256_1024_0)
      (O.rowV 1024 inb_S2048x512_S256x512_1024_0) y _ (by omega) h1
  case piece4 =>
    exact out_piece O (o := 768) s3 (O.rowQ 768 inb_S2048x256_S256x256_768_0) (O.rowK 768 inb_S2048x256_S256x256_768_0)
      (O.rowV 768 inb_S2048x512_S256x512_768_0) y _ (by omega) h1
  case piece5 =>
    exact out_piece O (o := 512) s2 (O.rowQ 512 inb_S2048x256_S256x256_512_0) (O.rowK 512 inb_S2048x256_S256x256_512_0)
      (O.rowV 512 inb_S2048x512_S256x512_512_0) y _ (by omega) h1
  case piece6 =>
    exact out_piece O (o := 256) s1 (O.rowQ 256 inb_S2048x256_S256x256_256_0) (O.rowK 256 inb_S2048x256_S256x256_256_0)
      (O.rowV 256 inb_S2048x512_S256x512_256_0) y _ (by omega) h1
  case piece7 =>
    exact out_piece O (o := 0) hS (O.rowQ 0 inb_S2048x256_S256x256_0_0) (O.rowK 0 inb_S2048x256_S256x256_0_0)
      (O.rowV 0 inb_S2048x512_S256x512_0_0) y _ (by omega) h1
/-- The state the body leaves at a later point, from what the point before left. -/
theorem sout_B (c : Dev nD) (i : grid0.Coords) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S2048x512 .bf16) (harg6 : arg6.IsWhole) (arg7 : Memref sig .tc .vmem S1x256x256 .f32) (harg7 : arg7.IsWhole)
    (arg8 : Memref sig .tc .vmem S1x256x1 .f32) (harg8 : arg8.IsWhole) (arg9 : Memref sig .tc .vmem S1x1x1 .f32) (harg9 : arg9.IsWhole)
    (arg10 : Memref sig .tc .vmem S2048x512 .f32) (harg10 : arg10.IsWhole) (arg11 : Memref sig .tc .vmem S256x512 .f32) (harg11 : arg11.IsWhole)
    (hc0 : ¬cond0_0 i) (O : Ops L q k v N x0 x1 x2 x3 x4 x5 x6) (hS : IsSt L k v N S) :
    IsSt L k v (N + 2048) (sout0_B_0 (F := Ideal) c i arg3 harg3 arg4 harg4 arg5 harg5 arg6 harg6 arg7 harg7 arg8 harg8 arg9 harg9
        arg10 harg10 arg11 harg11 hc0
        x0 x1 x2 x3 x4 x5 x6 S) := fun d e => by
  have s1 := st11 O 0 hS (upd6 (O.colK 0 rfl inb_S256x2048_S256x256_0_0) (O.rowV 0 inb_S2048x512_S256x512_0_0))
  have s2 := st12 O 256 s1 (upd7 (O.colK 256 rfl inb_S256x2048_S256x256_0_256) (O.rowV 256 inb_S2048x512_S256x512_256_0))
  have s3 := st13 O 512 s2 (upd8 (O.colK 512 rfl inb_S256x2048_S256x256_0_512) (O.rowV 512 inb_S2048x512_S256x512_512_0))
  have s4 := st14 O 768 s3 (upd9 (O.colK 768 rfl inb_S256x2048_S256x256_0_768) (O.rowV 768 inb_S2048x512_S256x512_768_0))
  have s5 := st15 O 1024 s4 (O.colK 1024 rfl inb_S256x2048_S256x256_0_1024) (O.rowV 1024 inb_S2048x512_S256x512_1024_0)
  have s6 := st16 O 1280 s5 (O.colK 1280 rfl inb_S256x2048_S256x256_0_1280) (O.rowV 1280 inb_S2048x512_S256x512_1280_0)
  have s7 := st17 O 1536 s6 (O.colK 1536 rfl inb_S256x2048_S256x256_0_1536) (O.rowV 1536 inb_S2048x512_S256x512_1536_0)
  have s8 := st18 O 1792 s7 (upd10 (O.colK 1792 rfl inb_S256x2048_S256x256_0_1792) (O.rowV 1792 inb_S2048x512_S256x512_1792_0))
  frame_out
  exact s8 d e

/-- The output the body writes at a later point, from what the point before left. -/
theorem out_B (c : Dev nD) (i : grid0.Coords) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S2048x512 .bf16) (harg6 : arg6.IsWhole) (arg7 : Memref sig .tc .vmem S1x256x256 .f32) (harg7 : arg7.IsWhole)
    (arg8 : Memref sig .tc .vmem S1x256x1 .f32) (harg8 : arg8.IsWhole) (arg9 : Memref sig .tc .vmem S1x1x1 .f32) (harg9 : arg9.IsWhole)
    (arg10 : Memref sig .tc .vmem S2048x512 .f32) (harg10 : arg10.IsWhole) (arg11 : Memref sig .tc .vmem S256x512 .f32) (harg11 : arg11.IsWhole)
    (hc0 : ¬cond0_0 i) (O : Ops L q k v N x0 x1 x2 x3 x4 x5 x6) (hS : IsSt L k v N S) (y : S2048x512.Idx) :
    (show FVec Ideal S2048x512 .f32 from out0_B_7 (F := Ideal) c i arg3 harg3 arg4 harg4 arg5 harg5 arg6 harg6 arg7 harg7 arg8 harg8 arg9 harg9
        arg10 harg10 arg11 harg11
        hc0 x0 x1 x2 x3 x4 x5 x6 S) y = ((outAt L q k v (N + (y 0).val) (y 1) : ℝ) : EReal) := by
  have s1 := st11 O 0 hS (upd6 (O.colK 0 rfl inb_S256x2048_S256x256_0_0) (O.rowV 0 inb_S2048x512_S256x512_0_0))
  have s2 := st12 O 256 s1 (upd7 (O.colK 256 rfl inb_S256x2048_S256x256_0_256) (O.rowV 256 inb_S2048x512_S256x512_256_0))
  have s3 := st13 O 512 s2 (upd8 (O.colK 512 rfl inb_S256x2048_S256x256_0_512) (O.rowV 512 inb_S2048x512_S256x512_512_0))
  have s4 := st14 O 768 s3 (upd9 (O.colK 768 rfl inb_S256x2048_S256x256_0_768) (O.rowV 768 inb_S2048x512_S256x512_768_0))
  have s5 := st15 O 1024 s4 (O.colK 1024 rfl inb_S256x2048_S256x256_0_1024) (O.rowV 1024 inb_S2048x512_S256x512_1024_0)
  have s6 := st16 O 1280 s5 (O.colK 1280 rfl inb_S256x2048_S256x256_0_1280) (O.rowV 1280 inb_S2048x512_S256x512_1280_0)
  have s7 := st17 O 1536 s6 (O.colK 1536 rfl inb_S256x2048_S256x256_0_1536) (O.rowV 1536 inb_S2048x512_S256x512_1536_0)
  frame_out
  canon_tiles y h
  case piece0 =>
    exact out_piece O (o := 1792) s7 (O.rowQ 1792 inb_S2048x256_S256x256_1792_0) (O.rowK 1792 inb_S2048x256_S256x256_1792_0)
      (O.rowV 1792 inb_S2048x512_S256x512_1792_0) y _ (by omega) h1
  case piece1 =>
    exact out_piece O (o := 1536) s6 (O.rowQ 1536 inb_S2048x256_S256x256_1536_0) (O.rowK 1536 inb_S2048x256_S256x256_1536_0)
      (O.rowV 1536 inb_S2048x512_S256x512_1536_0) y _ (by omega) h1
  case piece2 =>
    exact out_piece O (o := 1280) s5 (O.rowQ 1280 inb_S2048x256_S256x256_1280_0) (O.rowK 1280 inb_S2048x256_S256x256_1280_0)
      (O.rowV 1280 inb_S2048x512_S256x512_1280_0) y _ (by omega) h1
  case piece3 =>
    exact out_piece O (o := 1024) s4 (O.rowQ 1024 inb_S2048x256_S256x256_1024_0) (O.rowK 1024 inb_S2048x256_S256x256_1024_0)
      (O.rowV 1024 inb_S2048x512_S256x512_1024_0) y _ (by omega) h1
  case piece4 =>
    exact out_piece O (o := 768) s3 (O.rowQ 768 inb_S2048x256_S256x256_768_0) (O.rowK 768 inb_S2048x256_S256x256_768_0)
      (O.rowV 768 inb_S2048x512_S256x512_768_0) y _ (by omega) h1
  case piece5 =>
    exact out_piece O (o := 512) s2 (O.rowQ 512 inb_S2048x256_S256x256_512_0) (O.rowK 512 inb_S2048x256_S256x256_512_0)
      (O.rowV 512 inb_S2048x512_S256x512_512_0) y _ (by omega) h1
  case piece6 =>
    exact out_piece O (o := 256) s1 (O.rowQ 256 inb_S2048x256_S256x256_256_0) (O.rowK 256 inb_S2048x256_S256x256_256_0)
      (O.rowV 256 inb_S2048x512_S256x512_256_0) y _ (by omega) h1
  case piece7 =>
    exact out_piece O (o := 0) hS (O.rowQ 0 inb_S2048x256_S256x256_0_0) (O.rowK 0 inb_S2048x256_S256x256_0_0)
      (O.rowV 0 inb_S2048x512_S256x512_0_0) y _ (by omega) h1

end Cert.KernelIdeal.Ret

end
-- ==== Proof.KerValue.lean ====
/- The kernel's result: what its blocks hold at every grid point, the state it carries between them, the array it leaves. -/
module

public import proofs.«01_k».proof.Proof.KerPoint

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen Cert.Retention

/-- Every window's block index at a grid point: batch `t / 16`, head `t / 4 % 4`, quarter `t % 4` of the sequence. -/
theorem idx_val : ∀ t : Fin cfg0.N, win0_0.index t = ![(t.val / 16) * 4 + t.val % 4, t.val / 4 % 4]
    ∧ win0_1.index t = ![(t.val / 16) * 4 + t.val % 4, t.val / 4 % 4]
    ∧ win0_2.index t = ![t.val / 4 % 4, (t.val / 16) * 4 + t.val % 4]
    ∧ win0_3.index t = ![(t.val / 16) * 4 + t.val % 4, t.val / 4 % 4]
    ∧ win0_4.index t = ![t.val / 4 % 4, 0, 0]
    ∧ win0_5.index t = ![t.val / 4 % 4, 0, 0]
    ∧ win0_6.index t = ![t.val / 4 % 4, 0, 0]
    ∧ win0_7.index t = ![(t.val / 16) * 4 + t.val % 4, t.val / 4 % 4] :=
  (by decide +kernel : ∀ t : Fin grid0.N, _)

variable (m : (ℓ : Loc nD τ sig) → Buf (Elt Ideal) ℓ) (c : Dev nD)

/-- The query matrix. -/
abbrev Qm : FVec Ideal S65536x1024 .bf16 := m ((c : Thread nD τ).loc main_arg0)
/-- The key matrix. -/
abbrev Km : FVec Ideal S65536x1024 .bf16 := m ((c : Thread nD τ).loc main_arg1)
/-- The value matrix. -/
abbrev Vm : FVec Ideal S65536x2048 .bf16 := m ((c : Thread nD τ).loc main_arg2)

/-- There are 128 grid points. -/
theorem point_lt (t : Fin cfg0.N) : t.val < 128 := t.isLt

/-- The block of queries. -/
theorem blk_q (t : Fin cfg0.N) (r : Fin 2048) (d : Fin 256) :
    (show FVec Ideal S2048x256 .bf16 from iblk m c 0 t) (ix2 r d)
      = Qm m c (ix2 ⟨(t.val / 16 * 4 + t.val % 4) * 2048 + r, by have := point_lt t; omega⟩ ⟨t.val / 4 % 4 * 256 + d, by omega⟩) := by
  blk_point [iblk, V, idx_val t]

/-- The block of keys. -/
theorem blk_k (t : Fin cfg0.N) (r : Fin 2048) (d : Fin 256) :
    (show FVec Ideal S2048x256 .bf16 from iblk m c 1 t) (ix2 r d)
      = Km m c (ix2 ⟨(t.val / 16 * 4 + t.val % 4) * 2048 + r, by have := point_lt t; omega⟩ ⟨t.val / 4 % 4 * 256 + d, by omega⟩) := by
  blk_point [iblk, V, idx_val t]

/-- The block of values. -/
theorem blk_v (t : Fin cfg0.N) (r : Fin 2048) (e : Fin 512) :
    (show FVec Ideal S2048x512 .bf16 from iblk m c 3 t) (ix2 r e)
      = Vm m c (ix2 ⟨(t.val / 16 * 4 + t.val % 4) * 2048 + r, by have := point_lt t; omega⟩ ⟨t.val / 4 % 4 * 512 + e, by omega⟩) := by
  blk_point [iblk, V, idx_val t]

/-- The block of decayed keys. -/
theorem blk_kd (t : Fin cfg0.N) (d : Fin 256) (r : Fin 2048) :
    (show FVec Ideal S256x2048 .bf16 from iblk m c 2 t) (ix2 d r)
      = (show FVec Ideal S1024x65536 .bf16 from V m c main_v57)
          (ix2 ⟨t.val / 4 % 4 * 256 + d, by omega⟩ ⟨(t.val / 16 * 4 + t.val % 4) * 2048 + r, by have := point_lt t; omega⟩) := by
  unfold iblk
  generalize V m c (Pipeline.arrRef spec0 2) = X
  blk_ext [idx_val t]

/-- The block of decays within a chunk. -/
theorem blk_m (t : Fin cfg0.N) (i j : Fin 256) :
    (show FVec Ideal S1x256x256 .f32 from iblk m c 4 t) (ix3 0 i j)
      = (show FVec Ideal S4x256x256 .f32 from V m c main_v81) (ix3 ⟨t.val / 4 % 4, by omega⟩ i j) := by
  unfold iblk
  generalize V m c (Pipeline.arrRef spec0 4) = X
  blk_ext [idx_val t]

/-- The block of query decays. -/
theorem blk_qd (t : Fin cfg0.N) (i : Fin 256) :
    (show FVec Ideal S1x256x1 .f32 from iblk m c 5 t) (ix3 0 i 0)
      = (show FVec Ideal S4x256x1 .f32 from V m c main_v90) (ix3 ⟨t.val / 4 % 4, by omega⟩ i 0) := by
  unfold iblk
  generalize V m c (Pipeline.arrRef spec0 5) = X
  blk_ext [idx_val t]

/-- The chunk's decay. -/
theorem blk_c (t : Fin cfg0.N) :
    (show FVec Ideal S1x1x1 .f32 from iblk m c 6 t) (ix3 0 0 0)
      = (show FVec Ideal S4x1x1 .f32 from V m c main_v103) (ix3 ⟨t.val / 4 % 4, by omega⟩ 0 0) := by
  unfold iblk
  generalize V m c (Pipeline.arrRef spec0 6) = X
  blk_ext [idx_val t]

/-- The queries, keys and values hold numbers. -/
structure Finite : Prop where
  q : ∀ i, (show EReal from Qm m c i) ≠ ⊤ ∧ (show EReal from Qm m c i) ≠ ⊥
  k : ∀ i, (show EReal from Km m c i) ≠ ⊤ ∧ (show EReal from Km m c i) ≠ ⊥
  v : ∀ i, (show EReal from Vm m c i) ≠ ⊤ ∧ (show EReal from Vm m c i) ≠ ⊥

/-- A grid point's batch. -/
abbrev bOf (t : ℕ) : ℕ := t / 16
/-- A grid point's head. -/
abbrev hOf (t : ℕ) : ℕ := t / 4 % 4

variable {m c}

/-- What a grid point's blocks hold: the queries, keys and values of its batch and head from its quarter on, and its head's decays. -/
theorem Finite.ops (hf : Finite m c) (t : Fin cfg0.N) :
    Ops (lg (hOf t.val)) (seqOf 256 (Qm m c) (bOf t.val) (hOf t.val)) (seqOf 256 (Km m c) (bOf t.val) (hOf t.val))
      (seqOf 512 (Vm m c) (bOf t.val) (hOf t.val)) (t.val % 4 * 2048)
      (iblk m c 0 t) (iblk m c 1 t) (iblk m c 2 t) (iblk m c 3 t) (iblk m c 4 t) (iblk m c 5 t) (iblk m c 6 t) where
  hq r d := by
    refine (blk_q m c t r d).trans ((rd_coe _ hf.q _ _).trans ?_)
    unfold seqOf
    rw [show bOf t.val * 8192 + (t.val % 4 * 2048 + r) = (t.val / 16 * 4 + t.val % 4) * 2048 + r by unfold bOf; ring]
  hk r d := by
    refine (blk_k m c t r d).trans ((rd_coe _ hf.k _ _).trans ?_)
    unfold seqOf
    rw [show bOf t.val * 8192 + (t.val % 4 * 2048 + r) = (t.val / 16 * 4 + t.val % 4) * 2048 + r by unfold bOf; ring]
  hkd d r := by
    refine (blk_kd m c t d r).trans ((kdt_at m c _ _).trans ?_)
    rw [EReal.coe_mul]
    refine congrArg₂ (· * ·) ((rd_coe _ hf.k _ _).trans ?_) ?_
    · unfold seqOf
      rw [show bOf t.val * 8192 + (t.val % 4 * 2048 + r) = (t.val / 16 * 4 + t.val % 4) * 2048 + r by unfold bOf; ring]
    · show ((decay (lg ((t.val / 4 % 4 * 256 + (d : ℕ)) / 256)) (255 - (((t.val / 16 * 4 + t.val % 4) * 2048 + (r : ℕ)) % 256 : ℕ)) : ℝ) : EReal) = _
      rw [show (t.val / 4 % 4 * 256 + (d : ℕ)) / 256 = hOf t.val by unfold hOf; omega,
        show ((t.val / 16 * 4 + t.val % 4) * 2048 + (r : ℕ)) % 256 = r % 256 by omega]
  hv r e := by
    refine (blk_v m c t r e).trans ((rd_coe _ hf.v _ _).trans ?_)
    unfold seqOf
    rw [show bOf t.val * 8192 + (t.val % 4 * 2048 + r) = (t.val / 16 * 4 + t.val % 4) * 2048 + r by unfold bOf; ring]
  hm i j := (blk_m m c t i j).trans (dmat_at m c _ i j)
  hqd i := (blk_qd m c t i).trans (qdec_at m c _ i)
  hc := (blk_c m c t).trans ((cdec_at m c _).trans (by norm_num))

/-- The blocks of a batch's first point. -/
theorem Finite.ops_first (hf : Finite m c) (t : Fin cfg0.N) (h : t.val % 4 = 0) :
    Ops (lg (hOf t.val)) (seqOf 256 (Qm m c) (bOf t.val) (hOf t.val)) (seqOf 256 (Km m c) (bOf t.val) (hOf t.val))
      (seqOf 512 (Vm m c) (bOf t.val) (hOf t.val)) 0
      (iblk m c 0 t) (iblk m c 1 t) (iblk m c 2 t) (iblk m c 3 t) (iblk m c 4 t) (iblk m c 5 t) (iblk m c 6 t) := by
  have h1 := hf.ops t
  rw [h, Nat.zero_mul] at h1
  exact h1

/-- The state a batch's first point leaves. -/
theorem Finite.state_first (hf : Finite m c) (t : Fin cfg0.N) (h : t.val % 4 = 0) :
    IsSt (lg (hOf t.val)) (seqOf 256 (Km m c) (bOf t.val) (hOf t.val)) (seqOf 512 (Vm m c) (bOf t.val) (hOf t.val)) (0 + 2048)
      (outsAt0 m c t.val t.isLt).2 := by
  rw [outsAt0_A m c t h]
  dsimp only
  exact sout_A _ _ _ _ _ _ _ _ _ _ _ _ _ _ _ _ _ _ _ _ _ (hf.ops_first t h)

/-- The state a later point leaves, from what the point before left. -/
theorem Finite.state_next (hf : Finite m c) (t : Fin cfg0.N) (h : ¬t.val % 4 = 0)
    (h1 : IsSt (lg (hOf t.val)) (seqOf 256 (Km m c) (bOf t.val) (hOf t.val)) (seqOf 512 (Vm m c) (bOf t.val) (hOf t.val))
      (t.val % 4 * 2048) (outsAt0 m c (t.val - 1) (Nat.lt_of_le_of_lt (Nat.sub_le _ _) t.isLt)).2) :
    IsSt (lg (hOf t.val)) (seqOf 256 (Km m c) (bOf t.val) (hOf t.val)) (seqOf 512 (Vm m c) (bOf t.val) (hOf t.val))
      (t.val % 4 * 2048 + 2048) (outsAt0 m c t.val t.isLt).2 := by
  rw [outsAt0_B m c t h]
  dsimp only
  exact sout_B _ _ _ _ _ _ _ _ _ _ _ _ _ _ _ _ _ _ _ _ _ (hf.ops t) h1

/-- The state a grid point leaves: that before the next quarter. -/
theorem Finite.state (hf : Finite m c) : ∀ (n : ℕ) (hn : n < cfg0.N),
    IsSt (lg (hOf n)) (seqOf 256 (Km m c) (bOf n) (hOf n)) (seqOf 512 (Vm m c) (bOf n) (hOf n)) (n % 4 * 2048 + 2048)
      (outsAt0 m c n hn).2 := by
  intro n
  induction n with
  | zero => exact fun hn => hf.state_first ⟨0, hn⟩ rfl
  | succ n ih =>
    intro hn
    by_cases h : (n + 1) % 4 = 0
    · rw [h, Nat.zero_mul]
      exact hf.state_first ⟨n + 1, hn⟩ h
    · have h1 := ih (by omega)
      rw [show hOf n = hOf (n + 1) by unfold hOf; omega, show bOf n = bOf (n + 1) by unfold bOf; omega,
        show n % 4 * 2048 + 2048 = (n + 1) % 4 * 2048 by omega] at h1
      exact hf.state_next ⟨n + 1, hn⟩ h h1

/-- The retention of a batch and head at a position, as an entry of the result. -/
def retAt (Q K : FVec Ideal S65536x1024 .bf16) (W : FVec Ideal S65536x2048 .bf16) (t : Fin 65536) (e : Fin 2048) : EReal :=
  ((outAt (lg (e / 512)) (seqOf 256 Q (t / 8192) (e / 512)) (seqOf 256 K (t / 8192) (e / 512)) (seqOf 512 W (t / 8192) (e / 512))
    (t % 8192) ⟨(e : ℕ) % 512, Nat.mod_lt _ (by norm_num)⟩ : ℝ) : EReal)

/-- The whole result. -/
def RET (Q K : FVec Ideal S65536x1024 .bf16) (W : FVec Ideal S65536x2048 .bf16) : FVec Ideal S65536x2048 .f32 :=
  fun y => retAt Q K W (y 0) (y 1)

/-- The output block of a batch's first point. -/
theorem Finite.block_first (hf : Finite m c) (t : Fin cfg0.N) (h : t.val % 4 = 0) (y : S2048x512.Idx) :
    (show FVec Ideal S2048x512 .f32 from (outsAt0 m c t.val t.isLt).1) y
      = ((outAt (lg (hOf t.val)) (seqOf 256 (Qm m c) (bOf t.val) (hOf t.val)) (seqOf 256 (Km m c) (bOf t.val) (hOf t.val))
          (seqOf 512 (Vm m c) (bOf t.val) (hOf t.val)) (0 + (y 0).val) (y 1) : ℝ) : EReal) := by
  rw [outsAt0_A m c t h]
  dsimp only
  exact out_A _ _ _ _ _ _ _ _ _ _ _ _ _ _ _ _ _ _ _ _ _ (hf.ops_first t h) y

/-- The output block of a later point. -/
theorem Finite.block_next (hf : Finite m c) (t : Fin cfg0.N) (h : ¬t.val % 4 = 0) (y : S2048x512.Idx)
    (h1 : IsSt (lg (hOf t.val)) (seqOf 256 (Km m c) (bOf t.val) (hOf t.val)) (seqOf 512 (Vm m c) (bOf t.val) (hOf t.val))
      (t.val % 4 * 2048) (outsAt0 m c (t.val - 1) (Nat.lt_of_le_of_lt (Nat.sub_le _ _) t.isLt)).2) :
    (show FVec Ideal S2048x512 .f32 from (outsAt0 m c t.val t.isLt).1) y
      = ((outAt (lg (hOf t.val)) (seqOf 256 (Qm m c) (bOf t.val) (hOf t.val)) (seqOf 256 (Km m c) (bOf t.val) (hOf t.val))
          (seqOf 512 (Vm m c) (bOf t.val) (hOf t.val)) (t.val % 4 * 2048 + (y 0).val) (y 1) : ℝ) : EReal) := by
  rw [outsAt0_B m c t h]
  dsimp only
  exact out_B _ _ _ _ _ _ _ _ _ _ _ _ _ _ _ _ _ _ _ _ _ (hf.ops t) h1 y

/-- The output block a grid point writes. -/
theorem Finite.block (hf : Finite m c) (t : Fin cfg0.N) (y : S2048x512.Idx) :
    (show FVec Ideal S2048x512 .f32 from (outsAt0 m c t.val t.isLt).1) y
      = ((outAt (lg (hOf t.val)) (seqOf 256 (Qm m c) (bOf t.val) (hOf t.val)) (seqOf 256 (Km m c) (bOf t.val) (hOf t.val))
          (seqOf 512 (Vm m c) (bOf t.val) (hOf t.val)) (t.val % 4 * 2048 + (y 0).val) (y 1) : ℝ) : EReal) := by
  by_cases h : t.val % 4 = 0
  · rw [h, Nat.zero_mul]
    exact hf.block_first t h y
  · have h1 := hf.state (t.val - 1) (Nat.lt_of_le_of_lt (Nat.sub_le _ _) t.isLt)
    rw [show hOf (t.val - 1) = hOf t.val by unfold hOf; omega, show bOf (t.val - 1) = bOf t.val by unfold bOf; omega,
      show (t.val - 1) % 4 * 2048 + 2048 = t.val % 4 * 2048 by omega] at h1
    exact hf.block_next t h y h1

/-- The retention at a position of a block's row and column. -/
theorem retAt_block (Q K : FVec Ideal S65536x1024 .bf16) (W : FVec Ideal S65536x2048 .bf16) (t : ℕ) (ht : t < 128) (r : Fin 2048)
    (e : Fin 512) (T : Fin 65536) (E : Fin 2048) (hT : (T : ℕ) = (t / 16 * 4 + t % 4) * 2048 + r) (hE : (E : ℕ) = t / 4 % 4 * 512 + e) :
    retAt Q K W T E = ((outAt (lg (hOf t)) (seqOf 256 Q (bOf t) (hOf t)) (seqOf 256 K (bOf t) (hOf t)) (seqOf 512 W (bOf t) (hOf t))
      (t % 4 * 2048 + r) e : ℝ) : EReal) := by
  unfold retAt
  have he : (⟨(E : ℕ) % 512, Nat.mod_lt _ (by norm_num)⟩ : Fin 512) = e := Fin.ext (by show (E : ℕ) % 512 = e; omega)
  rw [he, show (E : ℕ) / 512 = hOf t by unfold hOf; omega, show (T : ℕ) / 8192 = bOf t by unfold bOf; omega,
    show (T : ℕ) % 8192 = t % 4 * 2048 + r by omega]

/-- The array the kernel leaves is the retention. -/
theorem Finite.final (hf : Finite m c) :
    (show FVec Ideal S65536x2048 .f32 from (dats m 0 c).arrAt 7 (cfgs 0).N) = RET (Qm m c) (Km m c) (Vm m c) := by
  refine (dats m 0 c).arrAt_eq_of_covers 7 _ (by decide +kernel) fun t hfl y => ?_
  blk_simp
  rw [after0_7]
  refine (hf.block t y).trans ?_
  refine (retAt_block _ _ _ t.val (point_lt t) (y 0) (y 1) _ _ ?_ ?_).symm
  · blk_simp [idx_val t]
  · blk_simp [idx_val t]

end Cert.KernelIdeal.Ret

end
-- ==== Proof.Pre.lean ====
module

public import proofs.«01_k».proof.Defs
public import proofs.«01_k».proof.Proof.KerValue
public import Idealize.ShloMosaic.Lib.ReduceAll

@[expose] public section

set_option maxRecDepth 16384

noncomputable section

/-! What the precondition `finite` says of the three arguments: no entry is an infinity. -/

namespace Cert.Pre_finite

open Idealize.ShloMosaic

/-- The side conditions of the printed precondition hold. -/
theorem facts : Facts where
  bitsLt_bf16_f32 := by decide
  bcast_S_S65536x1024 := by decide
  reducesTo_S65536x1024_S_d0_1 := by decide
  h_S_ := by decide
  bcast_S_S65536x2048 := by decide
  reducesTo_S65536x2048_S_d0_1 := by decide

/-- The result of the precondition has one index. -/
instance subIdx : Subsingleton S_.Idx := ⟨fun a b => funext fun i => i.elim0⟩

/-- Two bits whose conjunction is one are both one. -/
theorem both (a b : BitVec 1) (h : IntOp.andi a b = 1#1) : a = 1#1 ∧ b = 1#1 := by
  revert a b; decide

/-- An extended real whose absolute value lies below the top is neither infinity. -/
theorem fin_of_abs (x : EReal) (h : Ideal.cmp .olt (max x (-x)) (Ideal.ofBits .f32 0x7F800000#32) = 1#1) :
    x ≠ ⊤ ∧ x ≠ ⊥ := by
  have h' : max x (-x) < (⊤ : EReal) := by
    have e : Ideal.ofBits .f32 0x7F800000#32 = (⊤ : EReal) := by
      simp only [Ideal.ofBits, Ideal.ieee]
      rw [if_pos (by decide), if_pos (by decide), if_neg (by decide)]
    rw [e] at h
    have b : ∀ a : Bool, BitVec.ofBool a = 1#1 → a = true := by decide
    exact of_decide_eq_true (b _ h)
  constructor
  · rintro rfl; simp at h'
  · rintro rfl; simp at h'

/-- The precondition says that no entry of the queries, of the keys or of the values is an infinity. -/
theorem entries [Facts] (a0 a1 : FVec Ideal S65536x1024 .bf16) (a2 : FVec Ideal S65536x2048 .bf16)
    (h : fn (F := Ideal) a0 a1 a2 = fun _ => 1#1) :
    (∀ i, (show EReal from a0 i) ≠ ⊤ ∧ (show EReal from a0 i) ≠ ⊥)
      ∧ (∀ i, (show EReal from a1 i) ≠ ⊤ ∧ (show EReal from a1 i) ≠ ⊥)
      ∧ (∀ i, (show EReal from a2 i) ≠ ⊤ ∧ (show EReal from a2 i) ≠ ⊥) := by
  have h0 := congrFun h (fun i => i.elim0)
  obtain ⟨h01, h2⟩ := both _ _ h0
  obtain ⟨h0, h1⟩ := both _ _ h01
  exact ⟨fun i => fin_of_abs _ (Host.reduce_andi_all _ _ _ _ _ h0 i),
    fun i => fin_of_abs _ (Host.reduce_andi_all _ _ _ _ _ h1 i),
    fun i => fin_of_abs _ (Host.reduce_andi_all _ _ _ _ _ h2 i)⟩

end Cert.Pre_finite

end
-- ==== Proof.Ffn.lean ====
/- The feed-forward part of a layer, one token at a time: the root-mean-square norm, the gated unit, and the gated unit's sum cut into chunks. -/
module

public import Idealize.ShloMosaic.Lib.Pipeline.ValueKit
public import Idealize.ShloMosaic.Lib.Pointwise

@[expose] public section

noncomputable section

open Idealize.ShloMosaic

namespace Cert.Ffn

/-- A token's row scaled to root mean square one, times a gain. -/
def nrm (u g : Fin 1024 → EReal) (e : Fin 1024) : EReal :=
  u e * Ideal.rsqrt (Ideal.div (∑ x, u x * u x) (Ideal.ofBits .f32 0x44800000#32) + Ideal.ofBits .f32 0x358637BD#32) * g e

/-- One hidden unit: the gate's sigmoid-weighted value, times the unit's other value. -/
def act (h A B : Fin 1024 → EReal) : EReal :=
  (∑ d, h d * A d) * Ideal.div 1 (1 + Ideal.exp (0 - ∑ d, h d * A d)) * ∑ d, h d * B d

/-- The product of hidden unit `f` and its output weight at `e`; zero past the last unit. -/
def term (h : Fin 1024 → EReal) (Wi : Fin 1024 → Fin 5632 → EReal) (Wo : Fin 2816 → Fin 1024 → EReal) (e : Fin 1024) (f : ℕ) : EReal :=
  if hf : f < 2816 then act h (fun d => Wi d ⟨f, by omega⟩) (fun d => Wi d ⟨2816 + f, by omega⟩) * Wo ⟨f, hf⟩ e else 0

/-- The gated unit with its output product. -/
def swi (h : Fin 1024 → EReal) (Wi : Fin 1024 → Fin 5632 → EReal) (Wo : Fin 2816 → Fin 1024 → EReal) (e : Fin 1024) : EReal :=
  ∑ f : Fin 2816, act h (fun d => Wi d ⟨f, by omega⟩) (fun d => Wi d ⟨2816 + f, by omega⟩) * Wo f e

/-- A row, and what the first `N` hidden units of its normalised self add to it. -/
def part (u g : Fin 1024 → EReal) (Wi : Fin 1024 → Fin 5632 → EReal) (Wo : Fin 2816 → Fin 1024 → EReal) (N : ℕ) (e : Fin 1024) : EReal :=
  u e + ∑ f ∈ Finset.range N, term (nrm u g) Wi Wo e f

variable {u g : Fin 1024 → EReal} {Wi : Fin 1024 → Fin 5632 → EReal} {Wo : Fin 2816 → Fin 1024 → EReal}

/-- Before the first unit there is the row alone. -/
theorem part_zero (e : Fin 1024) : part u g Wi Wo 0 e = u e := by
  unfold part; rw [Finset.sum_range_zero, add_zero]

/-- After the last unit there is the row and the whole gated unit. -/
theorem part_all (e : Fin 1024) : part u g Wi Wo 2816 e = u e + swi (nrm u g) Wi Wo e := by
  unfold part swi
  rw [Finset.sum_range]
  refine congrArg _ (Finset.sum_congr rfl fun f _ => ?_)
  unfold term
  rw [dif_pos f.isLt]

/-- A chunk of 256 hidden units more. -/
theorem part_chunk (N : ℕ) (hN : N + 256 ≤ 2816) (e : Fin 1024) (h : Fin 1024 → EReal) (acc : EReal)
    (A B : Fin 1024 → Fin 256 → EReal) (W : Fin 256 → EReal)
    (hh : ∀ d, h d = nrm u g d) (hacc : acc = part u g Wi Wo N e) (hA : ∀ d k, A d k = Wi d ⟨N + k, by omega⟩)
    (hB : ∀ d k, B d k = Wi d ⟨2816 + (N + k), by omega⟩) (hW : ∀ k, W k = Wo ⟨N + k, by omega⟩ e) :
    acc + ∑ k : Fin 256, (∑ d, h d * A d k) * Ideal.div 1 (1 + Ideal.exp (0 - ∑ d, h d * A d k)) * (∑ d, h d * B d k) * W k
      = part u g Wi Wo (N + 256) e := by
  obtain rfl : h = nrm u g := funext hh
  unfold part at hacc ⊢
  rw [hacc, Finset.sum_range_add, ← add_assoc, Finset.sum_range (n := 256)]
  refine congrArg _ (Finset.sum_congr rfl fun k _ => ?_)
  have hk : N + (k : ℕ) < 2816 := by omega
  unfold term
  rw [dif_pos hk, hW]
  simp only [hA, hB]
  rfl

/-- What the last call leaves of a token: its row with the attention's output product added, then the gated unit added, then the last norm. -/
def sbOut (a0 a1 : (⟨3, ![8, 8192, 1024]⟩ : Shape).Idx → EReal) (a2 : (⟨2, ![1024, 1024]⟩ : Shape).Idx → EReal)
    (a3 : (⟨1, ![1024]⟩ : Shape).Idx → EReal) (a4 : (⟨2, ![1024, 5632]⟩ : Shape).Idx → EReal)
    (a5 : (⟨2, ![2816, 1024]⟩ : Shape).Idx → EReal) (a6 : (⟨1, ![1024]⟩ : Shape).Idx → EReal) (b : Fin 8) (s : Fin 8192) (e : Fin 1024) : EReal :=
  nrm (fun e => part (fun e => a0 (ix3 b s e) + ∑ k : Fin 1024, a1 (ix3 b s k) * a2 (ix2 k e)) (fun e => a3 (ix1 e))
    (fun d f => a4 (ix2 d f)) (fun f e => a5 (ix2 f e)) 2816 e) (fun e => a6 (ix1 e)) e

end Cert.Ffn

end
-- ==== Proof.SbOutKer.lean ====
/- The last call's kernel: what its body leaves in the output block at a grid point. -/
module

public import proofs.«01_k».proof.Proof.Ffn
public import proofs.«01_k».proof.Proof.Gen.Kernel2Ideal
public import proofs.«01_k».proof.Proof.Gen.Kernel2Ideal.Frame
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen Cert.Ffn

variable {u : Fin 512 → Fin 1024 → EReal} {g : Fin 1024 → EReal} {Wi : Fin 1024 → Fin 5632 → EReal} {Wo : Fin 2816 → Fin 1024 → EReal}

/-- Every row of the block with the first `N` hidden units added. -/
def IsPart (u : Fin 512 → Fin 1024 → EReal) (g : Fin 1024 → EReal) (Wi : Fin 1024 → Fin 5632 → EReal) (Wo : Fin 2816 → Fin 1024 → EReal)
    (N : ℕ) (T : (⟨2, ![512, 1024]⟩ : Shape).Idx → EReal) : Prop :=
  ∀ (i : Fin 512) (e : Fin 1024), T (ix2 i e) = part (u i) g Wi Wo N e

/-- The body's chunk: 256 hidden units more in every row. -/
theorem chunk (N : ℕ) (hN : N + 256 ≤ 2816) {o1 o2 o3 : ℕ} {x4 : FVec Ideal S1024x5632 .bf16} {x5 : FVec Ideal S2816x1024 .bf16}
    {H : FVec Ideal S512x1024 .bf16} {acc : FVec Ideal S512x1024 .f32}
    (h1 : ∀ a, (![0, o1] : Fin 2 → ℕ) a + S1024x256.size a ≤ S1024x5632.size a)
    (h2 : ∀ a, (![0, o2] : Fin 2 → ℕ) a + S1024x256.size a ≤ S1024x5632.size a)
    (h3 : ∀ a, (![o3, 0] : Fin 2 → ℕ) a + S256x1024.size a ≤ S2816x1024.size a)
    (e1 : o1 = N) (e2 : o2 = 2816 + N) (e3 : o3 = N)
    (hH : ∀ i d, H (ix2 i d) = nrm (u i) g d)
    (h4 : ∀ d f, x4 (ix2 d f) = Wi d f) (h5 : ∀ f e, x5 (ix2 f e) = Wo f e) (hacc : IsPart u g Wi Wo N acc) :
    IsPart u g Wi Wo (N + 256) (k0_pay8 (F := Ideal) H
      (View.ld (Val := Elt Ideal) (e' := .bf16) x4 (Rect.unit ![0, o1] ![1024, 256] h1))
      (View.ld (Val := Elt Ideal) (e' := .bf16) x4 (Rect.unit ![0, o2] ![1024, 256] h2)) acc
      (View.ld (Val := Elt Ideal) (e' := .bf16) x5 (Rect.unit ![o3, 0] ![256, 1024] h3))) := fun i e => by
  subst e1 e2 e3
  unfold k0_pay8
  generalize hA : View.ld (Val := Elt Ideal) (e' := .bf16) x4 (Rect.unit ![0, o3] ![1024, 256] h1) = A
  generalize hB : View.ld (Val := Elt Ideal) (e' := .bf16) x4 (Rect.unit ![0, 2816 + o3] ![1024, 256] h2) = B
  generalize hW : View.ld (Val := Elt Ideal) (e' := .bf16) x5 (Rect.unit ![o3, 0] ![256, 1024] h3) = W
  pointwise
  refine part_chunk o3 hN e (fun d => H (ix2 i d)) _ (fun d k => A (ix2 d k)) (fun d k => B (ix2 d k)) (fun k => W (ix2 k e))
    (fun d => hH i d) (hacc i e) (fun d k => ?_) (fun d k => ?_) (fun k => ?_)
  · subst hA
    exact (congrArg x4 (show _ = ix2 d ⟨o3 + k, by omega⟩ by idx_ext)).trans (h4 _ _)
  · subst hB
    refine (congrArg x4 (show _ = ix2 d ⟨2816 + (o3 + k), by omega⟩ by idx_ext)).trans (h4 _ _)
  · subst hW
    exact (congrArg x5 (show _ = ix2 ⟨o3 + k, by omega⟩ e by idx_ext)).trans (h5 _ _)

variable {x0 : FVec Ideal S512x1024 .f32} {x1 : FVec Ideal S1x16x64x512 .bf16} {x2 : FVec Ideal S1024x1024 .bf16}
  {x3 : FVec Ideal S1x1024 .f32} {x4 : FVec Ideal S1024x5632 .bf16} {x5 : FVec Ideal S2816x1024 .bf16} {x6 : FVec Ideal S1x1024 .f32}

/-- The row that the attention's output product makes of a token. -/
def row (x0 : FVec Ideal S512x1024 .f32) (x1 : FVec Ideal S1x16x64x512 .bf16) (x2 : FVec Ideal S1024x1024 .bf16) (i : Fin 512) (e : Fin 1024) : EReal :=
  x0 (ix2 i e) + ∑ k : Fin 1024, x1 (ix4 0 ⟨k / 64, by omega⟩ ⟨k % 64, by omega⟩ i) * x2 (ix2 k e)

/-- The body's first store. -/
theorem row_at (i : Fin 512) (e : Fin 1024) :
    (show FVec Ideal S512x1024 .f32 from k0_pay2 (F := Ideal) x1 x0 x2) (ix2 i e) = row x0 x1 x2 i e := by
  unfold k0_pay2 row
  pointwise

/-- The rows normalised for the gated unit. -/
theorem nrm_at (i : Fin 512) (d : Fin 1024) :
    (show FVec Ideal S512x1024 .bf16 from k0_pay3 (F := Ideal) x1 x0 x2 x3) (ix2 i d) = nrm (row x0 x1 x2 i) (fun e => x3 (ix2 0 e)) d := by
  have hr : ∀ e, row x0 x1 x2 i e = (show FVec Ideal S512x1024 .f32 from k0_pay2 (F := Ideal) x1 x0 x2) (ix2 i e) := fun e => (row_at i e).symm
  unfold nrm
  simp only [hr]
  unfold k0_pay3
  generalize (show FVec Ideal S512x1024 .f32 from k0_pay2 (F := Ideal) x1 x0 x2) = U
  pointwise

/-- The body's last store: the last norm of the rows it reads. -/
theorem last_at (T : FVec Ideal S512x1024 .f32) (i : Fin 512) (e : Fin 1024) :
    (show FVec Ideal S512x1024 .f32 from k0_pay1 (F := Ideal) T x6) (ix2 i e) = nrm (fun e => T (ix2 i e)) (fun e => x6 (ix2 0 e)) e := by
  unfold k0_pay1 nrm
  pointwise

variable (m : (ℓ : Loc nD τ sig) → Buf (Elt Ideal) ℓ) (c : Dev nD)

/-- The rows of a grid point's block after its first store. -/
abbrev rows (t : Fin cfg0.N) : Fin 512 → Fin 1024 → EReal := row (iblk m c 0 t) (iblk m c 1 t) (iblk m c 2 t)

/-- The output block of a grid point: every row normed, sent through the gated unit, added, and normed again. -/
theorem block_at (t : Fin cfg0.N) (i : Fin 512) (e : Fin 1024) :
    (show FVec Ideal S512x1024 .f32 from outsAt0 m c t) (ix2 i e)
      = nrm (fun e => part (rows m c t i) (fun e => (show FVec Ideal S1x1024 .f32 from iblk m c 3 t) (ix2 0 e))
          (fun d f => (show FVec Ideal S1024x5632 .bf16 from iblk m c 4 t) (ix2 d f))
          (fun f e => (show FVec Ideal S2816x1024 .bf16 from iblk m c 5 t) (ix2 f e)) 2816 e)
        (fun e => (show FVec Ideal S1x1024 .f32 from iblk m c 6 t) (ix2 0 e)) e := by
  unfold rows outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  frame_out
  have hH := fun i d => nrm_at (x0 := x0) (x1 := x1) (x2 := x2) (x3 := x3) i d
  have c0 : IsPart (row x0 x1 x2) (fun e => (show FVec Ideal S1x1024 .f32 from x3) (ix2 0 e))
      (fun d f => (show FVec Ideal S1024x5632 .bf16 from x4) (ix2 d f)) (fun f e => (show FVec Ideal S2816x1024 .bf16 from x5) (ix2 f e)) 0
      (k0_pay2 (F := Ideal) x1 x0 x2) := fun i e => (row_at i e).trans (part_zero e).symm
  refine (last_at _ i e).trans ?_
  refine congrArg (fun f => nrm f _ e) (funext fun e => ?_)
  have step := fun N hN o1 o2 o3 acc h1 h2 h3 e1 e2 e3 => chunk (u := row x0 x1 x2) (g := fun e => (show FVec Ideal S1x1024 .f32 from x3) (ix2 0 e))
    (Wi := fun d f => (show FVec Ideal S1024x5632 .bf16 from x4) (ix2 d f)) (Wo := fun f e => (show FVec Ideal S2816x1024 .bf16 from x5) (ix2 f e))
    N hN (o1 := o1) (o2 := o2) (o3 := o3) (x4 := x4) (x5 := x5) (acc := acc) h1 h2 h3 e1 e2 e3 hH (fun _ _ => rfl) (fun _ _ => rfl)
  exact step 2560 (by norm_num) _ _ _ _ _ _ _ rfl rfl rfl
    (step 2304 (by norm_num) _ _ _ _ _ _ _ rfl rfl rfl
    (step 2048 (by norm_num) _ _ _ _ _ _ _ rfl rfl rfl
    (step 1792 (by norm_num) _ _ _ _ _ _ _ rfl rfl rfl
    (step 1536 (by norm_num) _ _ _ _ _ _ _ rfl rfl rfl
    (step 1280 (by norm_num) _ _ _ _ _ _ _ rfl rfl rfl
    (step 1024 (by norm_num) _ _ _ _ _ _ _ rfl rfl rfl
    (step 768 (by norm_num) _ _ _ _ _ _ _ rfl rfl rfl
    (step 512 (by norm_num) _ _ _ _ _ _ _ rfl rfl rfl
    (step 256 (by norm_num) _ _ _ _ _ _ _ rfl rfl rfl
    (step 0 (by norm_num) _ _ _ _ (by decide) (by decide) (by decide) rfl rfl rfl c0)))))))))) i e

end Cert.Kernel2Ideal.Out

end
-- ==== Proof.SbOutValue.lean ====
/- The last call's kernel: the arrays its blocks are cut from, and the array it leaves. -/
module

public import proofs.«01_k».proof.Proof.SbOutKer
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen Cert.Ffn

/-- Every window's block index at a grid point: batch `t / 16`, block `t % 16` of its sequence. -/
theorem idx_val : ∀ t : Fin cfg0.N, win0_0.index t = ![t.val, 0]
    ∧ win0_1.index t = ![t.val / 16, 0, 0, t.val % 16]
    ∧ win0_2.index t = ![0, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

variable (m : (ℓ : Loc nD τ sig) → Buf (Elt Ideal) ℓ) (c : Dev nD)

/-- The tokens' rows. -/
abbrev a0 : FVec Ideal S8x8192x1024 .f32 := m ((c : Thread nD τ).loc main_arg0)
/-- The attention's output. -/
abbrev a1 : FVec Ideal S8x8192x1024 .f32 := m ((c : Thread nD τ).loc main_arg1)
/-- Its output weights. -/
abbrev a2 : FVec Ideal S1024x1024 .f32 := m ((c : Thread nD τ).loc main_arg2)
/-- The gated unit's gain. -/
abbrev a3 : FVec Ideal S1024 .f32 := m ((c : Thread nD τ).loc main_arg3)
/-- The gated unit's input weights. -/
abbrev a4 : FVec Ideal S1024x5632 .f32 := m ((c : Thread nD τ).loc main_arg4)
/-- The gated unit's output weights. -/
abbrev a5 : FVec Ideal S2816x1024 .f32 := m ((c : Thread nD τ).loc main_arg5)
/-- The last norm's gain. -/
abbrev a6 : FVec Ideal S1024 .f32 := m ((c : Thread nD τ).loc main_arg6)

/-- The rows as the host reshapes them. -/
theorem v0_at (r : Fin 65536) (e : Fin 1024) : (show FVec Ideal S65536x1024 .f32 from V m c main_v3) (ix2 r e)
    = a0 m c (ix3 ⟨r / 8192, by omega⟩ ⟨r % 8192, by omega⟩ e) := by
  unfold V
  after_reads_at

/-- The attention's output as the host lays it out. -/
theorem v1_at (b : Fin 8) (h : Fin 16) (d : Fin 64) (s : Fin 8192) : (show FVec Ideal S8x16x64x8192 .bf16 from V m c main_v2) (ix4 b h d s)
    = a1 m c (ix3 b s ⟨h * 64 + d, by omega⟩) := by
  unfold V
  after_reads_at

/-- The attention's output weights, cast. -/
theorem v2_at (r : Fin 1024) (e : Fin 1024) : (show FVec Ideal S1024x1024 .bf16 from V m c main_v4) (ix2 r e) = a2 m c (ix2 r e) := by
  unfold V
  after_reads_at

/-- The gated unit's gain, as a row. -/
theorem v3_at (e : Fin 1024) : (show FVec Ideal S1x1024 .f32 from V m c main_v5) (ix2 0 e) = a3 m c (ix1 e) := by
  unfold V
  after_reads_at

/-- The gated unit's input weights, cast. -/
theorem v4_at (d : Fin 1024) (f : Fin 5632) : (show FVec Ideal S1024x5632 .bf16 from V m c main_v6) (ix2 d f) = a4 m c (ix2 d f) := by
  unfold V
  after_reads_at

/-- The gated unit's output weights, cast. -/
theorem v5_at (f : Fin 2816) (e : Fin 1024) : (show FVec Ideal S2816x1024 .bf16 from V m c main_v7) (ix2 f e) = a5 m c (ix2 f e) := by
  unfold V
  after_reads_at

/-- The last norm's gain, as a row. -/
theorem v6_at (e : Fin 1024) : (show FVec Ideal S1x1024 .f32 from V m c main_v8) (ix2 0 e) = a6 m c (ix1 e) := by
  unfold V
  after_reads_at

/-- The grid has 128 points. -/
theorem lt_N (t : Fin cfg0.N) : t.val < 128 := lt_of_lt_of_eq t.isLt (by decide +kernel)

/-- The block of rows at a point. -/
theorem b0_at (t : Fin cfg0.N) (i : Fin 512) (e : Fin 1024) : (show FVec Ideal S512x1024 .f32 from iblk m c 0 t) (ix2 i e)
    = a0 m c (ix3 ⟨t.val / 16, by have := lt_N t; omega⟩ ⟨t.val % 16 * 512 + i, by omega⟩ e) := by
  have hN := lt_N t
  refine Eq.trans ?_ ((v0_at m c ⟨t.val * 512 + i, by omega⟩ e).trans ?_)
  · unfold iblk; generalize V m c (Pipeline.arrRef spec0 0) = X; blk_ext [idx_val t]
  · blk_ext

/-- The block of the attention's output at a point. -/
theorem b1_at (t : Fin cfg0.N) (h : Fin 16) (d : Fin 64) (i : Fin 512) : (show FVec Ideal S1x16x64x512 .bf16 from iblk m c 1 t) (ix4 0 h d i)
    = a1 m c (ix3 ⟨t.val / 16, by have := lt_N t; omega⟩ ⟨t.val % 16 * 512 + i, by omega⟩ ⟨h * 64 + d, by omega⟩) := by
  have hN := lt_N t
  refine Eq.trans ?_ (v1_at m c ⟨t.val / 16, by omega⟩ h d ⟨t.val % 16 * 512 + i, by omega⟩)
  unfold iblk; generalize V m c (Pipeline.arrRef spec0 1) = X; blk_ext [idx_val t]

/-- The attention's output weights at a point: all of them. -/
theorem b2_at (t : Fin cfg0.N) (r e : Fin 1024) : (show FVec Ideal S1024x1024 .bf16 from iblk m c 2 t) (ix2 r e) = a2 m c (ix2 r e) := by
  refine Eq.trans ?_ (v2_at m c r e)
  unfold iblk; generalize V m c (Pipeline.arrRef spec0 2) = X; blk_ext [idx_val t]

/-- The gated unit's gain at a point. -/
theorem b3_at (t : Fin cfg0.N) (e : Fin 1024) : (show FVec Ideal S1x1024 .f32 from iblk m c 3 t) (ix2 0 e) = a3 m c (ix1 e) := by
  refine Eq.trans ?_ (v3_at m c e)
  unfold iblk; generalize V m c (Pipeline.arrRef spec0 3) = X; blk_ext [idx_val t]

/-- The gated unit's input weights at a point: all of them. -/
theorem b4_at (t : Fin cfg0.N) (d : Fin 1024) (f : Fin 5632) : (show FVec Ideal S1024x5632 .bf16 from iblk m c 4 t) (ix2 d f) = a4 m c (ix2 d f) := by
  refine Eq.trans ?_ (v4_at m c d f)
  unfold iblk; generalize V m c (Pipeline.arrRef spec0 4) = X; blk_ext [idx_val t]

/-- The gated unit's output weights at a point: all of them. -/
theorem b5_at (t : Fin cfg0.N) (f : Fin 2816) (e : Fin 1024) : (show FVec Ideal S2816x1024 .bf16 from iblk m c 5 t) (ix2 f e) = a5 m c (ix2 f e) := by
  refine Eq.trans ?_ (v5_at m c f e)
  unfold iblk; generalize V m c (Pipeline.arrRef spec0 5) = X; blk_ext [idx_val t]

/-- The last norm's gain at a point. -/
theorem b6_at (t : Fin cfg0.N) (e : Fin 1024) : (show FVec Ideal S1x1024 .f32 from iblk m c 6 t) (ix2 0 e) = a6 m c (ix1 e) := by
  refine Eq.trans ?_ (v6_at m c e)
  unfold iblk; generalize V m c (Pipeline.arrRef spec0 6) = X; blk_ext [idx_val t]

/-- The whole result, from the seven arguments. -/
def OUT : FVec Ideal S65536x1024 .f32 := fun y =>
  sbOut (a0 m c) (a1 m c) (a2 m c) (a3 m c) (a4 m c) (a5 m c) (a6 m c) ⟨(y 0 : ℕ) / 8192, by have : (y 0 : ℕ) < 65536 := (y 0).isLt; omega⟩ ⟨(y 0 : ℕ) % 8192, by omega⟩ (y 1)

/-- What a point leaves in its block, from the seven arguments. -/
theorem point_at (t : Fin cfg0.N) (i : Fin 512) (e : Fin 1024) : (show FVec Ideal S512x1024 .f32 from outsAt0 m c t) (ix2 i e)
    = sbOut (a0 m c) (a1 m c) (a2 m c) (a3 m c) (a4 m c) (a5 m c) (a6 m c) ⟨t.val / 16, by have := lt_N t; omega⟩
        ⟨t.val % 16 * 512 + i, by omega⟩ e := by
  refine (block_at m c t i e).trans ?_
  unfold sbOut
  have hr : rows m c t i = fun e => a0 m c (ix3 ⟨t.val / 16, by have := lt_N t; omega⟩ ⟨t.val % 16 * 512 + i, by omega⟩ e)
      + ∑ k : Fin 1024, a1 m c (ix3 ⟨t.val / 16, by have := lt_N t; omega⟩ ⟨t.val % 16 * 512 + i, by omega⟩ k) * a2 m c (ix2 k e) := by
    funext e
    unfold rows row
    refine congrArg₂ (· + ·) (b0_at m c t i e) (Finset.sum_congr rfl fun k _ => ?_)
    refine congrArg₂ (· * ·) ((b1_at m c t _ _ i).trans (congrArg (a1 m c) ?_)) (b2_at m c t k e)
    idx_ext
  rw [hr]
  simp only [b3_at, b4_at, b5_at, b6_at]

/-- The array the kernel leaves. -/
theorem final : (show FVec Ideal S65536x1024 .f32 from (dats m 0 c).arrAt 7 (cfgs 0).N) = OUT m c := by
  refine (dats m 0 c).arrAt_eq_of_covers 7 _ (by decide +kernel) fun t hf y => ?_
  have hN := lt_N t
  blk_simp
  rw [after0_7]
  refine (congrArg _ (show y = @ix2 512 1024 (y 0) (y 1) by idx_ext)).trans ((point_at m c t (y 0) (y 1)).trans ?_)
  unfold OUT
  blk_simp [idx_val t]
  have hy : (y 0 : ℕ) < 512 := (y 0).isLt
  refine congr (congrArg₂ (sbOut (a0 m c) (a1 m c) (a2 m c) (a3 m c) (a4 m c) (a5 m c) (a6 m c)) (Fin.ext ?_) (Fin.ext ?_)) (Fin.ext ?_)
  · show t.val / 16 = (t.val * 512 + (y 0 : ℕ)) / 8192; omega
  · show t.val % 16 * 512 + (y 0 : ℕ) = (t.val * 512 + (y 0 : ℕ)) % 8192; omega
  · blk_simp [idx_val t]

end Cert.Kernel2Ideal.Out

end
-- ==== Proof.SbOutRef.lean ====
/- The last call's part of the reference, entry by entry. -/
module

public import proofs.«01_k».proof.Proof.Gen.Reference2Ideal.Run
public import proofs.«01_k».proof.Proof.Ffn
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Reference2Ideal.Out

open Cert.Reference2Ideal Cert.Reference2Ideal.Gen Cert.Reference2Ideal.Value Cert.Ffn

/-- The rows with the attention's output product added. -/
def sumStage (x o : FVec Ideal S8x8192x1024 .f32) (w : FVec Ideal S1024x1024 .f32) : FVec Ideal S8x8192x1024 .f32 :=
  addf x (Host.dotGeneral dot_S8x8192x1024_S1024x1024_S8x8192x1024_2_0_01_1_n_n none o w)

/-- The root-mean-square norm of the rows, times a gain. -/
def normStage (u : FVec Ideal S8x8192x1024 .f32) (g : FVec Ideal S1024 .f32) : FVec Ideal S8x8192x1024 .f32 :=
  mulf (mulf u (broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf u u) (constant S_ .f32 0x00000000#32) reducesTo_S8x8192x1024_S8x8192_d2 h_S_))
    (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The product with the gated unit's input weights. -/
def inStage (h : FVec Ideal S8x8192x1024 .f32) (wi : FVec Ideal S1024x5632 .f32) : FVec Ideal S8x8192x5632 .f32 :=
  Host.dotGeneral dot_S8x8192x1024_S1024x5632_S8x8192x5632_2_0_01_1_n_n none h wi

/-- The gate's half. -/
def gateStage (z : FVec Ideal S8x8192x5632 .f32) : FVec Ideal S8x8192x2816 .f32 :=
  extractStridedSlice S8x8192x2816 ![0, 0, 0] z slices_S8x8192x5632_S8x8192x2816_0_0_0

/-- The gated product of the two halves. -/
def actStage (z : FVec Ideal S8x8192x5632 .f32) : FVec Ideal S8x8192x2816 .f32 :=
  mulf (mulf (gateStage z) (Host.divf (broadcastInDim S8x8192x2816 ![] bcast_S_S8x8192x2816 (constant S_ .f32 0x3F800000#32))
    (addf (broadcastInDim S8x8192x2816 ![] bcast_S_S8x8192x2816 (constant S_ .f32 0x3F800000#32)) (Host.exp (Host.negf (gateStage z))))))
    (extractStridedSlice S8x8192x2816 ![0, 0, 2816] z slices_S8x8192x5632_S8x8192x2816_0_0_2816)

/-- The rows with the gated unit's output product added. -/
def outStage (u : FVec Ideal S8x8192x1024 .f32) (a : FVec Ideal S8x8192x2816 .f32) (wo : FVec Ideal S2816x1024 .f32) : FVec Ideal S8x8192x1024 .f32 :=
  addf u (Host.dotGeneral dot_S8x8192x2816_S2816x1024_S8x8192x1024_2_0_01_1_n_n none a wo)

/-- An entry of the first sum. -/
theorem sum_at (x o : FVec Ideal S8x8192x1024 .f32) (w : FVec Ideal S1024x1024 .f32) (b : Fin 8) (s : Fin 8192) (e : Fin 1024) :
    sumStage x o w (ix3 b s e) = x (ix3 b s e) + ∑ k : Fin 1024, o (ix3 b s k) * w (ix2 k e) := by
  unfold sumStage
  pointwise

/-- An entry of the norm. -/
theorem norm_at (u : FVec Ideal S8x8192x1024 .f32) (g : FVec Ideal S1024 .f32) (b : Fin 8) (s : Fin 8192) (e : Fin 1024) :
    normStage u g (ix3 b s e) = nrm (fun e => u (ix3 b s e)) (fun e => g (ix1 e)) e := by
  unfold normStage nrm
  pointwise

/-- An entry of the product with the input weights. -/
theorem in_at (h : FVec Ideal S8x8192x1024 .f32) (wi : FVec Ideal S1024x5632 .f32) (b : Fin 8) (s : Fin 8192) (f : Fin 5632) :
    inStage h wi (ix3 b s f) = ∑ d : Fin 1024, h (ix3 b s d) * wi (ix2 d f) := by
  unfold inStage
  pointwise

/-- An entry of the gated product. -/
theorem act_at (z : FVec Ideal S8x8192x5632 .f32) (b : Fin 8) (s : Fin 8192) (f : Fin 2816) :
    actStage z (ix3 b s f) = z (ix3 b s ⟨f, by omega⟩) * Ideal.div 1 (1 + Ideal.exp (0 - z (ix3 b s ⟨f, by omega⟩))) * z (ix3 b s ⟨2816 + f, by omega⟩) := by
  unfold actStage gateStage
  rw [sub_eq_add_neg, zero_add]
  pointwise

/-- An entry of the second sum. -/
theorem out_at (u : FVec Ideal S8x8192x1024 .f32) (a : FVec Ideal S8x8192x2816 .f32) (wo : FVec Ideal S2816x1024 .f32) (b : Fin 8) (s : Fin 8192) (e : Fin 1024) :
    outStage u a wo (ix3 b s e) = u (ix3 b s e) + ∑ f : Fin 2816, a (ix3 b s f) * wo (ix2 f e) := by
  unfold outStage
  pointwise

variable (m : (ℓ : Loc nD τ sig) → Buf (Elt Ideal) ℓ) (c : Dev nD)

/-- The rows. -/
abbrev a0 : FVec Ideal S8x8192x1024 .f32 := m ((c.tc : Thread nD τ).loc main_arg0)
/-- The attention's output. -/
abbrev a1 : FVec Ideal S8x8192x1024 .f32 := m ((c.tc : Thread nD τ).loc main_arg1)
/-- The attention's output weights. -/
abbrev a2 : FVec Ideal S1024x1024 .f32 := m ((c.tc : Thread nD τ).loc main_arg2)
/-- The gated unit's gain. -/
abbrev a3 : FVec Ideal S1024 .f32 := m ((c.tc : Thread nD τ).loc main_arg3)
/-- The gated unit's input weights. -/
abbrev a4 : FVec Ideal S1024x5632 .f32 := m ((c.tc : Thread nD τ).loc main_arg4)
/-- The gated unit's output weights. -/
abbrev a5 : FVec Ideal S2816x1024 .f32 := m ((c.tc : Thread nD τ).loc main_arg5)
/-- The last norm's gain. -/
abbrev a6 : FVec Ideal S1024 .f32 := m ((c.tc : Thread nD τ).loc main_arg6)

/-- The composed term, in stages. -/
theorem result_stages : (show FVec Ideal S65536x1024 .f32 from res_main_v35 m c)
    = shapeCast S65536x1024 (normStage (outStage (sumStage (a0 m c) (a1 m c) (a2 m c))
        (actStage (inStage (normStage (sumStage (a0 m c) (a1 m c) (a2 m c)) (a3 m c)) (a4 m c))) (a5 m c)) (a6 m c))
        shapeCasts_S8x8192x1024_S65536x1024 := rfl

/-- An entry of the reference's result. -/
theorem result_at (r : Fin 65536) (e : Fin 1024) : (show FVec Ideal S65536x1024 .f32 from res_main_v35 m c) (ix2 r e)
    = sbOut (a0 m c) (a1 m c) (a2 m c) (a3 m c) (a4 m c) (a5 m c) (a6 m c) ⟨r / 8192, by omega⟩ ⟨r % 8192, by omega⟩ e := by
  rw [result_stages]
  generalize hb : (⟨r / 8192, by omega⟩ : Fin 8) = b
  generalize hs : (⟨r % 8192, by omega⟩ : Fin 8192) = s
  refine Eq.trans (b := normStage (outStage (sumStage (a0 m c) (a1 m c) (a2 m c))
        (actStage (inStage (normStage (sumStage (a0 m c) (a1 m c) (a2 m c)) (a3 m c)) (a4 m c))) (a5 m c)) (a6 m c) (ix3 b s e)) ?_ ?_
  · subst hb hs
    generalize normStage _ _ = X
    pointwise
  · rw [norm_at]
    unfold sbOut
    simp only [part_all, out_at, act_at, in_at, norm_at, sum_at]
    rfl

end Cert.Reference2Ideal.Out

end
-- ==== Proof.Gn.lean ====
/- The retention's output stage, entry by entry over the extended reals: each head's normalisation, the gate, and the output product in chunks of a head. -/
module

public import proofs.«01_k».proof.Proof.Ffn

@[expose] public section

noncomputable section

open Idealize.ShloMosaic

namespace Cert.Gn

/-- A head's value less the head's mean. -/
def cen (o : Fin 512 → EReal) (j : Fin 512) : EReal := o j - Ideal.div (∑ x, o x) (Ideal.ofBits .f32 0x44000000#32)

/-- A head's value less its mean, scaled to variance one. -/
def gnorm (o : Fin 512 → EReal) (j : Fin 512) : EReal :=
  cen o j * Ideal.rsqrt (Ideal.div (∑ x, cen o x * cen o x) (Ideal.ofBits .f32 0x44000000#32) + Ideal.ofBits .f32 0x3727C5AC#32)

/-- A value times the gate's sigmoid-weighted value. -/
def gated (g v : EReal) : EReal := g * Ideal.div 1 (1 + Ideal.exp (0 - g)) * v

/-- The gated, normalised output of a token's lane `k`. -/
def mix (o g n : Fin 2048 → EReal) (k : Fin 2048) : EReal :=
  gated (g k) (gnorm (fun j => o ⟨k / 512 * 512 + j, by omega⟩) ⟨k % 512, by omega⟩ * n k)

/-- Lane `k`'s product with its output weight at `e`; zero past the last lane. -/
def mterm (o g n : Fin 2048 → EReal) (W : Fin 2048 → Fin 1024 → EReal) (e : Fin 1024) (k : ℕ) : EReal :=
  if h : k < 2048 then mix o g n ⟨k, h⟩ * W ⟨k, h⟩ e else 0

/-- A row, and what the first `N` lanes add to it. -/
def mpart (x : Fin 1024 → EReal) (o g n : Fin 2048 → EReal) (W : Fin 2048 → Fin 1024 → EReal) (N : ℕ) (e : Fin 1024) : EReal :=
  x e + ∑ k ∈ Finset.range N, mterm o g n W e k

variable {x : Fin 1024 → EReal} {o g n : Fin 2048 → EReal} {W : Fin 2048 → Fin 1024 → EReal}

/-- Before the first lane there is the row alone. -/
theorem mpart_zero (e : Fin 1024) : mpart x o g n W 0 e = x e := by
  unfold mpart; rw [Finset.sum_range_zero, add_zero]

/-- After the last lane there is the row and the whole product. -/
theorem mpart_all (e : Fin 1024) : mpart x o g n W 2048 e = x e + ∑ k : Fin 2048, mix o g n k * W k e := by
  unfold mpart
  rw [Finset.sum_range]
  refine congrArg _ (Finset.sum_congr rfl fun k _ => ?_)
  unfold mterm
  rw [dif_pos k.isLt]

/-- A head's 512 lanes more. -/
theorem mpart_chunk (h : ℕ) (hh : h < 4) (e : Fin 1024) (acc : EReal) (O G M w : Fin 512 → EReal)
    (hacc : acc = mpart x o g n W (h * 512) e) (hO : ∀ j, O j = o ⟨h * 512 + j, by omega⟩) (hG : ∀ j, G j = g ⟨h * 512 + j, by omega⟩)
    (hM : ∀ j, M j = n ⟨h * 512 + j, by omega⟩) (hw : ∀ j, w j = W ⟨h * 512 + j, by omega⟩ e) :
    acc + ∑ k : Fin 512, gated (G k) (gnorm O k * M k) * w k = mpart x o g n W (h * 512 + 512) e := by
  unfold mpart at hacc ⊢
  rw [hacc, Finset.sum_range_add, ← add_assoc, Finset.sum_range (n := 512)]
  refine congrArg _ (Finset.sum_congr rfl fun k _ => ?_)
  unfold mterm mix
  have hk : h * 512 + (k : ℕ) < 2048 := by omega
  rw [dif_pos hk, hG, hM, hw]
  refine congrArg (fun z => gated _ (z * _) * _) ?_
  have e1 : O = fun j : Fin 512 => o ⟨(h * 512 + (k : ℕ)) / 512 * 512 + j, by omega⟩ := funext fun j =>
    (hO j).trans (congrArg o (Fin.ext (by show h * 512 + (j : ℕ) = (h * 512 + (k : ℕ)) / 512 * 512 + j; omega)))
  rw [e1]
  exact congrArg _ (Fin.ext (by show (k : ℕ) = (h * 512 + (k : ℕ)) % 512; omega))

/-- What the retention's output call leaves of a token: its row with the gated retention's product added, then the gated unit added. -/
def retOut (a0 : (⟨3, ![8, 8192, 1024]⟩ : Shape).Idx → EReal) (a1 a2 : (⟨2, ![65536, 2048]⟩ : Shape).Idx → EReal)
    (a3 : (⟨1, ![2048]⟩ : Shape).Idx → EReal) (a4 : (⟨2, ![2048, 1024]⟩ : Shape).Idx → EReal) (a5 : (⟨1, ![1024]⟩ : Shape).Idx → EReal)
    (a6 : (⟨2, ![1024, 5632]⟩ : Shape).Idx → EReal) (a7 : (⟨2, ![2816, 1024]⟩ : Shape).Idx → EReal) (r : Fin 65536) (e : Fin 1024) : EReal :=
  Cert.Ffn.part (fun e => mpart (fun e => a0 (ix3 ⟨r / 8192, by omega⟩ ⟨r % 8192, by omega⟩ e)) (fun k => a1 (ix2 r k)) (fun k => a2 (ix2 r k))
    (fun k => a3 (ix1 k)) (fun k e => a4 (ix2 k e)) 2048 e) (fun e => a5 (ix1 e)) (fun d f => a6 (ix2 d f)) (fun f e => a7 (ix2 f e)) 2816 e

end Cert.Gn

end
-- ==== Proof.RetOutKer.lean ====
/- The retention's output call: what its body leaves in the output block at a grid point. -/
module

public import proofs.«01_k».proof.Proof.Gn
public import proofs.«01_k».proof.Proof.Gen.Kernel3Ideal
public import proofs.«01_k».proof.Proof.Gen.Kernel3Ideal.Frame
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.Out

open Cert.Kernel3Ideal Cert.Kernel3Ideal.Gen Cert.Ffn Cert.Gn

/-- Every row of the block with the first `N` lanes of the retention's output added. -/
def IsMix (x : Fin 512 → Fin 1024 → EReal) (o g : Fin 512 → Fin 2048 → EReal) (n : Fin 2048 → EReal) (W : Fin 2048 → Fin 1024 → EReal)
    (N : ℕ) (T : (⟨2, ![512, 1024]⟩ : Shape).Idx → EReal) : Prop :=
  ∀ (i : Fin 512) (e : Fin 1024), T (ix2 i e) = mpart (x i) (o i) (g i) n W N e

/-- The body's first loop: a head's 512 lanes more in every row. -/
theorem head {x : Fin 512 → Fin 1024 → EReal} {o g : Fin 512 → Fin 2048 → EReal} {n : Fin 2048 → EReal} {W : Fin 2048 → Fin 1024 → EReal}
    (h : ℕ) (hh : h < 4) {o1 o2 o3 o4 : ℕ} {x1 : FVec Ideal S512x2048 .f32} {x2 : FVec Ideal S512x2048 .bf16} {x3 : FVec Ideal S1x2048 .f32}
    {x4 : FVec Ideal S2048x1024 .bf16} {acc : FVec Ideal S512x1024 .f32}
    (h1 : ∀ a, (![0, o1] : Fin 2 → ℕ) a + S512x512.size a ≤ S512x2048.size a)
    (h2 : ∀ a, (![0, o2] : Fin 2 → ℕ) a + S512x512.size a ≤ S512x2048.size a)
    (h3 : ∀ a, (![0, o3] : Fin 2 → ℕ) a + S1x512.size a ≤ S1x2048.size a)
    (h4 : ∀ a, (![o4, 0] : Fin 2 → ℕ) a + S512x1024.size a ≤ S2048x1024.size a)
    (e1 : o1 = h * 512) (e2 : o2 = h * 512) (e3 : o3 = h * 512) (e4 : o4 = h * 512)
    (hx1 : ∀ i k, x1 (ix2 i k) = o i k) (hx2 : ∀ i k, x2 (ix2 i k) = g i k) (hx3 : ∀ k, x3 (ix2 0 k) = n k) (hx4 : ∀ k e, x4 (ix2 k e) = W k e)
    (hacc : IsMix x o g n W (h * 512) acc) :
    IsMix x o g n W (h * 512 + 512) (k0_pay3 (F := Ideal) acc
      (View.ld (Val := Elt Ideal) (e' := .f32) x1 (Rect.unit ![0, o1] ![512, 512] h1))
      (View.ld (Val := Elt Ideal) (e' := .f32) x3 (Rect.unit ![0, o3] ![1, 512] h3))
      (View.ld (Val := Elt Ideal) (e' := .bf16) x2 (Rect.unit ![0, o2] ![512, 512] h2))
      (View.ld (Val := Elt Ideal) (e' := .bf16) x4 (Rect.unit ![o4, 0] ![512, 1024] h4))) := fun i e => by
  subst e1 e2 e3 e4
  unfold k0_pay3
  generalize hO : View.ld (Val := Elt Ideal) (e' := .f32) x1 (Rect.unit ![0, h * 512] ![512, 512] h1) = O
  generalize hG : View.ld (Val := Elt Ideal) (e' := .bf16) x2 (Rect.unit ![0, h * 512] ![512, 512] h2) = G
  generalize hM : View.ld (Val := Elt Ideal) (e' := .f32) x3 (Rect.unit ![0, h * 512] ![1, 512] h3) = M
  generalize hV : View.ld (Val := Elt Ideal) (e' := .bf16) x4 (Rect.unit ![h * 512, 0] ![512, 1024] h4) = V
  pointwise
  refine mpart_chunk h hh e _ (fun k => O (ix2 i k)) (fun k => G (ix2 i k)) (fun k => M (ix2 0 k)) (fun k => V (ix2 k e))
    (hacc i e) (fun k => ?_) (fun k => ?_) (fun k => ?_) (fun k => ?_)
  · subst hO
    exact (congrArg x1 (show _ = ix2 i ⟨h * 512 + k, by omega⟩ by idx_ext)).trans (hx1 _ _)
  · subst hG
    exact (congrArg x2 (show _ = ix2 i ⟨h * 512 + k, by omega⟩ by idx_ext)).trans (hx2 _ _)
  · subst hM
    exact (congrArg x3 (show _ = ix2 0 ⟨h * 512 + k, by omega⟩ by idx_ext)).trans (hx3 _)
  · subst hV
    exact (congrArg x4 (show _ = ix2 ⟨h * 512 + k, by omega⟩ e by idx_ext)).trans (hx4 _ _)

/-- Every row of the block with the first `N` hidden units added. -/
def IsPart (u : Fin 512 → Fin 1024 → EReal) (g : Fin 1024 → EReal) (Wi : Fin 1024 → Fin 5632 → EReal) (Wo : Fin 2816 → Fin 1024 → EReal)
    (N : ℕ) (T : (⟨2, ![512, 1024]⟩ : Shape).Idx → EReal) : Prop :=
  ∀ (i : Fin 512) (e : Fin 1024), T (ix2 i e) = part (u i) g Wi Wo N e

/-- The body's second loop: 256 hidden units more in every row. -/
theorem chunk {u : Fin 512 → Fin 1024 → EReal} {g : Fin 1024 → EReal} {Wi : Fin 1024 → Fin 5632 → EReal} {Wo : Fin 2816 → Fin 1024 → EReal}
    (N : ℕ) (hN : N + 256 ≤ 2816) {o1 o2 o3 : ℕ} {x6 : FVec Ideal S1024x5632 .bf16} {x7 : FVec Ideal S2816x1024 .bf16}
    {H : FVec Ideal S512x1024 .f32} {acc : FVec Ideal S512x1024 .f32}
    (h1 : ∀ a, (![0, o1] : Fin 2 → ℕ) a + S1024x256.size a ≤ S1024x5632.size a)
    (h2 : ∀ a, (![0, o2] : Fin 2 → ℕ) a + S1024x256.size a ≤ S1024x5632.size a)
    (h3 : ∀ a, (![o3, 0] : Fin 2 → ℕ) a + S256x1024.size a ≤ S2816x1024.size a)
    (e1 : o1 = N) (e2 : o2 = 2816 + N) (e3 : o3 = N)
    (hH : ∀ i d, H (ix2 i d) = nrm (u i) g d)
    (h6 : ∀ d f, x6 (ix2 d f) = Wi d f) (h7 : ∀ f e, x7 (ix2 f e) = Wo f e) (hacc : IsPart u g Wi Wo N acc) :
    IsPart u g Wi Wo (N + 256) (k0_pay11 (F := Ideal) H
      (View.ld (Val := Elt Ideal) (e' := .bf16) x6 (Rect.unit ![0, o1] ![1024, 256] h1))
      (View.ld (Val := Elt Ideal) (e' := .bf16) x6 (Rect.unit ![0, o2] ![1024, 256] h2)) acc
      (View.ld (Val := Elt Ideal) (e' := .bf16) x7 (Rect.unit ![o3, 0] ![256, 1024] h3))) := fun i e => by
  subst e1 e2 e3
  unfold k0_pay11 k0_pay10
  generalize hA : View.ld (Val := Elt Ideal) (e' := .bf16) x6 (Rect.unit ![0, o3] ![1024, 256] h1) = A
  generalize hB : View.ld (Val := Elt Ideal) (e' := .bf16) x6 (Rect.unit ![0, 2816 + o3] ![1024, 256] h2) = B
  generalize hW : View.ld (Val := Elt Ideal) (e' := .bf16) x7 (Rect.unit ![o3, 0] ![256, 1024] h3) = W
  pointwise
  refine part_chunk o3 hN e (fun d => H (ix2 i d)) _ (fun d k => A (ix2 d k)) (fun d k => B (ix2 d k)) (fun k => W (ix2 k e))
    (fun d => hH i d) (hacc i e) (fun d k => ?_) (fun d k => ?_) (fun k => ?_)
  · subst hA
    exact (congrArg x6 (show _ = ix2 d ⟨o3 + k, by omega⟩ by idx_ext)).trans (h6 _ _)
  · subst hB
    exact (congrArg x6 (show _ = ix2 d ⟨2816 + (o3 + k), by omega⟩ by idx_ext)).trans (h6 _ _)
  · subst hW
    exact (congrArg x7 (show _ = ix2 ⟨o3 + k, by omega⟩ e by idx_ext)).trans (h7 _ _)

/-- The rows normalised for the gated unit. -/
theorem nrm_at (y1 : FVec Ideal S512x1024 .f32) (y2 y3 : FVec Ideal S512x512 .f32) (y4 : FVec Ideal S1x512 .f32) (y5 : FVec Ideal S512x512 .bf16)
    (y6 : FVec Ideal S512x1024 .bf16) (x5 : FVec Ideal S1x1024 .f32) (i : Fin 512) (d : Fin 1024) :
    (show FVec Ideal S512x1024 .f32 from k0_pay9 (F := Ideal) y1 y2 y3 y4 y5 y6 x5) (ix2 i d)
      = nrm (fun e => k0_pay8 (F := Ideal) y1 y2 y3 y4 y5 y6 (ix2 i e)) (fun e => x5 (ix2 0 e)) d := by
  unfold nrm k0_pay9
  generalize k0_pay8 (F := Ideal) y1 y2 y3 y4 y5 y6 = U
  pointwise

/-- A block taken as it is. -/
theorem same_at (x0 : FVec Ideal S512x1024 .f32) (i : Fin 512) (e : Fin 1024) :
    (shapeCast S512x1024 x0 shapeCasts_S512x1024_S512x1024 : FVec Ideal S512x1024 .f32) (ix2 i e) = x0 (ix2 i e) := by
  pointwise

variable (m : (ℓ : Loc nD τ sig) → Buf (Elt Ideal) ℓ) (c : Dev nD)

/-- The row that the retention's output product makes of a token of a block. -/
def row (x0 : FVec Ideal S512x1024 .f32) (x1 : FVec Ideal S512x2048 .f32) (x2 : FVec Ideal S512x2048 .bf16) (x3 : FVec Ideal S1x2048 .f32)
    (x4 : FVec Ideal S2048x1024 .bf16) (i : Fin 512) (e : Fin 1024) : EReal :=
  mpart (fun e => x0 (ix2 i e)) (fun k => x1 (ix2 i k)) (fun k => x2 (ix2 i k)) (fun k => x3 (ix2 0 k)) (fun k e => x4 (ix2 k e)) 2048 e

/-- The rows of a grid point's block after its four heads. -/
abbrev rows (t : Fin cfg0.N) : Fin 512 → Fin 1024 → EReal := row (iblk m c 0 t) (iblk m c 1 t) (iblk m c 2 t) (iblk m c 3 t) (iblk m c 4 t)

/-- The output block of a grid point: every row with the gated retention's product added, normed, sent through the gated unit, and that added. -/
theorem block_at (t : Fin cfg0.N) (i : Fin 512) (e : Fin 1024) :
    (show FVec Ideal S512x1024 .f32 from outsAt0 m c t) (ix2 i e)
      = part (rows m c t i) (fun e => (show FVec Ideal S1x1024 .f32 from iblk m c 5 t) (ix2 0 e))
          (fun d f => (show FVec Ideal S1024x5632 .bf16 from iblk m c 6 t) (ix2 d f))
          (fun f e => (show FVec Ideal S2816x1024 .bf16 from iblk m c 7 t) (ix2 f e)) 2816 e := by
  unfold rows outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_out
  have m0 : IsMix (fun i e => (show FVec Ideal S512x1024 .f32 from x0) (ix2 i e)) (fun i k => (show FVec Ideal S512x2048 .f32 from x1) (ix2 i k))
      (fun i k => (show FVec Ideal S512x2048 .bf16 from x2) (ix2 i k)) (fun k => (show FVec Ideal S1x2048 .f32 from x3) (ix2 0 k))
      (fun k e => (show FVec Ideal S2048x1024 .bf16 from x4) (ix2 k e)) 0 (shapeCast S512x1024 (show FVec Ideal S512x1024 .f32 from x0) shapeCasts_S512x1024_S512x1024) :=
    fun i e => by rw [mpart_zero]; exact same_at x0 i e
  have hstep := fun h hh o1 o2 o3 o4 acc h1 h2 h3 h4 e1 e2 e3 e4 => head (x := fun i e => (show FVec Ideal S512x1024 .f32 from x0) (ix2 i e))
    (o := fun i k => (show FVec Ideal S512x2048 .f32 from x1) (ix2 i k)) (g := fun i k => (show FVec Ideal S512x2048 .bf16 from x2) (ix2 i k))
    (n := fun k => (show FVec Ideal S1x2048 .f32 from x3) (ix2 0 k)) (W := fun k e => (show FVec Ideal S2048x1024 .bf16 from x4) (ix2 k e))
    h hh (o1 := o1) (o2 := o2) (o3 := o3) (o4 := o4) (x1 := x1) (x2 := x2) (x3 := x3) (x4 := x4) (acc := acc) h1 h2 h3 h4 e1 e2 e3 e4
    (fun _ _ => rfl) (fun _ _ => rfl) (fun _ => rfl) (fun _ _ => rfl)
  have m4 := hstep 3 (by norm_num) _ _ _ _ _ inb_S512x2048_S512x512_0_1536 inb_S512x2048_S512x512_0_1536 inb_S1x2048_S1x512_0_1536 inb_S2048x1024_S512x1024_1536_0 rfl rfl rfl rfl
    (hstep 2 (by norm_num) _ _ _ _ _ inb_S512x2048_S512x512_0_1024 inb_S512x2048_S512x512_0_1024 inb_S1x2048_S1x512_0_1024 inb_S2048x1024_S512x1024_1024_0 rfl rfl rfl rfl
    (hstep 1 (by norm_num) _ _ _ _ _ inb_S512x2048_S512x512_0_512 inb_S512x2048_S512x512_0_512 inb_S1x2048_S1x512_0_512 inb_S2048x1024_S512x1024_512_0 rfl rfl rfl rfl
    (hstep 0 (by norm_num) _ _ _ _ _ inb_S512x2048_S512x512_0_0 inb_S512x2048_S512x512_0_0 inb_S1x2048_S1x512_0_0 inb_S2048x1024_S512x1024_0_0 rfl rfl rfl rfl m0)))
  generalize hHd : k0_pay9 (F := Ideal) _ _ _ _ _ _ _ = H
  generalize hU : k0_pay8 (F := Ideal) _ _ _ _ _ _ = U
  have hu : ∀ i e, U (ix2 i e) = row x0 x1 x2 x3 x4 i e := fun i e => by subst hU; exact m4 i e
  have hH : ∀ i d, H (ix2 i d) = nrm (row x0 x1 x2 x3 x4 i) (fun e => (show FVec Ideal S1x1024 .f32 from x5) (ix2 0 e)) d := fun i d => by
    subst hHd
    exact (nrm_at _ _ _ _ _ _ _ i d).trans (congrArg (fun z => nrm z _ d) (funext fun e => m4 i e))
  have c0 : IsPart (row x0 x1 x2 x3 x4) (fun e => (show FVec Ideal S1x1024 .f32 from x5) (ix2 0 e))
      (fun d f => (show FVec Ideal S1024x5632 .bf16 from x6) (ix2 d f)) (fun f e => (show FVec Ideal S2816x1024 .bf16 from x7) (ix2 f e)) 0 U :=
    fun i e => (hu i e).trans (part_zero e).symm
  have step := fun N hN o1 o2 o3 acc h1 h2 h3 e1 e2 e3 => chunk (u := row x0 x1 x2 x3 x4) (g := fun e => (show FVec Ideal S1x1024 .f32 from x5) (ix2 0 e))
    (Wi := fun d f => (show FVec Ideal S1024x5632 .bf16 from x6) (ix2 d f)) (Wo := fun f e => (show FVec Ideal S2816x1024 .bf16 from x7) (ix2 f e))
    N hN (o1 := o1) (o2 := o2) (o3 := o3) (x6 := x6) (x7 := x7) (acc := acc) h1 h2 h3 e1 e2 e3 hH (fun _ _ => rfl) (fun _ _ => rfl)
  exact step 2560 (by norm_num) _ _ _ _ _ _ _ rfl rfl rfl
    (step 2304 (by norm_num) _ _ _ _ _ _ _ rfl rfl rfl
    (step 2048 (by norm_num) _ _ _ _ _ _ _ rfl rfl rfl
    (step 1792 (by norm_num) _ _ _ _ _ _ _ rfl rfl rfl
    (step 1536 (by norm_num) _ _ _ _ _ _ _ rfl rfl rfl
    (step 1280 (by norm_num) _ _ _ _ _ _ _ rfl rfl rfl
    (step 1024 (by norm_num) _ _ _ _ _ _ _ rfl rfl rfl
    (step 768 (by norm_num) _ _ _ _ _ _ _ rfl rfl rfl
    (step 512 (by norm_num) _ _ _ _ _ _ _ rfl rfl rfl
    (step 256 (by norm_num) _ _ _ _ _ _ _ rfl rfl rfl
    (step 0 (by norm_num) _ _ _ _ (by decide) (by decide) (by decide) rfl rfl rfl c0)))))))))) i e

end Cert.Kernel3Ideal.Out

end
-- ==== Proof.RetOutValue.lean ====
/- The retention's output call: the arrays its blocks are cut from, and the array it leaves. -/
module

public import proofs.«01_k».proof.Proof.RetOutKer
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel3Ideal.Out

open Cert.Kernel3Ideal Cert.Kernel3Ideal.Gen Cert.Ffn Cert.Gn

/-- Every window's block index at a grid point: the blocks of rows in order, the weights whole. -/
theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

variable (m : (ℓ : Loc nD τ sig) → Buf (Elt Ideal) ℓ) (c : Dev nD)

/-- The tokens' rows. -/
abbrev a0 : FVec Ideal S8x8192x1024 .f32 := m ((c.tc : Thread nD τ).loc main_arg0)
/-- The retention's output. -/
abbrev a1 : FVec Ideal S65536x2048 .f32 := m ((c.tc : Thread nD τ).loc main_arg1)
/-- The gate. -/
abbrev a2 : FVec Ideal S65536x2048 .bf16 := m ((c.tc : Thread nD τ).loc main_arg2)
/-- The group norm's gain. -/
abbrev a3 : FVec Ideal S2048 .f32 := m ((c.tc : Thread nD τ).loc main_arg3)
/-- The retention's output weights. -/
abbrev a4 : FVec Ideal S2048x1024 .f32 := m ((c.tc : Thread nD τ).loc main_arg4)
/-- The gated unit's gain. -/
abbrev a5 : FVec Ideal S1024 .f32 := m ((c.tc : Thread nD τ).loc main_arg5)
/-- The gated unit's input weights. -/
abbrev a6 : FVec Ideal S1024x5632 .f32 := m ((c.tc : Thread nD τ).loc main_arg6)
/-- The gated unit's output weights. -/
abbrev a7 : FVec Ideal S2816x1024 .f32 := m ((c.tc : Thread nD τ).loc main_arg7)

/-- The rows as the host reshapes them. -/
theorem v0_at (r : Fin 65536) (e : Fin 1024) : (show FVec Ideal S65536x1024 .f32 from V m c main_v0) (ix2 r e)
    = a0 m c (ix3 ⟨r / 8192, by omega⟩ ⟨r % 8192, by omega⟩ e) := by
  unfold V
  after_reads_at

/-- The group norm's gain, as a row. -/
theorem v3_at (e : Fin 2048) : (show FVec Ideal S1x2048 .f32 from V m c main_v1) (ix2 0 e) = a3 m c (ix1 e) := by
  unfold V
  after_reads_at

/-- The retention's output weights, cast. -/
theorem v4_at (k : Fin 2048) (e : Fin 1024) : (show FVec Ideal S2048x1024 .bf16 from V m c main_v2) (ix2 k e) = a4 m c (ix2 k e) := by
  unfold V
  after_reads_at

/-- The gated unit's gain, as a row. -/
theorem v5_at (e : Fin 1024) : (show FVec Ideal S1x1024 .f32 from V m c main_v3) (ix2 0 e) = a5 m c (ix1 e) := by
  unfold V
  after_reads_at

/-- The gated unit's input weights, cast. -/
theorem v6_at (d : Fin 1024) (f : Fin 5632) : (show FVec Ideal S1024x5632 .bf16 from V m c main_v4) (ix2 d f) = a6 m c (ix2 d f) := by
  unfold V
  after_reads_at

/-- The gated unit's output weights, cast. -/
theorem v7_at (f : Fin 2816) (e : Fin 1024) : (show FVec Ideal S2816x1024 .bf16 from V m c main_v5) (ix2 f e) = a7 m c (ix2 f e) := by
  unfold V
  after_reads_at

/-- The grid has 128 points. -/
theorem lt_N (t : Fin cfg0.N) : t.val < 128 := lt_of_lt_of_eq t.isLt (by decide +kernel)

/-- The number of a block's row in the whole array. -/
def rowOf (t : Fin cfg0.N) (i : Fin 512) : Fin 65536 := ⟨t.val * 512 + i, by have := lt_N t; omega⟩

/-- The block of rows at a point. -/
theorem b0_at (t : Fin cfg0.N) (i : Fin 512) (e : Fin 1024) : (show FVec Ideal S512x1024 .f32 from iblk m c 0 t) (ix2 i e)
    = a0 m c (ix3 ⟨rowOf t i / 8192, by omega⟩ ⟨rowOf t i % 8192, by omega⟩ e) := by
  have hN := lt_N t
  refine Eq.trans ?_ (v0_at m c (rowOf t i) e)
  unfold iblk rowOf; generalize V m c (Pipeline.arrRef spec0 0) = X; blk_ext [idx_val t]

/-- The block of the retention's output at a point. -/
theorem b1_at (t : Fin cfg0.N) (i : Fin 512) (k : Fin 2048) : (show FVec Ideal S512x2048 .f32 from iblk m c 1 t) (ix2 i k)
    = a1 m c (ix2 (rowOf t i) k) := by
  have hN := lt_N t
  unfold rowOf
  blk_point [iblk, V, idx_val t]

/-- The block of the gate at a point. -/
theorem b2_at (t : Fin cfg0.N) (i : Fin 512) (k : Fin 2048) : (show FVec Ideal S512x2048 .bf16 from iblk m c 2 t) (ix2 i k)
    = a2 m c (ix2 (rowOf t i) k) := by
  have hN := lt_N t
  unfold rowOf
  blk_point [iblk, V, idx_val t]

/-- The group norm's gain at a point. -/
theorem b3_at (t : Fin cfg0.N) (e : Fin 2048) : (show FVec Ideal S1x2048 .f32 from iblk m c 3 t) (ix2 0 e) = a3 m c (ix1 e) := by
  refine Eq.trans ?_ (v3_at m c e)
  unfold iblk; generalize V m c (Pipeline.arrRef spec0 3) = X; blk_ext [idx_val t]

/-- The retention's output weights at a point: all of them. -/
theorem b4_at (t : Fin cfg0.N) (k : Fin 2048) (e : Fin 1024) : (show FVec Ideal S2048x1024 .bf16 from iblk m c 4 t) (ix2 k e) = a4 m c (ix2 k e) := by
  refine Eq.trans ?_ (v4_at m c k e)
  unfold iblk; generalize V m c (Pipeline.arrRef spec0 4) = X; blk_ext [idx_val t]

/-- The gated unit's gain at a point. -/
theorem b5_at (t : Fin cfg0.N) (e : Fin 1024) : (show FVec Ideal S1x1024 .f32 from iblk m c 5 t) (ix2 0 e) = a5 m c (ix1 e) := by
  refine Eq.trans ?_ (v5_at m c e)
  unfold iblk; generalize V m c (Pipeline.arrRef spec0 5) = X; blk_ext [idx_val t]

/-- The gated unit's input weights at a point: all of them. -/
theorem b6_at (t : Fin cfg0.N) (d : Fin 1024) (f : Fin 5632) : (show FVec Ideal S1024x5632 .bf16 from iblk m c 6 t) (ix2 d f) = a6 m c (ix2 d f) := by
  refine Eq.trans ?_ (v6_at m c d f)
  unfold iblk; generalize V m c (Pipeline.arrRef spec0 6) = X; blk_ext [idx_val t]

/-- The gated unit's output weights at a point: all of them. -/
theorem b7_at (t : Fin cfg0.N) (f : Fin 2816) (e : Fin 1024) : (show FVec Ideal S2816x1024 .bf16 from iblk m c 7 t) (ix2 f e) = a7 m c (ix2 f e) := by
  refine Eq.trans ?_ (v7_at m c f e)
  unfold iblk; generalize V m c (Pipeline.arrRef spec0 7) = X; blk_ext [idx_val t]

/-- The whole result, from the arguments. -/
def OUT : FVec Ideal S65536x1024 .f32 := fun y =>
  retOut (a0 m c) (a1 m c) (a2 m c) (a3 m c) (a4 m c) (a5 m c) (a6 m c) (a7 m c) (y 0) (y 1)

/-- What a point leaves in its block, from the arguments. -/
theorem point_at (t : Fin cfg0.N) (i : Fin 512) (e : Fin 1024) : (show FVec Ideal S512x1024 .f32 from outsAt0 m c t) (ix2 i e)
    = retOut (a0 m c) (a1 m c) (a2 m c) (a3 m c) (a4 m c) (a5 m c) (a6 m c) (a7 m c) (rowOf t i) e := by
  refine (block_at m c t i e).trans ?_
  unfold retOut rows row
  simp only [b0_at, b1_at, b2_at, b3_at, b4_at, b5_at, b6_at, b7_at]

/-- The array the kernel leaves. -/
theorem final : (show FVec Ideal S65536x1024 .f32 from (dats m 0 c).arrAt 9 (cfgs 0).N) = OUT m c := by
  refine (dats m 0 c).arrAt_eq_of_covers 9 _ (by decide +kernel) fun t hf y => ?_
  have hN := lt_N t
  blk_simp
  rw [after0_9]
  refine (congrArg _ (show y = @ix2 512 1024 (y 0) (y 1) by idx_ext)).trans ((point_at m c t (y 0) (y 1)).trans ?_)
  unfold OUT rowOf
  refine congr (congrArg (retOut (a0 m c) (a1 m c) (a2 m c) (a3 m c) (a4 m c) (a5 m c) (a6 m c) (a7 m c)) (Fin.ext ?_)) (Fin.ext ?_)
  · blk_simp [idx_val t]
  · blk_simp [idx_val t]

end Cert.Kernel3Ideal.Out

end
-- ==== Proof.RetOutRef.lean ====
/- The retention's output stage of the reference, entry by entry. -/
module

public import proofs.«01_k».proof.Proof.Gn
public import proofs.«01_k».proof.Proof.Gen.Reference3Ideal.Run
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Reference3Ideal.Out

open Cert.Reference3Ideal Cert.Reference3Ideal.Gen Cert.Reference3Ideal.Value Cert.Ffn Cert.Gn

/-- The retention's output by batch and head. -/
def headStage (o : FVec Ideal S65536x2048 .f32) : FVec Ideal S8x4x8192x512 .f32 :=
  transpose S8x4x8192x512 [0, 2, 1, 3] (shapeCast S8x8192x4x512 o shapeCasts_S65536x2048_S8x8192x4x512) transposes_S8x8192x4x512_S8x4x8192x512_0_2_1_3

/-- Every head's mean over its lanes. -/
def meanStage (o : FVec Ideal S8x4x8192x512 .f32) : FVec Ideal S8x4x8192x1 .f32 :=
  Host.divf (broadcastInDim S8x4x8192x1 ![0, 1, 2] bcast_S8x4x8192_S8x4x8192x1_0_1_2
    (Host.reduceAdd o (constant S_ .f32 0x00000000#32) reducesTo_S8x4x8192x512_S8x4x8192_d3 h_S_)) (broadcastInDim S8x4x8192x1 ![] bcast_S_S8x4x8192x1 (constant S_ .f32 0x44000000#32))

/-- The heads less their means. -/
def cenStage (o : FVec Ideal S8x4x8192x512 .f32) : FVec Ideal S8x4x8192x512 .f32 :=
  subf o (broadcastInDim S8x4x8192x512 ![0, 1, 2, 3] bcast_S8x4x8192x1_S8x4x8192x512_0_1_2_3 (meanStage o))

/-- The centred heads scaled to variance one. -/
def scaleStage (o : FVec Ideal S8x4x8192x512 .f32) : FVec Ideal S8x4x8192x512 .f32 :=
  mulf o (broadcastInDim S8x4x8192x512 ![0, 1, 2, 3] bcast_S8x4x8192x1_S8x4x8192x512_0_1_2_3 (Host.rsqrt (addf (meanStage (mulf o o))
    (broadcastInDim S8x4x8192x1 ![] bcast_S_S8x4x8192x1 (constant S_ .f32 0x3727C5AC#32)))))

/-- The heads side by side again, times a gain. -/
def gainStage (o : FVec Ideal S8x4x8192x512 .f32) (n : FVec Ideal S2048 .f32) : FVec Ideal S8x8192x2048 .f32 :=
  mulf (shapeCast S8x8192x2048 (transpose S8x8192x4x512 [0, 2, 1, 3] o transposes_S8x4x8192x512_S8x8192x4x512_0_2_1_3) shapeCasts_S8x8192x4x512_S8x8192x2048)
    (broadcastInDim S8x8192x2048 ![0, 1, 2] bcast_S1x1x2048_S8x8192x2048_0_1_2 (broadcastInDim S1x1x2048 ![2] bcast_S2048_S1x1x2048_2 n))

/-- The gate as the reference reads it. -/
def gate3 (g : FVec Ideal S65536x2048 .bf16) : FVec Ideal S8x8192x2048 .f32 :=
  extf .f32 (shapeCast S8x8192x2048 g shapeCasts_S65536x2048_S8x8192x2048) bitsLt_bf16_f32

/-- The gate's sigmoid-weighted value times the normalised heads. -/
def mixStage (g o : FVec Ideal S8x8192x2048 .f32) : FVec Ideal S8x8192x2048 .f32 :=
  mulf (mulf g (Host.divf (broadcastInDim S8x8192x2048 ![] bcast_S_S8x8192x2048 (constant S_ .f32 0x3F800000#32))
    (addf (broadcastInDim S8x8192x2048 ![] bcast_S_S8x8192x2048 (constant S_ .f32 0x3F800000#32)) (Host.exp (Host.negf g))))) o

/-- The rows with the retention's output product added. -/
def sumStage (x : FVec Ideal S8x8192x1024 .f32) (y : FVec Ideal S8x8192x2048 .f32) (w : FVec Ideal S2048x1024 .f32) : FVec Ideal S8x8192x1024 .f32 :=
  addf x (Host.dotGeneral dot_S8x8192x2048_S2048x1024_S8x8192x1024_2_0_01_1_n_n none y w)

/-- The root-mean-square norm of the rows, times a gain. -/
def normStage (u : FVec Ideal S8x8192x1024 .f32) (g : FVec Ideal S1024 .f32) : FVec Ideal S8x8192x1024 .f32 :=
  mulf (mulf u (broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf u u) (constant S_ .f32 0x00000000#32) reducesTo_S8x8192x1024_S8x8192_d2 h_S_))
    (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The product with the gated unit's input weights. -/
def inStage (h : FVec Ideal S8x8192x1024 .f32) (wi : FVec Ideal S1024x5632 .f32) : FVec Ideal S8x8192x5632 .f32 :=
  Host.dotGeneral dot_S8x8192x1024_S1024x5632_S8x8192x5632_2_0_01_1_n_n none h wi

/-- The gate's half. -/
def gateStage (z : FVec Ideal S8x8192x5632 .f32) : FVec Ideal S8x8192x2816 .f32 :=
  extractStridedSlice S8x8192x2816 ![0, 0, 0] z slices_S8x8192x5632_S8x8192x2816_0_0_0

/-- The gated product of the two halves. -/
def actStage (z : FVec Ideal S8x8192x5632 .f32) : FVec Ideal S8x8192x2816 .f32 :=
  mulf (mulf (gateStage z) (Host.divf (broadcastInDim S8x8192x2816 ![] bcast_S_S8x8192x2816 (constant S_ .f32 0x3F800000#32))
    (addf (broadcastInDim S8x8192x2816 ![] bcast_S_S8x8192x2816 (constant S_ .f32 0x3F800000#32)) (Host.exp (Host.negf (gateStage z))))))
    (extractStridedSlice S8x8192x2816 ![0, 0, 2816] z slices_S8x8192x5632_S8x8192x2816_0_0_2816)

/-- The rows with the gated unit's output product added. -/
def outStage (u : FVec Ideal S8x8192x1024 .f32) (a : FVec Ideal S8x8192x2816 .f32) (wo : FVec Ideal S2816x1024 .f32) : FVec Ideal S8x8192x1024 .f32 :=
  addf u (Host.dotGeneral dot_S8x8192x2816_S2816x1024_S8x8192x1024_2_0_01_1_n_n none a wo)

/-- An entry of a head. -/
theorem head_at (o : FVec Ideal S65536x2048 .f32) (b : Fin 8) (h : Fin 4) (s : Fin 8192) (j : Fin 512) :
    headStage o (ix4 b h s j) = o (ix2 ⟨b * 8192 + s, by omega⟩ ⟨h * 512 + j, by omega⟩) := by
  unfold headStage
  pointwise

/-- A head's mean. -/
theorem mean_at (o : FVec Ideal S8x4x8192x512 .f32) (b : Fin 8) (h : Fin 4) (s : Fin 8192) :
    meanStage o (ix4 b h s 0) = Ideal.div (∑ j, o (ix4 b h s j)) (Ideal.ofBits .f32 0x44000000#32) := by
  unfold meanStage
  pointwise

/-- A centred entry. -/
theorem cen_at (o : FVec Ideal S8x4x8192x512 .f32) (b : Fin 8) (h : Fin 4) (s : Fin 8192) (j : Fin 512) :
    cenStage o (ix4 b h s j) = cen (fun j => o (ix4 b h s j)) j := by
  unfold cen
  rw [← mean_at]
  unfold cenStage
  generalize meanStage o = M
  pointwise

/-- A scaled entry. -/
theorem scale_at (o : FVec Ideal S8x4x8192x512 .f32) (b : Fin 8) (h : Fin 4) (s : Fin 8192) (j : Fin 512) :
    scaleStage o (ix4 b h s j) = o (ix4 b h s j) * Ideal.rsqrt (Ideal.div (∑ j, o (ix4 b h s j) * o (ix4 b h s j)) (Ideal.ofBits .f32 0x44000000#32)
      + Ideal.ofBits .f32 0x3727C5AC#32) := by
  refine Eq.trans (b := o (ix4 b h s j) * Ideal.rsqrt (meanStage (mulf o o) (ix4 b h s 0) + Ideal.ofBits .f32 0x3727C5AC#32)) ?_ ?_
  · unfold scaleStage
    generalize meanStage (mulf o o) = M
    pointwise
  · rw [mean_at]
    pointwise

/-- An entry of the heads side by side. -/
theorem gain_at (o : FVec Ideal S8x4x8192x512 .f32) (n : FVec Ideal S2048 .f32) (b : Fin 8) (s : Fin 8192) (k : Fin 2048) :
    gainStage o n (ix3 b s k) = o (ix4 b ⟨k / 512, by omega⟩ s ⟨k % 512, by omega⟩) * n (ix1 k) := by
  unfold gainStage
  pointwise

/-- An entry of the gate. -/
theorem gate3_at (g : FVec Ideal S65536x2048 .bf16) (b : Fin 8) (s : Fin 8192) (k : Fin 2048) :
    gate3 g (ix3 b s k) = g (ix2 ⟨b * 8192 + s, by omega⟩ k) := by
  unfold gate3
  pointwise

/-- An entry of the gated heads. -/
theorem mix_at (g o : FVec Ideal S8x8192x2048 .f32) (b : Fin 8) (s : Fin 8192) (k : Fin 2048) :
    mixStage g o (ix3 b s k) = gated (g (ix3 b s k)) (o (ix3 b s k)) := by
  unfold mixStage gated
  rw [sub_eq_add_neg, zero_add]
  pointwise

/-- An entry of the first sum. -/
theorem sum_at (x : FVec Ideal S8x8192x1024 .f32) (y : FVec Ideal S8x8192x2048 .f32) (w : FVec Ideal S2048x1024 .f32) (b : Fin 8) (s : Fin 8192) (e : Fin 1024) :
    sumStage x y w (ix3 b s e) = x (ix3 b s e) + ∑ k : Fin 2048, y (ix3 b s k) * w (ix2 k e) := by
  unfold sumStage
  pointwise

/-- An entry of the norm. -/
theorem norm_at (u : FVec Ideal S8x8192x1024 .f32) (g : FVec Ideal S1024 .f32) (b : Fin 8) (s : Fin 8192) (e : Fin 1024) :
    normStage u g (ix3 b s e) = nrm (fun e => u (ix3 b s e)) (fun e => g (ix1 e)) e := by
  unfold normStage nrm
  pointwise

/-- An entry of the product with the input weights. -/
theorem in_at (h : FVec Ideal S8x8192x1024 .f32) (wi : FVec Ideal S1024x5632 .f32) (b : Fin 8) (s : Fin 8192) (f : Fin 5632) :
    inStage h wi (ix3 b s f) = ∑ d : Fin 1024, h (ix3 b s d) * wi (ix2 d f) := by
  unfold inStage
  pointwise

/-- An entry of the gated product. -/
theorem act_at (z : FVec Ideal S8x8192x5632 .f32) (b : Fin 8) (s : Fin 8192) (f : Fin 2816) :
    actStage z (ix3 b s f) = z (ix3 b s ⟨f, by omega⟩) * Ideal.div 1 (1 + Ideal.exp (0 - z (ix3 b s ⟨f, by omega⟩))) * z (ix3 b s ⟨2816 + f, by omega⟩) := by
  unfold actStage gateStage
  rw [sub_eq_add_neg, zero_add]
  pointwise

/-- An entry of the second sum. -/
theorem out_at (u : FVec Ideal S8x8192x1024 .f32) (a : FVec Ideal S8x8192x2816 .f32) (wo : FVec Ideal S2816x1024 .f32) (b : Fin 8) (s : Fin 8192) (e : Fin 1024) :
    outStage u a wo (ix3 b s e) = u (ix3 b s e) + ∑ f : Fin 2816, a (ix3 b s f) * wo (ix2 f e) := by
  unfold outStage
  pointwise

variable (m : (ℓ : Loc nD τ sig) → Buf (Elt Ideal) ℓ) (c : Dev nD)

/-- The tokens' rows. -/
abbrev a0 : FVec Ideal S8x8192x1024 .f32 := m ((c.tc : Thread nD τ).loc main_arg0)
/-- The retention's output. -/
abbrev a1 : FVec Ideal S65536x2048 .f32 := m ((c.tc : Thread nD τ).loc main_arg1)
/-- The gate. -/
abbrev a2 : FVec Ideal S65536x2048 .bf16 := m ((c.tc : Thread nD τ).loc main_arg2)
/-- The group norm's gain. -/
abbrev a3 : FVec Ideal S2048 .f32 := m ((c.tc : Thread nD τ).loc main_arg3)
/-- The retention's output weights. -/
abbrev a4 : FVec Ideal S2048x1024 .f32 := m ((c.tc : Thread nD τ).loc main_arg4)
/-- The gated unit's gain. -/
abbrev a5 : FVec Ideal S1024 .f32 := m ((c.tc : Thread nD τ).loc main_arg5)
/-- The gated unit's input weights. -/
abbrev a6 : FVec Ideal S1024x5632 .f32 := m ((c.tc : Thread nD τ).loc main_arg6)
/-- The gated unit's output weights. -/
abbrev a7 : FVec Ideal S2816x1024 .f32 := m ((c.tc : Thread nD τ).loc main_arg7)

/-- The rows after the retention's output product. -/
def rowStage : FVec Ideal S8x8192x1024 .f32 :=
  sumStage (a0 m c) (mixStage (gate3 (a2 m c)) (gainStage (scaleStage (cenStage (headStage (a1 m c)))) (a3 m c))) (a4 m c)

/-- The composed term, in stages. -/
theorem result_stages : (show FVec Ideal S65536x1024 .f32 from res_main_v49 m c)
    = shapeCast S65536x1024 (outStage (rowStage m c) (actStage (inStage (normStage (rowStage m c) (a5 m c)) (a6 m c))) (a7 m c))
        shapeCasts_S8x8192x1024_S65536x1024 := rfl

/-- An entry of the rows after the retention's output product. -/
theorem row_at (r : Fin 65536) (e : Fin 1024) : rowStage m c (ix3 ⟨r / 8192, by omega⟩ ⟨r % 8192, by omega⟩ e)
    = mpart (fun e => a0 m c (ix3 ⟨r / 8192, by omega⟩ ⟨r % 8192, by omega⟩ e)) (fun k => a1 m c (ix2 r k)) (fun k => a2 m c (ix2 r k))
        (fun k => a3 m c (ix1 k)) (fun k e => a4 m c (ix2 k e)) 2048 e := by
  have hr : (⟨(⟨r / 8192, by omega⟩ : Fin 8) * 8192 + (⟨r % 8192, by omega⟩ : Fin 8192), by simp only; omega⟩ : Fin 65536) = r :=
    Fin.ext (by show (r : ℕ) / 8192 * 8192 + (r : ℕ) % 8192 = r; omega)
  rw [mpart_all]
  unfold rowStage
  simp only [sum_at, mix_at, gate3_at, gain_at, scale_at, cen_at, head_at, hr]
  rfl

/-- An entry of the reference's result. -/
theorem result_at (r : Fin 65536) (e : Fin 1024) : (show FVec Ideal S65536x1024 .f32 from res_main_v49 m c) (ix2 r e)
    = retOut (a0 m c) (a1 m c) (a2 m c) (a3 m c) (a4 m c) (a5 m c) (a6 m c) (a7 m c) r e := by
  rw [result_stages]
  refine Eq.trans (b := outStage (rowStage m c) (actStage (inStage (normStage (rowStage m c) (a5 m c)) (a6 m c))) (a7 m c)
    (ix3 ⟨r / 8192, by omega⟩ ⟨r % 8192, by omega⟩ e)) ?_ ?_
  · generalize outStage _ _ _ = X
    pointwise
  · unfold retOut
    simp only [part_all, out_at, act_at, in_at, norm_at, row_at]
    rfl

end Cert.Reference3Ideal.Out

end
-- ==== Proof.SbProj.lean ====
/- The attention's projections, entry by entry: queries, keys and values of a head at a token, from the token's normed row. -/
module

public import proofs.«01_k».proof.Proof.Ffn

@[expose] public section

noncomputable section

open Idealize.ShloMosaic

namespace Cert.SbProj

open Cert.Ffn

/-- A normed row's product with a column of the weights. -/
def col {n : ℕ} (u g : Fin 1024 → EReal) (W : Fin 1024 → Fin n → EReal) (f : Fin n) : EReal := ∑ d, nrm u g d * W d f

/-- The scale of the queries. -/
def qs : EReal := Ideal.ofBits .f32 0x3E38AA3B#32

/-- The queries: batch, head, token, lane. -/
def qOut (x : FVec Ideal ⟨3, ![8, 8192, 1024]⟩ .f32) (g : FVec Ideal ⟨1, ![1024]⟩ .f32) (W : FVec Ideal ⟨2, ![1024, 1024]⟩ .f32)
    (b : Fin 8) (h : Fin 16) (s : Fin 8192) (d : Fin 64) : EReal :=
  col (fun e => x (ix3 b s e)) (fun e => g (ix1 e)) (fun e f => W (ix2 e f)) ⟨64 * h.val + d.val, by omega⟩ * qs

/-- The keys (with `o = 0`) or the values (with `o = 1024`): batch, head, token, lane. -/
def kvOut (o : ℕ) (ho : o ≤ 1024) (x : FVec Ideal ⟨3, ![8, 8192, 1024]⟩ .f32) (g : FVec Ideal ⟨1, ![1024]⟩ .f32)
    (W : FVec Ideal ⟨2, ![1024, 2048]⟩ .f32) (b : Fin 8) (h : Fin 16) (s : Fin 8192) (d : Fin 64) : EReal :=
  col (fun e => x (ix3 b s e)) (fun e => g (ix1 e)) (fun e f => W (ix2 e f)) ⟨o + (64 * h.val + d.val), by omega⟩

end Cert.SbProj

end
-- ==== Proof.RetProj.lean ====
/- The retention's projections, entry by entry: rotated queries and keys, decayed keys, values and gates of a token. -/
module

public import proofs.«01_k».proof.Proof.SbProj
public import proofs.«01_k».proof.Proof.RetMath

@[expose] public section

noncomputable section

open Idealize.ShloMosaic

namespace Cert.RetProj

open Cert.Ffn Cert.SbProj Cert.Retention

/-- A head's lane after the rotation: lanes `l` and `128 + l` of the head are turned by the angle of lane `l`.
    The head's lanes begin at entry `o + 256 * h` of `p`. -/
def rot (p : Fin 6144 → EReal) (ct st : Fin 128 → EReal) (o : ℕ) (ho : o ≤ 1024) (h : Fin 4) (l : Fin 256) : EReal :=
  if hl : l.val < 128 then
    p ⟨o + (256 * h.val + l.val), by omega⟩ * ct ⟨l.val, hl⟩ - p ⟨o + (256 * h.val + (128 + l.val)), by omega⟩ * st ⟨l.val, hl⟩
  else
    p ⟨o + (256 * h.val + (l.val - 128)), by omega⟩ * st ⟨l.val - 128, by omega⟩
      + p ⟨o + (256 * h.val + l.val), by omega⟩ * ct ⟨l.val - 128, by omega⟩

/-- The rotation at a lane of a head's first half. -/
theorem rot_lo (p : Fin 6144 → EReal) (ct st : Fin 128 → EReal) (o : ℕ) (ho : o ≤ 1024) (h : Fin 4) (l : Fin 256) (k : Fin 128)
    (a b : Fin 6144) (hk : l.val = k.val) (ha : a.val = o + (256 * h.val + k.val)) (hb : b.val = o + (256 * h.val + (128 + k.val))) :
    rot p ct st o ho h l = p a * ct k - p b * st k := by
  obtain ⟨l, hl⟩ := l
  obtain ⟨k, hk'⟩ := k
  obtain ⟨a, ha'⟩ := a
  obtain ⟨b, hb'⟩ := b
  simp only at hk ha hb
  subst hk ha hb
  exact dif_pos hk'

/-- The rotation at a lane of a head's second half. -/
theorem rot_hi (p : Fin 6144 → EReal) (ct st : Fin 128 → EReal) (o : ℕ) (ho : o ≤ 1024) (h : Fin 4) (l : Fin 256) (k : Fin 128)
    (a b : Fin 6144) (hk : l.val = 128 + k.val) (ha : a.val = o + (256 * h.val + k.val)) (hb : b.val = o + (256 * h.val + (128 + k.val))) :
    rot p ct st o ho h l = p a * st k + p b * ct k := by
  unfold rot
  rw [dif_neg (by omega)]
  have e1 : (⟨o + (256 * h.val + (l.val - 128)), by omega⟩ : Fin 6144) = a := Fin.ext (by show o + (256 * h.val + (l.val - 128)) = _; omega)
  have e2 : (⟨o + (256 * h.val + l.val), by omega⟩ : Fin 6144) = b := Fin.ext (by show o + (256 * h.val + l.val) = _; omega)
  have e3 : (⟨l.val - 128, by omega⟩ : Fin 128) = k := Fin.ext (by show l.val - 128 = _; omega)
  rw [e1, e2, e3]

/-- The angle of a lane at a position. -/
def ang (s : Fin 8192) (l : Fin 128) : EReal :=
  FloatOps.sitofp (F := Ideal) .f32 (BitVec.ofNat 32 s.val) * Ideal.pow (Ideal.ofBits .f32 0x461C4000#32)
    (Ideal.div (-FloatOps.sitofp (F := Ideal) .f32 (BitVec.ofNat 32 l.val)) (Ideal.ofBits .f32 0x43000000#32))

/-- The scale of the keys. -/
def ks : EReal := Ideal.ofBits .f32 0x3D800000#32

variable (x : FVec Ideal ⟨3, ![8, 8192, 1024]⟩ .f32) (g : FVec Ideal ⟨1, ![1024]⟩ .f32) (W : FVec Ideal ⟨2, ![1024, 6144]⟩ .f32)

/-- The normed row of a token times every column of the weights. -/
def prow (b : Fin 8) (s : Fin 8192) : Fin 6144 → EReal :=
  col (fun e => x (ix3 b s e)) (fun e => g (ix1 e)) (fun e f => W (ix2 e f))

/-- A rotated query. -/
def qOut (b : Fin 8) (s : Fin 8192) (h : Fin 4) (l : Fin 256) : EReal :=
  rot (prow x g W b s) (fun l => Ideal.cos (ang s l)) (fun l => Ideal.sin (ang s l)) 0 (by decide) h l

/-- A rotated key, scaled. -/
def kOut (b : Fin 8) (s : Fin 8192) (h : Fin 4) (l : Fin 256) : EReal :=
  rot (prow x g W b s) (fun l => Ideal.cos (ang s l)) (fun l => Ideal.sin (ang s l)) 1024 (by decide) h l * ks

/-- The decay of head `h`'s key at a position of its chunk of 256. -/
def kdec (h : Fin 4) (j : ℕ) : EReal := ((decay (lg h) (255 - (j : ℝ)) : ℝ) : EReal)

/-- A rotated key, scaled and decayed to its chunk's end. -/
def kdOut (b : Fin 8) (s : Fin 8192) (h : Fin 4) (l : Fin 256) : EReal := kOut x g W b s h l * kdec h (s.val % 256)

/-- A value (with `o = 2048`) or a gate (with `o = 4096`). -/
def vgOut (o : ℕ) (ho : o ≤ 4096) (b : Fin 8) (s : Fin 8192) (e : Fin 2048) : EReal := prow x g W b s ⟨o + e.val, by omega⟩

end Cert.RetProj

end
-- ==== Proof.RetProjKer.lean ====
/- The retention's projection call: what its body leaves in the blocks of the queries, keys, decayed keys, values and gates. -/
module

public import proofs.«01_k».proof.Proof.RetProj
public import proofs.«01_k».proof.Proof.Gen.Kernel4Ideal
public import proofs.«01_k».proof.Proof.Gen.Kernel4Ideal.Frame
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Rtp

open Cert.Kernel4Ideal Cert.Kernel4Ideal.Gen Cert.Ffn Cert.SbProj Cert.RetProj

variable (x0 : FVec Ideal S512x1024 .f32) (x1 : FVec Ideal S1x1024 .f32) (x2 : FVec Ideal S1024x6144 .bf16) (x3 x4 : FVec Ideal S512x128 .f32)
  (x5 : FVec Ideal S4x512x1 .f32)

/-- A normed row of the block times every column of the weights. -/
def brow (i : Fin 512) : Fin 6144 → EReal := col (fun e => x0 (ix2 i e)) (fun e => x1 (ix2 0 e)) (fun d f => x2 (ix2 d f))

/-- The rows normed. -/
theorem nrm_at (i : Fin 512) (d : Fin 1024) :
    (show FVec Ideal S512x1024 .bf16 from k0_pay3 (F := Ideal) x0 x1) (ix2 i d) = nrm (fun e => x0 (ix2 i e)) (fun e => x1 (ix2 0 e)) d := by
  unfold k0_pay3 nrm
  pointwise

/-- A product of the normed rows with 256 columns of the weights. -/
theorem p_at (O : ℕ) (hO : ∀ a, (![0, O] : Fin 2 → ℕ) a + S1024x256.size a ≤ S1024x6144.size a) (i : Fin 512) (j : Fin 256) (f : Fin 6144) (hf : f.val = O + j.val) :
    (show FVec Ideal S512x256 .f32 from k0_pay11 (F := Ideal) (k0_pay3 (F := Ideal) x0 x1)
      (View.ld (Val := Elt Ideal) (e' := .bf16) x2 (Rect.unit ![0, O] ![1024, 256] hO))) (ix2 i j) = brow x0 x1 x2 i f := by
  have hH := fun i d => nrm_at x0 x1 i d
  unfold k0_pay11 brow col
  simp only [← hH]
  generalize k0_pay3 (F := Ideal) x0 x1 = H
  generalize hA : View.ld (Val := Elt Ideal) (e' := .bf16) x2 (Rect.unit ![0, O] ![1024, 256] hO) = A
  pointwise
  refine Finset.sum_congr rfl fun d _ => congrArg (H (ix2 i d) * ·) ?_
  subst hA
  exact congrArg x2 (show _ = ix2 d f by idx_ext)

/-- A product of the normed rows with 512 columns of the weights. -/
theorem w_at (O : ℕ) (hO : ∀ a, (![0, O] : Fin 2 → ℕ) a + S1024x512.size a ≤ S1024x6144.size a) (i j : Fin 512) (f : Fin 6144) (hf : f.val = O + j.val) :
    (show FVec Ideal S512x512 .bf16 from k0_pay68 (F := Ideal) (k0_pay3 (F := Ideal) x0 x1)
      (View.ld (Val := Elt Ideal) (e' := .bf16) x2 (Rect.unit ![0, O] ![1024, 512] hO))) (ix2 i j) = brow x0 x1 x2 i f := by
  have hH := fun i d => nrm_at x0 x1 i d
  unfold k0_pay68 brow col
  simp only [← hH]
  generalize k0_pay3 (F := Ideal) x0 x1 = H
  generalize hA : View.ld (Val := Elt Ideal) (e' := .bf16) x2 (Rect.unit ![0, O] ![1024, 512] hO) = A
  pointwise
  refine Finset.sum_congr rfl fun d _ => congrArg (H (ix2 i d) * ·) ?_
  subst hA
  exact congrArg x2 (show _ = ix2 d f by idx_ext)

/-- The first half of a head's queries, from the head's product. -/
theorem qlo_at (H : FVec Ideal S512x1024 .bf16) (A : FVec Ideal S1024x256 .bf16) (i : Fin 512) (l : Fin 128) :
    (show FVec Ideal S512x128 .bf16 from k0_pay14 (F := Ideal) H (k0_pay4 (F := Ideal) x3) (k0_pay5 (F := Ideal) x4) A) (ix2 i l)
      = (show FVec Ideal S512x256 .f32 from k0_pay11 (F := Ideal) H A) (ix2 i ⟨l.val, by omega⟩) * x3 (ix2 i l)
        - (show FVec Ideal S512x256 .f32 from k0_pay11 (F := Ideal) H A) (ix2 i ⟨128 + l.val, by omega⟩) * x4 (ix2 i l) := by
  unfold k0_pay14 k0_pay12 k0_pay13 k0_pay4 k0_pay5
  generalize k0_pay11 (F := Ideal) H A = P
  pointwise

/-- The second half of a head's queries, from the head's product. -/
theorem qhi_at (H : FVec Ideal S512x1024 .bf16) (A : FVec Ideal S1024x256 .bf16) (i : Fin 512) (l : Fin 128) :
    (show FVec Ideal S512x128 .bf16 from k0_pay15 (F := Ideal) H (k0_pay4 (F := Ideal) x3) (k0_pay5 (F := Ideal) x4) A) (ix2 i l)
      = (show FVec Ideal S512x256 .f32 from k0_pay11 (F := Ideal) H A) (ix2 i ⟨l.val, by omega⟩) * x4 (ix2 i l)
        + (show FVec Ideal S512x256 .f32 from k0_pay11 (F := Ideal) H A) (ix2 i ⟨128 + l.val, by omega⟩) * x3 (ix2 i l) := by
  unfold k0_pay15 k0_pay12 k0_pay13 k0_pay4 k0_pay5
  generalize k0_pay11 (F := Ideal) H A = P
  pointwise

/-- The first half of a head's keys, from the head's product. -/
theorem klo_at (H : FVec Ideal S512x1024 .bf16) (A : FVec Ideal S1024x256 .bf16) (i : Fin 512) (l : Fin 128) :
    (show FVec Ideal S512x128 .f32 from k0_pay29 (F := Ideal) H (k0_pay4 (F := Ideal) x3) (k0_pay5 (F := Ideal) x4) A) (ix2 i l)
      = ((show FVec Ideal S512x256 .f32 from k0_pay11 (F := Ideal) H A) (ix2 i ⟨l.val, by omega⟩) * x3 (ix2 i l)
        - (show FVec Ideal S512x256 .f32 from k0_pay11 (F := Ideal) H A) (ix2 i ⟨128 + l.val, by omega⟩) * x4 (ix2 i l)) * ks := by
  unfold k0_pay29 k0_pay4 k0_pay5 ks
  change (show FVec Ideal S512x128 .f32 from mulf (subf (mulf (k0_pay12 (F := Ideal) H A) _) (mulf (k0_pay13 (F := Ideal) H A) _)) _) (ix2 i l) = _
  unfold k0_pay12 k0_pay13
  generalize k0_pay11 (F := Ideal) H A = P
  pointwise

/-- The second half of a head's keys, from the head's product. -/
theorem khi_at (H : FVec Ideal S512x1024 .bf16) (A : FVec Ideal S1024x256 .bf16) (i : Fin 512) (l : Fin 128) :
    (show FVec Ideal S512x128 .f32 from k0_pay30 (F := Ideal) H (k0_pay4 (F := Ideal) x3) (k0_pay5 (F := Ideal) x4) A) (ix2 i l)
      = ((show FVec Ideal S512x256 .f32 from k0_pay11 (F := Ideal) H A) (ix2 i ⟨l.val, by omega⟩) * x4 (ix2 i l)
        + (show FVec Ideal S512x256 .f32 from k0_pay11 (F := Ideal) H A) (ix2 i ⟨128 + l.val, by omega⟩) * x3 (ix2 i l)) * ks := by
  unfold k0_pay30 k0_pay4 k0_pay5 ks
  change (show FVec Ideal S512x128 .f32 from mulf (addf (mulf (k0_pay12 (F := Ideal) H A) _) (mulf (k0_pay13 (F := Ideal) H A) _)) _) (ix2 i l) = _
  unfold k0_pay12 k0_pay13
  generalize k0_pay11 (F := Ideal) H A = P
  pointwise

/-- A query of the block: row `i`, entry `e`. -/
def qE (i : Fin 512) (e : Fin 1024) : EReal :=
  rot (brow x0 x1 x2 i) (fun l => x3 (ix2 i l)) (fun l => x4 (ix2 i l)) 0 (by decide) ⟨e.val / 256, by omega⟩ ⟨e.val % 256, by omega⟩

/-- A key of the block: row `i`, entry `e`. -/
def kE (i : Fin 512) (e : Fin 1024) : EReal :=
  rot (brow x0 x1 x2 i) (fun l => x3 (ix2 i l)) (fun l => x4 (ix2 i l)) 1024 (by decide) ⟨e.val / 256, by omega⟩ ⟨e.val % 256, by omega⟩ * ks

/-- A value (with `o = 2048`) or a gate (with `o = 4096`) of the block. -/
def vgE (o : ℕ) (ho : o ≤ 4096) (i : Fin 512) (e : Fin 2048) : EReal := brow x0 x1 x2 i ⟨o + e.val, by omega⟩

/-- A 256-column slice of the weights. -/
abbrev wld (O : ℕ) (hO : ∀ a, (![0, O] : Fin 2 → ℕ) a + S1024x256.size a ≤ S1024x6144.size a) : FVec Ideal S1024x256 .bf16 :=
  View.ld (Val := Elt Ideal) (e' := .bf16) x2 (Rect.unit ![0, O] ![1024, 256] hO)

/-- The first half of head `n`'s queries. -/
theorem qlo_val (O n : ℕ) (hn : n < 4) (e1 : O = 256 * n) (hO : ∀ a, (![0, O] : Fin 2 → ℕ) a + S1024x256.size a ≤ S1024x6144.size a)
    (i : Fin 512) (l : Fin 128) (e : Fin 1024) (he : e.val = 256 * n + l.val) :
    (show FVec Ideal S512x128 .bf16 from k0_pay14 (F := Ideal) (k0_pay3 (F := Ideal) x0 x1) (k0_pay4 (F := Ideal) x3) (k0_pay5 (F := Ideal) x4) (wld x2 O hO)) (ix2 i l)
      = qE x0 x1 x2 x3 x4 i e := by
  refine (qlo_at x3 x4 _ _ i l).trans ?_
  rw [p_at x0 x1 x2 O hO i ⟨l.val, by omega⟩ ⟨O + l.val, by omega⟩ rfl, p_at x0 x1 x2 O hO i ⟨128 + l.val, by omega⟩ ⟨O + (128 + l.val), by omega⟩ rfl]
  unfold qE
  exact (rot_lo (brow x0 x1 x2 i) (fun l => x3 (ix2 i l)) (fun l => x4 (ix2 i l)) 0 (by decide) ⟨e.val / 256, by omega⟩ ⟨e.val % 256, by omega⟩ l ⟨O + l.val, by omega⟩ ⟨O + (128 + l.val), by omega⟩
    (by show e.val % 256 = _; omega) (by show O + _ = 0 + (256 * (e.val / 256) + _); omega) (by show O + _ = 0 + (256 * (e.val / 256) + _); omega)).symm

/-- The second half of head `n`'s queries. -/
theorem qhi_val (O n : ℕ) (hn : n < 4) (e1 : O = 256 * n) (hO : ∀ a, (![0, O] : Fin 2 → ℕ) a + S1024x256.size a ≤ S1024x6144.size a)
    (i : Fin 512) (l : Fin 128) (e : Fin 1024) (he : e.val = 256 * n + (128 + l.val)) :
    (show FVec Ideal S512x128 .bf16 from k0_pay15 (F := Ideal) (k0_pay3 (F := Ideal) x0 x1) (k0_pay4 (F := Ideal) x3) (k0_pay5 (F := Ideal) x4) (wld x2 O hO)) (ix2 i l)
      = qE x0 x1 x2 x3 x4 i e := by
  refine (qhi_at x3 x4 _ _ i l).trans ?_
  rw [p_at x0 x1 x2 O hO i ⟨l.val, by omega⟩ ⟨O + l.val, by omega⟩ rfl, p_at x0 x1 x2 O hO i ⟨128 + l.val, by omega⟩ ⟨O + (128 + l.val), by omega⟩ rfl]
  unfold qE
  exact (rot_hi (brow x0 x1 x2 i) (fun l => x3 (ix2 i l)) (fun l => x4 (ix2 i l)) 0 (by decide) ⟨e.val / 256, by omega⟩ ⟨e.val % 256, by omega⟩ l ⟨O + l.val, by omega⟩ ⟨O + (128 + l.val), by omega⟩
    (by show e.val % 256 = _; omega) (by show O + _ = 0 + (256 * (e.val / 256) + _); omega) (by show O + _ = 0 + (256 * (e.val / 256) + _); omega)).symm

/-- The first half of head `n`'s keys. -/
theorem klo_val (O n : ℕ) (hn : n < 4) (e1 : O = 1024 + 256 * n) (hO : ∀ a, (![0, O] : Fin 2 → ℕ) a + S1024x256.size a ≤ S1024x6144.size a)
    (i : Fin 512) (l : Fin 128) (e : Fin 1024) (he : e.val = 256 * n + l.val) :
    (show FVec Ideal S512x128 .f32 from k0_pay29 (F := Ideal) (k0_pay3 (F := Ideal) x0 x1) (k0_pay4 (F := Ideal) x3) (k0_pay5 (F := Ideal) x4) (wld x2 O hO)) (ix2 i l)
      = kE x0 x1 x2 x3 x4 i e := by
  refine (klo_at x3 x4 _ _ i l).trans ?_
  rw [p_at x0 x1 x2 O hO i ⟨l.val, by omega⟩ ⟨O + l.val, by omega⟩ rfl, p_at x0 x1 x2 O hO i ⟨128 + l.val, by omega⟩ ⟨O + (128 + l.val), by omega⟩ rfl]
  unfold kE
  exact congrArg (· * ks) (rot_lo (brow x0 x1 x2 i) (fun l => x3 (ix2 i l)) (fun l => x4 (ix2 i l)) 1024 (by decide) ⟨e.val / 256, by omega⟩ ⟨e.val % 256, by omega⟩ l ⟨O + l.val, by omega⟩ ⟨O + (128 + l.val), by omega⟩
    (by show e.val % 256 = _; omega) (by show O + _ = 1024 + (256 * (e.val / 256) + _); omega) (by show O + _ = 1024 + (256 * (e.val / 256) + _); omega)).symm

/-- The second half of head `n`'s keys. -/
theorem khi_val (O n : ℕ) (hn : n < 4) (e1 : O = 1024 + 256 * n) (hO : ∀ a, (![0, O] : Fin 2 → ℕ) a + S1024x256.size a ≤ S1024x6144.size a)
    (i : Fin 512) (l : Fin 128) (e : Fin 1024) (he : e.val = 256 * n + (128 + l.val)) :
    (show FVec Ideal S512x128 .f32 from k0_pay30 (F := Ideal) (k0_pay3 (F := Ideal) x0 x1) (k0_pay4 (F := Ideal) x3) (k0_pay5 (F := Ideal) x4) (wld x2 O hO)) (ix2 i l)
      = kE x0 x1 x2 x3 x4 i e := by
  refine (khi_at x3 x4 _ _ i l).trans ?_
  rw [p_at x0 x1 x2 O hO i ⟨l.val, by omega⟩ ⟨O + l.val, by omega⟩ rfl, p_at x0 x1 x2 O hO i ⟨128 + l.val, by omega⟩ ⟨O + (128 + l.val), by omega⟩ rfl]
  unfold kE
  exact congrArg (· * ks) (rot_hi (brow x0 x1 x2 i) (fun l => x3 (ix2 i l)) (fun l => x4 (ix2 i l)) 1024 (by decide) ⟨e.val / 256, by omega⟩ ⟨e.val % 256, by omega⟩ l ⟨O + l.val, by omega⟩ ⟨O + (128 + l.val), by omega⟩
    (by show e.val % 256 = _; omega) (by show O + _ = 1024 + (256 * (e.val / 256) + _); omega) (by show O + _ = 1024 + (256 * (e.val / 256) + _); omega)).symm

/-- A store of the first half of a head's queries. -/
theorem qlo_piece (O n : ℕ) (hn : n < 4) (e1 : O = 256 * n) {hO : ∀ a, (![0, O] : Fin 2 → ℕ) a + S1024x256.size a ≤ S1024x6144.size a}
    (x : S512x128.Idx) (y : S512x1024.Idx) (h0 : (y 0).val = (x 0).val) (h1 : (y 1).val = 256 * n + (x 1).val) :
    (show FVec Ideal S512x128 .bf16 from k0_pay14 (F := Ideal) (k0_pay3 (F := Ideal) x0 x1) (k0_pay4 (F := Ideal) x3) (k0_pay5 (F := Ideal) x4) (wld x2 O hO)) x = qE x0 x1 x2 x3 x4 (y 0) (y 1) := by
  obtain ⟨i, l, rfl⟩ : ∃ i l, x = ix2 i l := ⟨x 0, x 1, by idx_ext⟩
  refine (qlo_val x0 x1 x2 x3 x4 O n hn e1 hO i l (y 1) h1).trans ?_
  exact congrArg (fun i => qE x0 x1 x2 x3 x4 i (y 1)) (Fin.ext h0.symm)

/-- A store of the second half of a head's queries. -/
theorem qhi_piece (O n : ℕ) (hn : n < 4) (e1 : O = 256 * n) {hO : ∀ a, (![0, O] : Fin 2 → ℕ) a + S1024x256.size a ≤ S1024x6144.size a}
    (x : S512x128.Idx) (y : S512x1024.Idx) (h0 : (y 0).val = (x 0).val) (h1 : (y 1).val = 256 * n + (128 + (x 1).val)) :
    (show FVec Ideal S512x128 .bf16 from k0_pay15 (F := Ideal) (k0_pay3 (F := Ideal) x0 x1) (k0_pay4 (F := Ideal) x3) (k0_pay5 (F := Ideal) x4) (wld x2 O hO)) x = qE x0 x1 x2 x3 x4 (y 0) (y 1) := by
  obtain ⟨i, l, rfl⟩ : ∃ i l, x = ix2 i l := ⟨x 0, x 1, by idx_ext⟩
  refine (qhi_val x0 x1 x2 x3 x4 O n hn e1 hO i l (y 1) h1).trans ?_
  exact congrArg (fun i => qE x0 x1 x2 x3 x4 i (y 1)) (Fin.ext h0.symm)

/-- A store of the first half of a head's keys. -/
theorem klo_piece (O n : ℕ) (hn : n < 4) (e1 : O = 1024 + 256 * n) {hO : ∀ a, (![0, O] : Fin 2 → ℕ) a + S1024x256.size a ≤ S1024x6144.size a}
    (x : S512x128.Idx) (y : S512x1024.Idx) (h0 : (y 0).val = (x 0).val) (h1 : (y 1).val = 256 * n + (x 1).val) :
    (show FVec Ideal S512x128 .bf16 from truncf (F := Ideal) .bf16 (k0_pay29 (F := Ideal) (k0_pay3 (F := Ideal) x0 x1) (k0_pay4 (F := Ideal) x3) (k0_pay5 (F := Ideal) x4) (wld x2 O hO)) bitsLt_bf16_f32) x = kE x0 x1 x2 x3 x4 (y 0) (y 1) := by
  obtain ⟨i, l, rfl⟩ : ∃ i l, x = ix2 i l := ⟨x 0, x 1, by idx_ext⟩
  refine (klo_val x0 x1 x2 x3 x4 O n hn e1 hO i l (y 1) h1).trans ?_
  exact congrArg (fun i => kE x0 x1 x2 x3 x4 i (y 1)) (Fin.ext h0.symm)

/-- A store of the second half of a head's keys. -/
theorem khi_piece (O n : ℕ) (hn : n < 4) (e1 : O = 1024 + 256 * n) {hO : ∀ a, (![0, O] : Fin 2 → ℕ) a + S1024x256.size a ≤ S1024x6144.size a}
    (x : S512x128.Idx) (y : S512x1024.Idx) (h0 : (y 0).val = (x 0).val) (h1 : (y 1).val = 256 * n + (128 + (x 1).val)) :
    (show FVec Ideal S512x128 .bf16 from truncf (F := Ideal) .bf16 (k0_pay30 (F := Ideal) (k0_pay3 (F := Ideal) x0 x1) (k0_pay4 (F := Ideal) x3) (k0_pay5 (F := Ideal) x4) (wld x2 O hO)) bitsLt_bf16_f32) x = kE x0 x1 x2 x3 x4 (y 0) (y 1) := by
  obtain ⟨i, l, rfl⟩ : ∃ i l, x = ix2 i l := ⟨x 0, x 1, by idx_ext⟩
  refine (khi_val x0 x1 x2 x3 x4 O n hn e1 hO i l (y 1) h1).trans ?_
  exact congrArg (fun i => kE x0 x1 x2 x3 x4 i (y 1)) (Fin.ext h0.symm)

/-- A store of the first half of a head's decayed keys. -/
theorem kdlo_piece (O n : ℕ) (hn : n < 4) (e1 : O = 1024 + 256 * n) {hO : ∀ a, (![0, O] : Fin 2 → ℕ) a + S1024x256.size a ≤ S1024x6144.size a}
    {hK : ∀ a, (![n, 0, 0] : Fin 3 → ℕ) a + S1x512x1.size a ≤ S4x512x1.size a}
    (x : S128x512.Idx) (y : S1024x512.Idx) (h0 : (y 0).val = 256 * n + (x 0).val) (h1 : (y 1).val = (x 1).val) :
    (show FVec Ideal S128x512 .bf16 from k0_pay34 (F := Ideal)
      (k0_pay29 (F := Ideal) (k0_pay3 (F := Ideal) x0 x1) (k0_pay4 (F := Ideal) x3) (k0_pay5 (F := Ideal) x4) (wld x2 O hO))
      (View.ld (Val := Elt Ideal) (e' := .f32) x5 (Rect.unit ![n, 0, 0] ![1, 512, 1] hK))) x
      = kE x0 x1 x2 x3 x4 (y 1) (y 0) * x5 (ix3 ⟨(y 0).val / 256, by have : (y 0 : ℕ) < 1024 := (y 0).isLt; omega⟩ (y 1) 0) := by
  obtain ⟨l, i, rfl⟩ : ∃ l i, x = ix2 l i := ⟨x 0, x 1, by idx_ext⟩
  have hv := klo_val x0 x1 x2 x3 x4 O n hn e1 hO i l (y 0) h0
  have b0 : (y 0 : ℕ) < 1024 := (y 0).isLt
  have hl : l.val < 128 := l.isLt
  have e2 : (y 1 : Fin 512) = i := Fin.ext h1
  rw [e2]
  revert hv
  unfold k0_pay34 k0_pay33
  generalize k0_pay29 (F := Ideal) (k0_pay3 (F := Ideal) x0 x1) (k0_pay4 (F := Ideal) x3) (k0_pay5 (F := Ideal) x4) (wld x2 O hO) = R
  intro hv
  rw [← hv]
  generalize hA : View.ld (Val := Elt Ideal) (e' := .f32) x5 (Rect.unit ![n, 0, 0] ![1, 512, 1] hK) = A
  pointwise
  refine congrArg (R (ix2 i l) * ·) ?_
  subst hA
  have h0' : (y 0 : ℕ) = 256 * n + l.val := h0
  have e3 : (⟨(y 0).val / 256, by omega⟩ : Fin 4) = ⟨n, hn⟩ := Fin.ext (by show (y 0).val / 256 = n; omega)
  rw [e3]
  exact congrArg x5 (show _ = ix3 ⟨n, hn⟩ i 0 by idx_ext)

/-- A store of the second half of a head's decayed keys. -/
theorem kdhi_piece (O n : ℕ) (hn : n < 4) (e1 : O = 1024 + 256 * n) {hO : ∀ a, (![0, O] : Fin 2 → ℕ) a + S1024x256.size a ≤ S1024x6144.size a}
    {hK : ∀ a, (![n, 0, 0] : Fin 3 → ℕ) a + S1x512x1.size a ≤ S4x512x1.size a}
    (x : S128x512.Idx) (y : S1024x512.Idx) (h0 : (y 0).val = 256 * n + (128 + (x 0).val)) (h1 : (y 1).val = (x 1).val) :
    (show FVec Ideal S128x512 .bf16 from k0_pay35 (F := Ideal)
      (k0_pay30 (F := Ideal) (k0_pay3 (F := Ideal) x0 x1) (k0_pay4 (F := Ideal) x3) (k0_pay5 (F := Ideal) x4) (wld x2 O hO))
      (View.ld (Val := Elt Ideal) (e' := .f32) x5 (Rect.unit ![n, 0, 0] ![1, 512, 1] hK))) x
      = kE x0 x1 x2 x3 x4 (y 1) (y 0) * x5 (ix3 ⟨(y 0).val / 256, by have : (y 0 : ℕ) < 1024 := (y 0).isLt; omega⟩ (y 1) 0) := by
  obtain ⟨l, i, rfl⟩ : ∃ l i, x = ix2 l i := ⟨x 0, x 1, by idx_ext⟩
  have hv := khi_val x0 x1 x2 x3 x4 O n hn e1 hO i l (y 0) h0
  have b0 : (y 0 : ℕ) < 1024 := (y 0).isLt
  have hl : l.val < 128 := l.isLt
  have e2 : (y 1 : Fin 512) = i := Fin.ext h1
  rw [e2]
  revert hv
  unfold k0_pay35 k0_pay33
  generalize k0_pay30 (F := Ideal) (k0_pay3 (F := Ideal) x0 x1) (k0_pay4 (F := Ideal) x3) (k0_pay5 (F := Ideal) x4) (wld x2 O hO) = R
  intro hv
  rw [← hv]
  generalize hA : View.ld (Val := Elt Ideal) (e' := .f32) x5 (Rect.unit ![n, 0, 0] ![1, 512, 1] hK) = A
  pointwise
  refine congrArg (R (ix2 i l) * ·) ?_
  subst hA
  have h0' : (y 0 : ℕ) = 256 * n + (128 + l.val) := h0
  have e3 : (⟨(y 0).val / 256, by omega⟩ : Fin 4) = ⟨n, hn⟩ := Fin.ext (by show (y 0).val / 256 = n; omega)
  rw [e3]
  exact congrArg x5 (show _ = ix3 ⟨n, hn⟩ i 0 by idx_ext)

/-- A store of 512 columns of the values or the gates. -/
theorem vg_piece (o : ℕ) (ho : o ≤ 4096) (O n : ℕ) (e1 : O = o + n) {hO : ∀ a, (![0, O] : Fin 2 → ℕ) a + S1024x512.size a ≤ S1024x6144.size a}
    (x : S512x512.Idx) (y : S512x2048.Idx) (h0 : (y 0).val = (x 0).val) (h1 : (y 1).val = n + (x 1).val) :
    (show FVec Ideal S512x512 .bf16 from k0_pay68 (F := Ideal) (k0_pay3 (F := Ideal) x0 x1)
      (View.ld (Val := Elt Ideal) (e' := .bf16) x2 (Rect.unit ![0, O] ![1024, 512] hO))) x = vgE x0 x1 x2 o ho (y 0) (y 1) := by
  obtain ⟨i, j, rfl⟩ : ∃ i j, x = ix2 i j := ⟨x 0, x 1, by idx_ext⟩
  have b1 : (y 1 : ℕ) < 2048 := (y 1).isLt
  have h1' : (y 1).val = n + j.val := h1
  refine (w_at x0 x1 x2 O hO i j ⟨o + (y 1).val, by omega⟩ (by show o + (y 1).val = _; omega)).trans ?_
  exact congrArg (fun i => vgE x0 x1 x2 o ho i (y 1)) (Fin.ext h0.symm)

/-- The block of the queries. -/
theorem q_block (y : S512x1024.Idx) :
    (show FVec Ideal S512x1024 .bf16 from out0_6 (F := Ideal) x0 x1 x2 x3 x4 x5) y = qE x0 x1 x2 x3 x4 (y 0) (y 1) := by
  unfold_out out0_6
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  have l3 : View.ld (Val := Elt Ideal) (e' := .f32) x3 r0_2 = x3 := View.ld_unit_lit (Val := Elt Ideal) (e := .f32) (S := S512x128) (off := ![0, 0]) inb_S512x128_S512x128_0_0 x3 (by decide)
  have l4 : View.ld (Val := Elt Ideal) (e' := .f32) x4 r0_2 = x4 := View.ld_unit_lit (Val := Elt Ideal) (e := .f32) (S := S512x128) (off := ![0, 0]) inb_S512x128_S512x128_0_0 x4 (by decide)
  simp only [l0, l1, l3, l4]
  canon_tiles x h
  case piece0 => exact qhi_piece x0 x1 x2 x3 x4 768 3 (by decide) (by decide) x y (by omega) (by omega)
  case piece1 => exact qlo_piece x0 x1 x2 x3 x4 768 3 (by decide) (by decide) x y (by omega) (by omega)
  case piece2 => exact qhi_piece x0 x1 x2 x3 x4 512 2 (by decide) (by decide) x y (by omega) (by omega)
  case piece3 => exact qlo_piece x0 x1 x2 x3 x4 512 2 (by decide) (by decide) x y (by omega) (by omega)
  case piece4 => exact qhi_piece x0 x1 x2 x3 x4 256 1 (by decide) (by decide) x y (by omega) (by omega)
  case piece5 => exact qlo_piece x0 x1 x2 x3 x4 256 1 (by decide) (by decide) x y (by omega) (by omega)
  case piece6 => exact qhi_piece x0 x1 x2 x3 x4 0 0 (by decide) (by decide) x y (by omega) (by omega)
  case piece7 => exact qlo_piece x0 x1 x2 x3 x4 0 0 (by decide) (by decide) x y (by omega) (by omega)

/-- The block of the keys. -/
theorem k_block (y : S512x1024.Idx) :
    (show FVec Ideal S512x1024 .bf16 from out0_7 (F := Ideal) x0 x1 x2 x3 x4 x5) y = kE x0 x1 x2 x3 x4 (y 0) (y 1) := by
  unfold_out out0_7
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  have l3 : View.ld (Val := Elt Ideal) (e' := .f32) x3 r0_2 = x3 := View.ld_unit_lit (Val := Elt Ideal) (e := .f32) (S := S512x128) (off := ![0, 0]) inb_S512x128_S512x128_0_0 x3 (by decide)
  have l4 : View.ld (Val := Elt Ideal) (e' := .f32) x4 r0_2 = x4 := View.ld_unit_lit (Val := Elt Ideal) (e := .f32) (S := S512x128) (off := ![0, 0]) inb_S512x128_S512x128_0_0 x4 (by decide)
  simp only [l0, l1, l3, l4]
  canon_tiles x h
  case piece0 => exact khi_piece x0 x1 x2 x3 x4 1792 3 (by decide) (by decide) x y (by omega) (by omega)
  case piece1 => exact klo_piece x0 x1 x2 x3 x4 1792 3 (by decide) (by decide) x y (by omega) (by omega)
  case piece2 => exact khi_piece x0 x1 x2 x3 x4 1536 2 (by decide) (by decide) x y (by omega) (by omega)
  case piece3 => exact klo_piece x0 x1 x2 x3 x4 1536 2 (by decide) (by decide) x y (by omega) (by omega)
  case piece4 => exact khi_piece x0 x1 x2 x3 x4 1280 1 (by decide) (by decide) x y (by omega) (by omega)
  case piece5 => exact klo_piece x0 x1 x2 x3 x4 1280 1 (by decide) (by decide) x y (by omega) (by omega)
  case piece6 => exact khi_piece x0 x1 x2 x3 x4 1024 0 (by decide) (by decide) x y (by omega) (by omega)
  case piece7 => exact klo_piece x0 x1 x2 x3 x4 1024 0 (by decide) (by decide) x y (by omega) (by omega)

/-- The block of the decayed keys, transposed. -/
theorem kd_block (y : S1024x512.Idx) :
    (show FVec Ideal S1024x512 .bf16 from out0_8 (F := Ideal) x0 x1 x2 x3 x4 x5) y = kE x0 x1 x2 x3 x4 (y 1) (y 0)
      * x5 (ix3 ⟨(y 0).val / 256, by have : (y 0 : ℕ) < 1024 := (y 0).isLt; omega⟩ (y 1) 0) := by
  unfold_out out0_8
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  have l3 : View.ld (Val := Elt Ideal) (e' := .f32) x3 r0_2 = x3 := View.ld_unit_lit (Val := Elt Ideal) (e := .f32) (S := S512x128) (off := ![0, 0]) inb_S512x128_S512x128_0_0 x3 (by decide)
  have l4 : View.ld (Val := Elt Ideal) (e' := .f32) x4 r0_2 = x4 := View.ld_unit_lit (Val := Elt Ideal) (e := .f32) (S := S512x128) (off := ![0, 0]) inb_S512x128_S512x128_0_0 x4 (by decide)
  simp only [l0, l1, l3, l4]
  canon_tiles x h
  case piece0 => exact kdhi_piece x0 x1 x2 x3 x4 x5 1792 3 (by decide) (by decide) x y (by omega) (by omega)
  case piece1 => exact kdlo_piece x0 x1 x2 x3 x4 x5 1792 3 (by decide) (by decide) x y (by omega) (by omega)
  case piece2 => exact kdhi_piece x0 x1 x2 x3 x4 x5 1536 2 (by decide) (by decide) x y (by omega) (by omega)
  case piece3 => exact kdlo_piece x0 x1 x2 x3 x4 x5 1536 2 (by decide) (by decide) x y (by omega) (by omega)
  case piece4 => exact kdhi_piece x0 x1 x2 x3 x4 x5 1280 1 (by decide) (by decide) x y (by omega) (by omega)
  case piece5 => exact kdlo_piece x0 x1 x2 x3 x4 x5 1280 1 (by decide) (by decide) x y (by omega) (by omega)
  case piece6 => exact kdhi_piece x0 x1 x2 x3 x4 x5 1024 0 (by decide) (by decide) x y (by omega) (by omega)
  case piece7 => exact kdlo_piece x0 x1 x2 x3 x4 x5 1024 0 (by decide) (by decide) x y (by omega) (by omega)

/-- The block of the values. -/
theorem v_block (y : S512x2048.Idx) :
    (show FVec Ideal S512x2048 .bf16 from out0_9 (F := Ideal) x0 x1 x2 x3 x4 x5) y = vgE x0 x1 x2 2048 (by decide) (y 0) (y 1) := by
  unfold_out out0_9
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  simp only [l0, l1]
  canon_tiles x h
  case piece0 => exact vg_piece x0 x1 x2 2048 (by decide) 3584 1536 (by decide) x y (by omega) (by omega)
  case piece1 => exact vg_piece x0 x1 x2 2048 (by decide) 3072 1024 (by decide) x y (by omega) (by omega)
  case piece2 => exact vg_piece x0 x1 x2 2048 (by decide) 2560 512 (by decide) x y (by omega) (by omega)
  case piece3 => exact vg_piece x0 x1 x2 2048 (by decide) 2048 0 (by decide) x y (by omega) (by omega)

/-- The block of the gates. -/
theorem g_block (y : S512x2048.Idx) :
    (show FVec Ideal S512x2048 .bf16 from out0_10 (F := Ideal) x0 x1 x2 x3 x4 x5) y = vgE x0 x1 x2 4096 (by decide) (y 0) (y 1) := by
  unfold_out out0_10
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  simp only [l0, l1]
  canon_tiles x h
  case piece0 => exact vg_piece x0 x1 x2 4096 (by decide) 5632 1536 (by decide) x y (by omega) (by omega)
  case piece1 => exact vg_piece x0 x1 x2 4096 (by decide) 5120 1024 (by decide) x y (by omega) (by omega)
  case piece2 => exact vg_piece x0 x1 x2 4096 (by decide) 4608 512 (by decide) x y (by omega) (by omega)
  case piece3 => exact vg_piece x0 x1 x2 4096 (by decide) 4096 0 (by decide) x y (by omega) (by omega)

end Cert.Kernel4Ideal.Rtp

end
-- ==== Proof.RetProjValue.lean ====
/- The retention's projection call: the arrays its blocks are cut from, and the arrays it leaves. -/
module

public import proofs.«01_k».proof.Proof.RetProjKer
public import Idealize.ShloMosaic.Lib.StableHlo.ReadAt
public import Idealize.ShloMosaic.Lib.StableHlo.RunLoop

@[expose] public section

set_option maxRecDepth 16384

noncomputable section

open Idealize.ShloMosaic Idealize.ShloMosaic.TcCoe Idealize.SL.Sem
open Idealize.ShloMosaic.Pipeline (Dat)

namespace Cert.Kernel4Ideal.Rtp

open Cert.Kernel4Ideal Cert.Kernel4Ideal.Gen Cert.Ffn Cert.SbProj Cert.RetProj Cert.Retention

/-- Every window's block index at a grid point. -/
theorem idx_val : ∀ t : Fin cfg0.N, win0_0.index t = ![t.val, 0]
    ∧ win0_1.index t = ![0, 0] ∧ win0_2.index t = ![0, 0] ∧ win0_3.index t = ![t.val % 16, 0] ∧ win0_4.index t = ![t.val % 16, 0]
    ∧ win0_5.index t = ![0, 0, 0] ∧ win0_6.index t = ![t.val, 0] ∧ win0_7.index t = ![t.val, 0] ∧ win0_8.index t = ![0, t.val]
    ∧ win0_9.index t = ![t.val, 0] ∧ win0_10.index t = ![t.val, 0] :=
  (by decide +kernel : ∀ t : Fin grid0.N, _)

variable (m : (ℓ : Loc nD τ sig) → Buf (Elt Ideal) ℓ) (c : Dev nD)

/-- The tokens' rows. -/
abbrev a0 : FVec Ideal S8x8192x1024 .f32 := m ((c : Thread nD τ).loc main_arg0)
/-- The gain. -/
abbrev a1 : FVec Ideal S1024 .f32 := m ((c : Thread nD τ).loc main_arg1)
/-- The weights. -/
abbrev a2 : FVec Ideal S1024x6144 .f32 := m ((c : Thread nD τ).loc main_arg2)

/-- The rows as the host reshapes them. -/
theorem v14_at (r : Fin 65536) (e : Fin 1024) : (show FVec Ideal S65536x1024 .f32 from V m c main_v14) (ix2 r e)
    = a0 m c (ix3 ⟨r / 8192, by omega⟩ ⟨r % 8192, by omega⟩ e) := by
  unfold V
  after_reads_at

/-- The gain, as a row. -/
theorem v15_at (e : Fin 1024) : (show FVec Ideal S1x1024 .f32 from V m c main_v15) (ix2 0 e) = a1 m c (ix1 e) := by
  unfold V
  after_reads_at

/-- The weights, cast. -/
theorem v16_at (d : Fin 1024) (f : Fin 6144) : (show FVec Ideal S1024x6144 .bf16 from V m c main_v16) (ix2 d f) = a2 m c (ix2 d f) := by
  unfold V
  after_reads_at

/-- The cosines. -/
theorem v12_at (s : Fin 8192) (l : Fin 128) : (show FVec Ideal S8192x128 .f32 from V m c main_v12) (ix2 s l) = Ideal.cos (ang s l) := by
  unfold V ang
  after_reads_at

/-- The sines. -/
theorem v13_at (s : Fin 8192) (l : Fin 128) : (show FVec Ideal S8192x128 .f32 from V m c main_v13) (ix2 s l) = Ideal.sin (ang s l) := by
  unfold V ang
  after_reads_at

/-- The keys' decays, over two chunks. -/
theorem v65_at (h : Fin 4) (i : Fin 512) : (show FVec Ideal S4x512x1 .f32 from V m c main_v65) (ix3 h i 0) = kdec h (i.val % 256) := by
  unfold V kdec
  after_reads_at
  refine host_decay _ _ _ (by omega) ?_
  rw [sitofp_ofNat _ (by omega), bits_255, ← EReal.coe_sub]

/-- The grid has 128 points. -/
theorem lt_N (t : Fin cfg0.N) : t.val < 128 := lt_of_lt_of_eq t.isLt (by decide +kernel)

/-- The block of rows at a point. -/
theorem b0_at (t : Fin cfg0.N) (i : Fin 512) (e : Fin 1024) : (show FVec Ideal S512x1024 .f32 from iblk m c 0 t) (ix2 i e)
    = a0 m c (ix3 ⟨t.val / 16, by have := lt_N t; omega⟩ ⟨t.val % 16 * 512 + i, by omega⟩ e) := by
  have hN := lt_N t
  refine Eq.trans ?_ ((v14_at m c ⟨t.val * 512 + i, by omega⟩ e).trans ?_)
  · unfold iblk; generalize V m c (Pipeline.arrRef spec0 0) = X; blk_ext [idx_val t]
  · blk_ext

/-- The gain at a point. -/
theorem b1_at (t : Fin cfg0.N) (e : Fin 1024) : (show FVec Ideal S1x1024 .f32 from iblk m c 1 t) (ix2 0 e) = a1 m c (ix1 e) := by
  refine Eq.trans ?_ (v15_at m c e)
  unfold iblk; generalize V m c (Pipeline.arrRef spec0 1) = X; blk_ext [idx_val t]

/-- The weights at a point: all of them. -/
theorem b2_at (t : Fin cfg0.N) (d : Fin 1024) (f : Fin 6144) : (show FVec Ideal S1024x6144 .bf16 from iblk m c 2 t) (ix2 d f) = a2 m c (ix2 d f) := by
  refine Eq.trans ?_ (v16_at m c d f)
  unfold iblk; generalize V m c (Pipeline.arrRef spec0 2) = X; blk_ext [idx_val t]

/-- The cosines at a point: those of the block's positions. -/
theorem b3_at (t : Fin cfg0.N) (i : Fin 512) (l : Fin 128) : (show FVec Ideal S512x128 .f32 from iblk m c 3 t) (ix2 i l)
    = Ideal.cos (ang ⟨t.val % 16 * 512 + i, by omega⟩ l) := by
  refine Eq.trans ?_ (v12_at m c ⟨t.val % 16 * 512 + i, by omega⟩ l)
  unfold iblk; generalize V m c (Pipeline.arrRef spec0 3) = X; blk_ext [idx_val t]

/-- The sines at a point: those of the block's positions. -/
theorem b4_at (t : Fin cfg0.N) (i : Fin 512) (l : Fin 128) : (show FVec Ideal S512x128 .f32 from iblk m c 4 t) (ix2 i l)
    = Ideal.sin (ang ⟨t.val % 16 * 512 + i, by omega⟩ l) := by
  refine Eq.trans ?_ (v13_at m c ⟨t.val % 16 * 512 + i, by omega⟩ l)
  unfold iblk; generalize V m c (Pipeline.arrRef spec0 4) = X; blk_ext [idx_val t]

/-- The keys' decays at a point: all of them. -/
theorem b5_at (t : Fin cfg0.N) (h : Fin 4) (i : Fin 512) : (show FVec Ideal S4x512x1 .f32 from iblk m c 5 t) (ix3 h i 0) = kdec h (i.val % 256) := by
  refine Eq.trans ?_ (v65_at m c h i)
  unfold iblk; generalize V m c (Pipeline.arrRef spec0 5) = X; blk_ext [idx_val t]

/-- A row's batch. -/
abbrev bat (r : Fin 65536) : Fin 8 := ⟨r.val / 8192, by omega⟩
/-- A row's position in its sequence. -/
abbrev pos (r : Fin 65536) : Fin 8192 := ⟨r.val % 8192, by omega⟩
/-- An entry's head. -/
abbrev hd (e : Fin 1024) : Fin 4 := ⟨e.val / 256, by omega⟩
/-- An entry's lane. -/
abbrev ln (e : Fin 1024) : Fin 256 := ⟨e.val % 256, by omega⟩

/-- The queries, from the arguments. -/
def QO : FVec Ideal S65536x1024 .bf16 := fun y => qOut (a0 m c) (a1 m c) (a2 m c) (bat (y 0)) (pos (y 0)) (hd (y 1)) (ln (y 1))

/-- The keys, from the arguments. -/
def KO : FVec Ideal S65536x1024 .bf16 := fun y => kOut (a0 m c) (a1 m c) (a2 m c) (bat (y 0)) (pos (y 0)) (hd (y 1)) (ln (y 1))

/-- The decayed keys, transposed, from the arguments. -/
def DO : FVec Ideal S1024x65536 .bf16 := fun y => kdOut (a0 m c) (a1 m c) (a2 m c) (bat (y 1)) (pos (y 1)) (hd (y 0)) (ln (y 0))

/-- The values (with `o = 2048`) or the gates (with `o = 4096`), from the arguments. -/
def VO (o : ℕ) (ho : o ≤ 4096) : FVec Ideal S65536x2048 .bf16 := fun y => vgOut (a0 m c) (a1 m c) (a2 m c) o ho (bat (y 0)) (pos (y 0)) (y 1)

/-- A point's rows times the weights. -/
theorem row_point (t : Fin cfg0.N) (i : Fin 512) : brow (iblk m c 0 t) (iblk m c 1 t) (iblk m c 2 t) i
    = prow (a0 m c) (a1 m c) (a2 m c) ⟨t.val / 16, by have := lt_N t; omega⟩ ⟨t.val % 16 * 512 + i, by omega⟩ := by
  unfold brow prow
  simp only [b0_at, b1_at, b2_at]

/-- A point's queries. -/
theorem q_point (t : Fin cfg0.N) (i : Fin 512) (e : Fin 1024) :
    qE (iblk m c 0 t) (iblk m c 1 t) (iblk m c 2 t) (iblk m c 3 t) (iblk m c 4 t) i e
    = qOut (a0 m c) (a1 m c) (a2 m c) ⟨t.val / 16, by have := lt_N t; omega⟩ ⟨t.val % 16 * 512 + i, by omega⟩ (hd e) (ln e) := by
  unfold qE Cert.RetProj.qOut
  simp only [row_point, b3_at, b4_at]

/-- A point's keys. -/
theorem k_point (t : Fin cfg0.N) (i : Fin 512) (e : Fin 1024) :
    kE (iblk m c 0 t) (iblk m c 1 t) (iblk m c 2 t) (iblk m c 3 t) (iblk m c 4 t) i e
    = kOut (a0 m c) (a1 m c) (a2 m c) ⟨t.val / 16, by have := lt_N t; omega⟩ ⟨t.val % 16 * 512 + i, by omega⟩ (hd e) (ln e) := by
  unfold kE kOut
  simp only [row_point, b3_at, b4_at]

/-- A point's decayed keys. -/
theorem kd_point (t : Fin cfg0.N) (i : Fin 512) (e : Fin 1024) :
    kE (iblk m c 0 t) (iblk m c 1 t) (iblk m c 2 t) (iblk m c 3 t) (iblk m c 4 t) i e
      * (show FVec Ideal S4x512x1 .f32 from iblk m c 5 t) (ix3 (hd e) i 0)
    = kdOut (a0 m c) (a1 m c) (a2 m c) ⟨t.val / 16, by have := lt_N t; omega⟩ ⟨t.val % 16 * 512 + i, by omega⟩ (hd e) (ln e) := by
  rw [k_point, b5_at]
  unfold kdOut
  refine congrArg (fun j => _ * kdec (hd e) j) ?_
  show i.val % 256 = (t.val % 16 * 512 + i.val) % 256
  omega

/-- A point's values or gates. -/
theorem vg_point (o : ℕ) (ho : o ≤ 4096) (t : Fin cfg0.N) (i : Fin 512) (e : Fin 2048) :
    vgE (iblk m c 0 t) (iblk m c 1 t) (iblk m c 2 t) o ho i e
    = vgOut (a0 m c) (a1 m c) (a2 m c) o ho ⟨t.val / 16, by have := lt_N t; omega⟩ ⟨t.val % 16 * 512 + i, by omega⟩ e := by
  unfold vgE vgOut
  simp only [row_point]

/-- The batch of a point's row. -/
theorem bat_point (t : Fin cfg0.N) (i : Fin 512) (r : Fin 65536) (hr : r.val = t.val * 512 + i.val) :
    (⟨t.val / 16, by have := lt_N t; omega⟩ : Fin 8) = bat r := Fin.ext (by show t.val / 16 = r.val / 8192; omega)

/-- The position of a point's row. -/
theorem pos_point (t : Fin cfg0.N) (i : Fin 512) (r : Fin 65536) (hr : r.val = t.val * 512 + i.val) :
    (⟨t.val % 16 * 512 + i, by omega⟩ : Fin 8192) = pos r := Fin.ext (by show t.val % 16 * 512 + i.val = r.val % 8192; omega)

/-- The queries the call leaves. -/
theorem q_final : (show FVec Ideal S65536x1024 .bf16 from (dats m 0 c).arrAt 6 (cfgs 0).N) = QO m c := by
  refine (dats m 0 c).arrAt_eq_of_covers 6 _ (by decide +kernel) fun t hf y => ?_
  have hN := lt_N t
  blk_simp
  rw [after0_6]
  have h0 : (y 0 : ℕ) < 512 := (y 0).isLt
  refine (q_block _ _ _ _ _ _ y).trans ((q_point m c t (y 0) (y 1)).trans ?_)
  rw [bat_point t (y 0) ⟨t.val * 512 + (y 0).val, by omega⟩ rfl, pos_point t (y 0) ⟨t.val * 512 + (y 0).val, by omega⟩ rfl]
  refine (congrArg (QO m c) (show (win0_6.blk t).view.emb y = @ix2 65536 1024 ⟨t.val * 512 + (y 0).val, by omega⟩ (y 1) from ?_)).symm
  funext a
  fin_cases a <;> refine Fin.ext ?_ <;> blk_simp [idx_val t] <;> rfl

/-- The keys the call leaves. -/
theorem k_final : (show FVec Ideal S65536x1024 .bf16 from (dats m 0 c).arrAt 7 (cfgs 0).N) = KO m c := by
  refine (dats m 0 c).arrAt_eq_of_covers 7 _ (by decide +kernel) fun t hf y => ?_
  have hN := lt_N t
  blk_simp
  rw [after0_7]
  have h0 : (y 0 : ℕ) < 512 := (y 0).isLt
  refine (k_block _ _ _ _ _ _ y).trans ((k_point m c t (y 0) (y 1)).trans ?_)
  rw [bat_point t (y 0) ⟨t.val * 512 + (y 0).val, by omega⟩ rfl, pos_point t (y 0) ⟨t.val * 512 + (y 0).val, by omega⟩ rfl]
  refine (congrArg (KO m c) (show (win0_7.blk t).view.emb y = @ix2 65536 1024 ⟨t.val * 512 + (y 0).val, by omega⟩ (y 1) from ?_)).symm
  funext a
  fin_cases a <;> refine Fin.ext ?_ <;> blk_simp [idx_val t] <;> rfl

/-- The transposed decayed keys the call leaves. -/
theorem kd_final : (show FVec Ideal S1024x65536 .bf16 from (dats m 0 c).arrAt 8 (cfgs 0).N) = DO m c := by
  refine (dats m 0 c).arrAt_eq_of_covers 8 _ (by decide +kernel) fun t hf y => ?_
  have hN := lt_N t
  blk_simp
  rw [after0_8]
  have h1 : (y 1 : ℕ) < 512 := (y 1).isLt
  refine (kd_block _ _ _ _ _ _ y).trans ((kd_point m c t (y 1) (y 0)).trans ?_)
  rw [bat_point t (y 1) ⟨t.val * 512 + (y 1).val, by omega⟩ rfl, pos_point t (y 1) ⟨t.val * 512 + (y 1).val, by omega⟩ rfl]
  refine (congrArg (DO m c) (show (win0_8.blk t).view.emb y = @ix2 1024 65536 (y 0) ⟨t.val * 512 + (y 1).val, by omega⟩ from ?_)).symm
  funext a
  fin_cases a <;> refine Fin.ext ?_ <;> blk_simp [idx_val t] <;> rfl

/-- The values the call leaves. -/
theorem v_final : (show FVec Ideal S65536x2048 .bf16 from (dats m 0 c).arrAt 9 (cfgs 0).N) = VO m c 2048 (by decide) := by
  refine (dats m 0 c).arrAt_eq_of_covers 9 _ (by decide +kernel) fun t hf y => ?_
  have hN := lt_N t
  blk_simp
  rw [after0_9]
  have h0 : (y 0 : ℕ) < 512 := (y 0).isLt
  refine (v_block _ _ _ _ _ _ y).trans ((vg_point m c 2048 _ t (y 0) (y 1)).trans ?_)
  rw [bat_point t (y 0) ⟨t.val * 512 + (y 0).val, by omega⟩ rfl, pos_point t (y 0) ⟨t.val * 512 + (y 0).val, by omega⟩ rfl]
  refine (congrArg (VO m c 2048 (by decide)) (show (win0_9.blk t).view.emb y = @ix2 65536 2048 ⟨t.val * 512 + (y 0).val, by omega⟩ (y 1) from ?_)).symm
  funext a
  fin_cases a <;> refine Fin.ext ?_ <;> blk_simp [idx_val t] <;> rfl

/-- The gates the call leaves. -/
theorem g_final : (show FVec Ideal S65536x2048 .bf16 from (dats m 0 c).arrAt 10 (cfgs 0).N) = VO m c 4096 (by decide) := by
  refine (dats m 0 c).arrAt_eq_of_covers 10 _ (by decide +kernel) fun t hf y => ?_
  have hN := lt_N t
  blk_simp
  rw [after0_10]
  have h0 : (y 0 : ℕ) < 512 := (y 0).isLt
  refine (g_block _ _ _ _ _ _ y).trans ((vg_point m c 4096 _ t (y 0) (y 1)).trans ?_)
  rw [bat_point t (y 0) ⟨t.val * 512 + (y 0).val, by omega⟩ rfl, pos_point t (y 0) ⟨t.val * 512 + (y 0).val, by omega⟩ rfl]
  refine (congrArg (VO m c 4096 (by decide)) (show (win0_10.blk t).view.emb y = @ix2 65536 2048 ⟨t.val * 512 + (y 0).val, by omega⟩ (y 1) from ?_)).symm
  funext a
  fin_cases a <;> refine Fin.ext ?_ <;> blk_simp [idx_val t] <;> rfl

end Cert.Kernel4Ideal.Rtp

end
-- ==== Proof.RetProjRef.lean ====
/- The projections before the retention in the reference, entry by entry. -/
module

public import proofs.«01_k».proof.Proof.Gen.Reference4Ideal.Run
public import proofs.«01_k».proof.Proof.RetProj
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Reference4Ideal.Rtp

open Cert.Reference4Ideal Cert.Reference4Ideal.Gen Cert.Reference4Ideal.Value Cert.Ffn Cert.RetProj Cert.Retention
open Cert.SbProj (col)

/-- The root-mean-square norm of the rows, times the gain. -/
def normStage (u : FVec Ideal S8x8192x1024 .f32) (g : FVec Ideal S1024 .f32) : FVec Ideal S8x8192x1024 .f32 :=
  mulf (mulf u (broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf u u) (constant S_ .f32 0x00000000#32) reducesTo_S8x8192x1024_S8x8192_d2 h_S_))
    (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The product of the normed rows with the weights. -/
def prod (h : FVec Ideal S8x8192x1024 .f32) (w : FVec Ideal S1024x6144 .f32) : FVec Ideal S8x8192x6144 .f32 :=
  Host.dotGeneral dot_S8x8192x1024_S1024x6144_S8x8192x6144_2_0_01_1_n_n none h w

/-- The split into heads. -/
def heads (p : FVec Ideal S8x8192x1024 .f32) : FVec Ideal S8x4x8192x256 .f32 :=
  transpose S8x4x8192x256 [0, 2, 1, 3] (shapeCast S8x8192x4x256 p shapeCasts_S8x8192x1024_S8x8192x4x256) transposes_S8x8192x4x256_S8x4x8192x256_0_2_1_3

/-- The angles. -/
def angles : FVec Ideal S8192x128 .f32 :=
  mulf (broadcastInDim S8192x128 ![0, 1] bcast_S8192x1_S8192x128_0_1 (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

/-- A table of positions and lanes, for every batch and head. -/
def table (t : FVec Ideal S8192x128 .f32) : FVec Ideal S8x4x8192x128 .f32 :=
  broadcastInDim S8x4x8192x128 ![0, 1, 2, 3] bcast_S1x1x8192x128_S8x4x8192x128_0_1_2_3 (broadcastInDim S1x1x8192x128 ![2, 3] bcast_S8192x128_S1x1x8192x128_2_3 t)

/-- The rotation of the heads by the tables. -/
def rotStage (X : FVec Ideal S8x4x8192x256 .f32) (C S : FVec Ideal S8x4x8192x128 .f32) : FVec Ideal S8x4x8192x256 .f32 :=
  concatenate S8x4x8192x256 3
    [⟨S8x4x8192x128, (subf (mulf (extractStridedSlice S8x4x8192x128 ![0, 0, 0, 0] X slices_S8x4x8192x256_S8x4x8192x128_0_0_0_0) C)
        (mulf (extractStridedSlice S8x4x8192x128 ![0, 0, 0, 128] X slices_S8x4x8192x256_S8x4x8192x128_0_0_0_128) S) : FVec Ideal S8x4x8192x128 .f32)⟩,
     ⟨S8x4x8192x128, (addf (mulf (extractStridedSlice S8x4x8192x128 ![0, 0, 0, 0] X slices_S8x4x8192x256_S8x4x8192x128_0_0_0_0) S)
        (mulf (extractStridedSlice S8x4x8192x128 ![0, 0, 0, 128] X slices_S8x4x8192x256_S8x4x8192x128_0_0_0_128) C) : FVec Ideal S8x4x8192x128 .f32)⟩]
    concatenates_S8x4x8192x128_S8x4x8192x128_S8x4x8192x256_d3

/-- The heads' lanes back as rows. -/
def rows (X : FVec Ideal S8x4x8192x256 .f32) : FVec Ideal S65536x1024 .f32 :=
  shapeCast S65536x1024 (transpose S8x8192x4x256 [0, 2, 1, 3] X transposes_S8x4x8192x256_S8x8192x4x256_0_2_1_3) shapeCasts_S8x8192x4x256_S65536x1024

/-- The keys' scaling. -/
def scaled (X : FVec Ideal S8x4x8192x256 .f32) : FVec Ideal S8x4x8192x256 .f32 :=
  mulf X (broadcastInDim S8x4x8192x256 ![] bcast_S_S8x4x8192x256 (constant S_ .f32 0x3D800000#32))

/-- The keys' decays within a chunk. -/
def decays : FVec Ideal S4x256 .f32 :=
  Host.exp (mulf (broadcastInDim S4x256 ![0, 1] bcast_S1x256_S4x256_0_1 (subf (broadcastInDim S1x256 ![] bcast_S_S1x256 (constant S_ .f32 0x437F0000#32))
      (broadcastInDim S1x256 ![1] bcast_S256_S1x256_1 (sitofp .f32 (iotaInDim S256 32 0)))))
    (broadcastInDim S4x256 ![0, 1] bcast_S4x1_S4x256_0_1 (broadcastInDim S4x1 ![0] bcast_S4_S4x1_0 (Host.log (subf (broadcastInDim S4 ![] bcast_S_S4 (constant S_ .f32 0x3F800000#32))
      (Host.powf (broadcastInDim S4 ![] bcast_S_S4 (constant S_ .f32 0x40000000#32))
        (subf (broadcastInDim S4 ![] bcast_S_S4 (constant S_ .f32 0xC0A00000#32)) (sitofp .f32 (iotaInDim S4 32 0)))))))))

/-- The keys decayed to their chunks' ends. -/
def decayed (X : FVec Ideal S8x4x8192x256 .f32) (D : FVec Ideal S4x256 .f32) : FVec Ideal S8x4x8192x256 .f32 :=
  shapeCast S8x4x8192x256 (mulf (shapeCast S8x4x32x256x256 X shapeCasts_S8x4x8192x256_S8x4x32x256x256)
    (broadcastInDim S8x4x32x256x256 ![0, 1, 2, 3, 4] bcast_S1x4x1x256x1_S8x4x32x256x256_0_1_2_3_4
      (broadcastInDim S1x4x1x256x1 ![1, 3] bcast_S4x256_S1x4x1x256x1_1_3 D))) shapeCasts_S8x4x32x256x256_S8x4x8192x256

/-- The rotated heads whose lanes begin at column `o` of the product. -/
def rotated (Y : FVec Ideal S8x8192x1024 .f32) : FVec Ideal S8x4x8192x256 .f32 :=
  rotStage (heads Y) (table (Host.cos angles)) (table (Host.sin angles))

/-- The queries' columns. -/
def qCols (p : FVec Ideal S8x8192x6144 .f32) : FVec Ideal S8x8192x1024 .f32 :=
  extractStridedSlice S8x8192x1024 ![0, 0, 0] p slices_S8x8192x6144_S8x8192x1024_0_0_0

/-- The keys' columns. -/
def kCols (p : FVec Ideal S8x8192x6144 .f32) : FVec Ideal S8x8192x1024 .f32 :=
  extractStridedSlice S8x8192x1024 ![0, 0, 1024] p slices_S8x8192x6144_S8x8192x1024_0_0_1024

/-- The queries. -/
def qStage (p : FVec Ideal S8x8192x6144 .f32) : FVec Ideal S65536x1024 .bf16 := truncf .bf16 (rows (rotated (qCols p))) bitsLt_bf16_f32

/-- The keys. -/
def kStage (p : FVec Ideal S8x8192x6144 .f32) : FVec Ideal S65536x1024 .bf16 := truncf .bf16 (rows (scaled (rotated (kCols p)))) bitsLt_bf16_f32

/-- The decayed keys, transposed. -/
def kdStage (p : FVec Ideal S8x8192x6144 .f32) : FVec Ideal S1024x65536 .bf16 :=
  truncf .bf16 (transpose S1024x65536 [1, 0] (rows (decayed (scaled (rotated (kCols p))) decays)) transposes_S65536x1024_S1024x65536_1_0) bitsLt_bf16_f32

/-- The values. -/
def vStage (p : FVec Ideal S8x8192x6144 .f32) : FVec Ideal S65536x2048 .bf16 :=
  truncf .bf16 (shapeCast S65536x2048 (extractStridedSlice S8x8192x2048 ![0, 0, 2048] p slices_S8x8192x6144_S8x8192x2048_0_0_2048) shapeCasts_S8x8192x2048_S65536x2048) bitsLt_bf16_f32

/-- The gates. -/
def gStage (p : FVec Ideal S8x8192x6144 .f32) : FVec Ideal S65536x2048 .bf16 :=
  truncf .bf16 (shapeCast S65536x2048 (extractStridedSlice S8x8192x2048 ![0, 0, 4096] p slices_S8x8192x6144_S8x8192x2048_0_0_4096) shapeCasts_S8x8192x2048_S65536x2048) bitsLt_bf16_f32

/-- An entry of the norm. -/
theorem norm_at (u : FVec Ideal S8x8192x1024 .f32) (g : FVec Ideal S1024 .f32) (b : Fin 8) (s : Fin 8192) (e : Fin 1024) :
    normStage u g (ix3 b s e) = nrm (fun e => u (ix3 b s e)) (fun e => g (ix1 e)) e := by
  unfold normStage nrm
  pointwise

/-- An entry of the product. -/
theorem prod_at (h : FVec Ideal S8x8192x1024 .f32) (w : FVec Ideal S1024x6144 .f32) (b : Fin 8) (s : Fin 8192) (f : Fin 6144) :
    prod h w (ix3 b s f) = ∑ d : Fin 1024, h (ix3 b s d) * w (ix2 d f) := by
  unfold prod
  pointwise

/-- An entry of the split into heads. -/
theorem heads_at (p : FVec Ideal S8x8192x1024 .f32) (b : Fin 8) (h : Fin 4) (s : Fin 8192) (l : Fin 256) :
    heads p (ix4 b h s l) = p (ix3 b s ⟨256 * h.val + l.val, by omega⟩) := by
  unfold heads
  pointwise
  exact congrArg p (by idx_ext)

/-- An entry of the angles. -/
theorem angles_at (s : Fin 8192) (l : Fin 128) : angles (ix2 s l) = ang s l := by
  unfold angles ang
  pointwise

/-- An entry of a table. -/
theorem table_at (t : FVec Ideal S8192x128 .f32) (b : Fin 8) (h : Fin 4) (s : Fin 8192) (l : Fin 128) : table t (ix4 b h s l) = t (ix2 s l) := by
  unfold table
  pointwise

/-- An entry of the cosines. -/
theorem cos_at (A : FVec Ideal S8192x128 .f32) (s : Fin 8192) (l : Fin 128) : (show FVec Ideal S8192x128 .f32 from Host.cos A) (ix2 s l) = Ideal.cos (A (ix2 s l)) := by
  pointwise

/-- An entry of the sines. -/
theorem sin_at (A : FVec Ideal S8192x128 .f32) (s : Fin 8192) (l : Fin 128) : (show FVec Ideal S8192x128 .f32 from Host.sin A) (ix2 s l) = Ideal.sin (A (ix2 s l)) := by
  pointwise

/-- An entry of the rotation. -/
theorem rot_at (X : FVec Ideal S8x4x8192x256 .f32) (C S : FVec Ideal S8x4x8192x128 .f32) (b : Fin 8) (h : Fin 4) (s : Fin 8192) (l : Fin 256) :
    rotStage X C S (ix4 b h s l) = if hl : l.val < 128 then
      X (ix4 b h s l) * C (ix4 b h s ⟨l.val, hl⟩) - X (ix4 b h s ⟨128 + l.val, by omega⟩) * S (ix4 b h s ⟨l.val, hl⟩)
      else X (ix4 b h s ⟨l.val - 128, by omega⟩) * S (ix4 b h s ⟨l.val - 128, by omega⟩) + X (ix4 b h s l) * C (ix4 b h s ⟨l.val - 128, by omega⟩) := by
  unfold rotStage
  pointwise
  by_cases hl : l.val < 128
  · rw [dif_pos hl, dif_pos hl]
  · rw [dif_neg hl, dif_neg hl]
    exact congrArg (fun k : Fin 256 => X (ix4 b h s ⟨l.val - 128, by omega⟩) * S (ix4 b h s ⟨l.val - 128, by omega⟩) + X (ix4 b h s k) * C (ix4 b h s ⟨l.val - 128, by omega⟩))
      (Fin.ext (by show 128 + (l.val - 128) = l.val; omega))

/-- An entry of the rows. -/
theorem rows_at (X : FVec Ideal S8x4x8192x256 .f32) (r : Fin 65536) (e : Fin 1024) :
    rows X (ix2 r e) = X (ix4 ⟨r.val / 8192, by omega⟩ ⟨e.val / 256, by omega⟩ ⟨r.val % 8192, by omega⟩ ⟨e.val % 256, by omega⟩) := by
  unfold rows
  pointwise

/-- An entry of the scaled keys. -/
theorem scaled_at (X : FVec Ideal S8x4x8192x256 .f32) (b : Fin 8) (h : Fin 4) (s : Fin 8192) (l : Fin 256) :
    scaled X (ix4 b h s l) = X (ix4 b h s l) * ks := by
  unfold scaled ks
  pointwise

/-- An entry of the decays. -/
theorem decays_at (h : Fin 4) (j : Fin 256) : decays (ix2 h j) = kdec h j.val := by
  unfold decays kdec
  pointwise
  refine host_decay _ _ _ (by omega) ?_
  rw [sitofp_ofNat _ (by omega), bits_255, ← EReal.coe_sub]

/-- An entry of the decayed keys. -/
theorem decayed_at (X : FVec Ideal S8x4x8192x256 .f32) (D : FVec Ideal S4x256 .f32) (b : Fin 8) (h : Fin 4) (s : Fin 8192) (l : Fin 256) :
    decayed X D (ix4 b h s l) = X (ix4 b h s l) * D (ix2 h ⟨s.val % 256, by omega⟩) := by
  unfold decayed
  pointwise

/-- An entry of the rotated heads, where the columns are those of `q` from `o` on. -/
theorem rotated_at (Y : FVec Ideal S8x8192x1024 .f32) (q : Fin 6144 → EReal) (o : ℕ) (ho : o ≤ 1024) (b : Fin 8) (s : Fin 8192)
    (hY : ∀ e : Fin 1024, Y (ix3 b s e) = q ⟨o + e.val, by omega⟩) (h : Fin 4) (l : Fin 256) :
    rotated Y (ix4 b h s l) = rot q (fun l => Ideal.cos (ang s l)) (fun l => Ideal.sin (ang s l)) o ho h l := by
  unfold rotated
  rw [rot_at]
  simp only [heads_at, hY, table_at, cos_at, sin_at, angles_at]
  rfl

/-- An entry of the queries' columns. -/
theorem qCols_at (p : FVec Ideal S8x8192x6144 .f32) (b : Fin 8) (s : Fin 8192) (e : Fin 1024) :
    qCols p (ix3 b s e) = p (ix3 b s ⟨0 + e.val, by omega⟩) := by
  unfold qCols
  pointwise
  all_goals exact congrArg p (by idx_ext)

/-- An entry of the keys' columns. -/
theorem kCols_at (p : FVec Ideal S8x8192x6144 .f32) (b : Fin 8) (s : Fin 8192) (e : Fin 1024) :
    kCols p (ix3 b s e) = p (ix3 b s ⟨1024 + e.val, by omega⟩) := by
  unfold kCols
  pointwise

variable (m : (ℓ : Loc nD τ sig) → Buf (Elt Ideal) ℓ) (c : Dev nD)

/-- The rows. -/
abbrev a0 : FVec Ideal S8x8192x1024 .f32 := m ((c.tc : Thread nD τ).loc main_arg0)
/-- The gain. -/
abbrev a1 : FVec Ideal S1024 .f32 := m ((c.tc : Thread nD τ).loc main_arg1)
/-- The weights. -/
abbrev a2 : FVec Ideal S1024x6144 .f32 := m ((c.tc : Thread nD τ).loc main_arg2)

/-- The product, from the arguments. -/
abbrev P : FVec Ideal S8x8192x6144 .f32 := prod (normStage (a0 m c) (a1 m c)) (a2 m c)

/-- A row of the product. -/
theorem P_at (b : Fin 8) (s : Fin 8192) (f : Fin 6144) : P m c (ix3 b s f) = prow (a0 m c) (a1 m c) (a2 m c) b s f := by
  unfold P
  rw [prod_at]
  simp only [norm_at]
  rfl

/-- The queries' entries. -/
theorem q_at (r : Fin 65536) (e : Fin 1024) : qStage (P m c) (ix2 r e)
    = qOut (a0 m c) (a1 m c) (a2 m c) ⟨r.val / 8192, by omega⟩ ⟨r.val % 8192, by omega⟩ ⟨e.val / 256, by omega⟩ ⟨e.val % 256, by omega⟩ := by
  refine (show qStage (P m c) (ix2 r e) = rows (rotated (qCols (P m c))) (ix2 r e) from rfl).trans ?_
  rw [rows_at]
  exact rotated_at _ _ 0 _ _ _ (fun e => (qCols_at _ _ _ e).trans (P_at m c _ _ _)) _ _

/-- The keys' entries. -/
theorem key_at (b : Fin 8) (h : Fin 4) (s : Fin 8192) (l : Fin 256) : scaled (rotated (kCols (P m c))) (ix4 b h s l)
    = kOut (a0 m c) (a1 m c) (a2 m c) b s h l := by
  rw [scaled_at]
  exact congrArg (· * ks) (rotated_at _ _ 1024 _ _ _ (fun e => (kCols_at _ _ _ e).trans (P_at m c _ _ _)) _ _)

/-- The keys' entries, as rows. -/
theorem k_at (r : Fin 65536) (e : Fin 1024) : kStage (P m c) (ix2 r e)
    = kOut (a0 m c) (a1 m c) (a2 m c) ⟨r.val / 8192, by omega⟩ ⟨r.val % 8192, by omega⟩ ⟨e.val / 256, by omega⟩ ⟨e.val % 256, by omega⟩ := by
  refine (show kStage (P m c) (ix2 r e) = rows (scaled (rotated (kCols (P m c)))) (ix2 r e) from rfl).trans ?_
  rw [rows_at]
  exact key_at m c _ _ _ _

/-- A transposed entry. -/
theorem transposed_at (X : FVec Ideal S65536x1024 .f32) (e : Fin 1024) (r : Fin 65536) :
    (show FVec Ideal S1024x65536 .bf16 from truncf .bf16 (transpose S1024x65536 [1, 0] X transposes_S65536x1024_S1024x65536_1_0) bitsLt_bf16_f32) (ix2 e r) = X (ix2 r e) := by
  pointwise

/-- The decayed keys' entries, transposed. -/
theorem kd_at (e : Fin 1024) (r : Fin 65536) : kdStage (P m c) (ix2 e r)
    = kdOut (a0 m c) (a1 m c) (a2 m c) ⟨r.val / 8192, by omega⟩ ⟨r.val % 8192, by omega⟩ ⟨e.val / 256, by omega⟩ ⟨e.val % 256, by omega⟩ := by
  refine (transposed_at _ e r).trans ?_
  rw [rows_at, decayed_at, key_at, decays_at]
  rfl

/-- The values' entries. -/
theorem v_at (r : Fin 65536) (e : Fin 2048) : vStage (P m c) (ix2 r e)
    = vgOut (a0 m c) (a1 m c) (a2 m c) 2048 (by decide) ⟨r.val / 8192, by omega⟩ ⟨r.val % 8192, by omega⟩ e := by
  refine Eq.trans ?_ (P_at m c _ _ _)
  unfold vStage
  generalize P m c = p
  pointwise

/-- The gates' entries. -/
theorem g_at (r : Fin 65536) (e : Fin 2048) : gStage (P m c) (ix2 r e)
    = vgOut (a0 m c) (a1 m c) (a2 m c) 4096 (by decide) ⟨r.val / 8192, by omega⟩ ⟨r.val % 8192, by omega⟩ e := by
  refine Eq.trans ?_ (P_at m c _ _ _)
  unfold gStage
  generalize P m c = p
  pointwise

end Cert.Reference4Ideal.Rtp

end
-- ==== Proof.RetProjEq.lean ====
/- The retention's projection call leaves what its reference leaves. -/
module

public import proofs.«01_k».proof.Proof.RetProjValue
public import proofs.«01_k».proof.Proof.RetProjRef
public import Idealize.ShloMosaic.Lib.Quiescent
public import proofs.«01_k».proof.Defs
public import Idealize.ShloMosaic.Adequacy
public import Idealize.ShloMosaic.Init

@[expose] public section

noncomputable section

namespace Cert.Proof

open Idealize.ShloMosaic Idealize.SL.Sem

/-- The retention projection's reference leaves its arguments as they are and every counter at zero. -/
theorem reference4_frame [Cert.Reference4Ideal.Facts] : Cert.quiescent_Reference4Ideal := fun m ρ _ =>
  (θ_run _ _ _).mono (fun r h => ⟨fun c => (h c).2.2.2.2.2, sem_eq_zero_of_no_sems (by decide) r.2⟩)
    (Cert.Reference4Ideal.Value.run m ρ)

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)
  (c : Dev Cert.Kernel4Ideal.nD)
  (h0 : Cert.Reference4Ideal.Rtp.a0 m' c = Cert.Kernel4Ideal.Rtp.a0 m c) (h1 : Cert.Reference4Ideal.Rtp.a1 m' c = Cert.Kernel4Ideal.Rtp.a1 m c) (h2 : Cert.Reference4Ideal.Rtp.a2 m' c = Cert.Kernel4Ideal.Rtp.a2 m c)

include h0 h1 h2

/-- From equal arguments, the reference's queries are the kernel's. -/
theorem q4 : Cert.Reference4Ideal.Rtp.qStage (Cert.Reference4Ideal.Rtp.P m' c) = Cert.Kernel4Ideal.Rtp.QO m c := by
  unfold Cert.Kernel4Ideal.Rtp.QO
  rw [← h0, ← h1, ← h2]
  funext y
  refine (congrArg _ (show y = @ix2 65536 1024 (y 0) (y 1) by idx_ext)).trans ?_
  exact Cert.Reference4Ideal.Rtp.q_at m' c (y 0) (y 1)

/-- From equal arguments, the reference's keys are the kernel's. -/
theorem k4 : Cert.Reference4Ideal.Rtp.kStage (Cert.Reference4Ideal.Rtp.P m' c) = Cert.Kernel4Ideal.Rtp.KO m c := by
  unfold Cert.Kernel4Ideal.Rtp.KO
  rw [← h0, ← h1, ← h2]
  funext y
  refine (congrArg _ (show y = @ix2 65536 1024 (y 0) (y 1) by idx_ext)).trans ?_
  exact Cert.Reference4Ideal.Rtp.k_at m' c (y 0) (y 1)

/-- From equal arguments, the reference's transposed decayed keys are the kernel's. -/
theorem kd4 : Cert.Reference4Ideal.Rtp.kdStage (Cert.Reference4Ideal.Rtp.P m' c) = Cert.Kernel4Ideal.Rtp.DO m c := by
  unfold Cert.Kernel4Ideal.Rtp.DO
  rw [← h0, ← h1, ← h2]
  funext y
  refine (congrArg _ (show y = @ix2 1024 65536 (y 0) (y 1) by idx_ext)).trans ?_
  exact Cert.Reference4Ideal.Rtp.kd_at m' c (y 0) (y 1)

/-- From equal arguments, the reference's values are the kernel's. -/
theorem v4 : Cert.Reference4Ideal.Rtp.vStage (Cert.Reference4Ideal.Rtp.P m' c) = Cert.Kernel4Ideal.Rtp.VO m c 2048 (by decide) := by
  unfold Cert.Kernel4Ideal.Rtp.VO
  rw [← h0, ← h1, ← h2]
  funext y
  refine (congrArg _ (show y = @ix2 65536 2048 (y 0) (y 1) by idx_ext)).trans ?_
  exact Cert.Reference4Ideal.Rtp.v_at m' c (y 0) (y 1)

/-- From equal arguments, the reference's gates are the kernel's. -/
theorem g4 : Cert.Reference4Ideal.Rtp.gStage (Cert.Reference4Ideal.Rtp.P m' c) = Cert.Kernel4Ideal.Rtp.VO m c 4096 (by decide) := by
  unfold Cert.Kernel4Ideal.Rtp.VO
  rw [← h0, ← h1, ← h2]
  funext y
  refine (congrArg _ (show y = @ix2 65536 2048 (y 0) (y 1) by idx_ext)).trans ?_
  exact Cert.Reference4Ideal.Rtp.g_at m' c (y 0) (y 1)

end

/-- The retention projection call's five results are its reference's. -/
theorem value4 : Cert.algebraic_Kernel4Ideal_Reference4Ideal :=
  fun m ρ m' ρ' _ hag =>
    ⟨fun c => Cert.Kernel4Ideal.Rtp.QO m c, fun c => Cert.Kernel4Ideal.Rtp.KO m c, fun c => Cert.Kernel4Ideal.Rtp.DO m c, fun c => Cert.Kernel4Ideal.Rtp.VO m c 2048 (by decide), fun c => Cert.Kernel4Ideal.Rtp.VO m c 4096 (by decide),
      (θ_run _ _ _).mono (fun _ h c => ⟨(h c).1.trans (Cert.Kernel4Ideal.Rtp.q_final m c), (h c).2.1.trans (Cert.Kernel4Ideal.Rtp.k_final m c),
          (h c).2.2.1.trans (Cert.Kernel4Ideal.Rtp.kd_final m c), (h c).2.2.2.1.trans (Cert.Kernel4Ideal.Rtp.v_final m c), (h c).2.2.2.2.1.trans (Cert.Kernel4Ideal.Rtp.g_final m c), (h c).2.2.2.2.2⟩)
        (Cert.Kernel4Ideal.Value.run_blocks m ρ),
      (θ_run _ _ _).mono (fun _ h c => ⟨(h c).1.trans (q4 m m' c (hag c).1 (hag c).2.1 (hag c).2.2),
          (h c).2.1.trans (k4 m m' c (hag c).1 (hag c).2.1 (hag c).2.2),
          (h c).2.2.1.trans (kd4 m m' c (hag c).1 (hag c).2.1 (hag c).2.2),
          (h c).2.2.2.1.trans (v4 m m' c (hag c).1 (hag c).2.1 (hag c).2.2),
          (h c).2.2.2.2.1.trans (g4 m m' c (hag c).1 (hag c).2.1 (hag c).2.2), (h c).2.2.2.2.2⟩)
        (Cert.Reference4Ideal.Value.run m' ρ')⟩

end Cert.Proof

end
-- ==== Proof.SbProjKer.lean ====
/- The attention's projection call: what its body leaves in the blocks of the queries, the keys and the transposed values. -/
module

public import proofs.«01_k».proof.Proof.SbProj
public import proofs.«01_k».proof.Proof.Gen.Kernel5Ideal
public import proofs.«01_k».proof.Proof.Gen.Kernel5Ideal.Frame
public import proofs.«01_k».proof.Proof.Gen.Kernel5Ideal.Value

@[expose] public section

set_option maxRecDepth 16384

noncomputable section

open Idealize.ShloMosaic Idealize.ShloMosaic.TcCoe Idealize.SL.Sem
open Idealize.ShloMosaic.Pipeline (Dat)

namespace Cert.Kernel5Ideal.Sbp

open Cert.Kernel5Ideal Cert.Kernel5Ideal.Gen Cert.Ffn Cert.SbProj

/-- A normed row of the block times a column of the weights. -/
abbrev bcol {n : ℕ} (x : FVec Ideal S512x1024 .f32) (g : FVec Ideal S1x1024 .f32) (W : (⟨2, ![1024, n]⟩ : Shape).Idx → EReal) (i : Fin 512) (f : Fin n) : EReal :=
  col (fun e => x (ix2 i e)) (fun e => g (ix2 0 e)) (fun d f => W (ix2 d f)) f

variable {x0 : FVec Ideal S512x1024 .f32} {x1 x2 : FVec Ideal S1x1024 .f32} {x3 : FVec Ideal S1024x2048 .bf16} {x4 : FVec Ideal S1024x1024 .bf16}

/-- The rows normed with the keys' gain. -/
theorem nrm_at (g : FVec Ideal S1x1024 .f32) (i : Fin 512) (d : Fin 1024) :
    (show FVec Ideal S512x1024 .bf16 from k0_pay3 (F := Ideal) x0 g) (ix2 i d) = nrm (fun e => x0 (ix2 i e)) (fun e => g (ix2 0 e)) d := by
  unfold k0_pay3 k0_pay2 nrm
  pointwise

/-- A product of the normed rows with 256 columns of the keys' and values' weights. -/
theorem kv_at (O : ℕ) (hO : ∀ a, (![0, O] : Fin 2 → ℕ) a + S1024x256.size a ≤ S1024x2048.size a) (i : Fin 512) (j : Fin 256) (hj : O + j.val < 2048) :
    (show FVec Ideal S512x256 .f32 from k0_pay39 (F := Ideal) (k0_pay3 (F := Ideal) x0 x1)
      (View.ld (Val := Elt Ideal) (e' := .bf16) x3 (Rect.unit ![0, O] ![1024, 256] hO))) (ix2 i j) = bcol x0 x1 x3 i ⟨O + j.val, hj⟩ := by
  have hH := fun i d => nrm_at (x0 := x0) x1 i d
  unfold k0_pay39 bcol col
  simp only [← hH]
  generalize k0_pay3 (F := Ideal) x0 x1 = H
  generalize hA : View.ld (Val := Elt Ideal) (e' := .bf16) x3 (Rect.unit ![0, O] ![1024, 256] hO) = A
  pointwise
  refine Finset.sum_congr rfl fun d _ => congrArg (H (ix2 i d) * ·) ?_
  subst hA
  exact congrArg x3 (show _ = ix2 d ⟨O + j.val, hj⟩ by idx_ext)

/-- A product of the normed rows with 256 columns of the queries' weights, scaled. -/
theorem q_at (O : ℕ) (hO : ∀ a, (![0, O] : Fin 2 → ℕ) a + S1024x256.size a ≤ S1024x1024.size a) (i : Fin 512) (j : Fin 256) (hj : O + j.val < 1024) :
    (show FVec Ideal S512x256 .f32 from k0_pay38 (F := Ideal) (k0_pay3 (F := Ideal) x0 x2)
      (View.ld (Val := Elt Ideal) (e' := .bf16) x4 (Rect.unit ![0, O] ![1024, 256] hO))) (ix2 i j) = bcol x0 x2 x4 i ⟨O + j.val, hj⟩ * qs := by
  have hH := fun i d => nrm_at (x0 := x0) x2 i d
  unfold k0_pay38 bcol col qs
  simp only [← hH]
  generalize k0_pay3 (F := Ideal) x0 x2 = H
  generalize hA : View.ld (Val := Elt Ideal) (e' := .bf16) x4 (Rect.unit ![0, O] ![1024, 256] hO) = A
  pointwise
  refine congrArg (· * _) (Finset.sum_congr rfl fun d _ => congrArg (H (ix2 i d) * ·) ?_)
  subst hA
  exact congrArg x4 (show _ = ix2 d ⟨O + j.val, hj⟩ by idx_ext)

/-- A head's 64 columns of a product, stored by tokens. -/
theorem lane_at (o : ℕ) (ho : o + 64 ≤ 256) (hs : S512x256.Slices ![0, o] S512x64) (P : FVec Ideal S512x256 .f32) (x : S1x1x512x64.Idx) :
    (show FVec Ideal S1x1x512x64 .bf16 from shapeCast S1x1x512x64 (truncf (F := Ideal) .bf16 (extractStridedSlice S512x64 ![0, o] P hs) bitsLt_bf16_f32)
      shapeCasts_S512x64_S1x1x512x64) x = P (ix2 (x 2) ⟨o + (x 3).val, by have := (x 3).isLt; have : (x 3 : ℕ) < 64 := this; omega⟩) := by
  obtain ⟨a, b, i, d, rfl⟩ : ∃ a b i d, x = ix4 a b i d := ⟨x 0, x 1, x 2, x 3, by idx_ext⟩
  pointwise

/-- A head's 64 columns of a product, stored by lanes. -/
theorem laneT_at (o : ℕ) (ho : o + 64 ≤ 256) (hs : S512x256.Slices ![0, o] S512x64) (P : FVec Ideal S512x256 .f32) (x : S1x1x64x512.Idx) :
    (show FVec Ideal S1x1x64x512 .bf16 from shapeCast S1x1x64x512 (truncf (F := Ideal) .bf16 (transpose S64x512 [1, 0]
      (extractStridedSlice S512x64 ![0, o] P hs) transposes_S512x64_p1_0_S64x512) bitsLt_bf16_f32)
      shapeCasts_S64x512_S1x1x64x512) x = P (ix2 (x 3) ⟨o + (x 2).val, by have := (x 2).isLt; have : (x 2 : ℕ) < 64 := this; omega⟩) := by
  obtain ⟨a, b, i, d, rfl⟩ : ∃ a b i d, x = ix4 a b i d := ⟨x 0, x 1, x 2, x 3, by idx_ext⟩
  pointwise

/-- A query of the block: head `y 1`, token `y 2`, lane `y 3`. -/
def qE (x0 : FVec Ideal S512x1024 .f32) (x2 : FVec Ideal S1x1024 .f32) (x4 : FVec Ideal S1024x1024 .bf16) (h : Fin 16) (i : Fin 512) (d : Fin 64) : EReal :=
  bcol x0 x2 x4 i ⟨64 * h.val + d.val, by omega⟩ * qs

/-- A key or value of the block, whose heads' columns begin at `b`. -/
def kvE (b : ℕ) (hb : b ≤ 1024) (x0 : FVec Ideal S512x1024 .f32) (x1 : FVec Ideal S1x1024 .f32) (x3 : FVec Ideal S1024x2048 .bf16)
    (h : Fin 16) (i : Fin 512) (d : Fin 64) : EReal :=
  bcol x0 x1 x3 i ⟨b + (64 * h.val + d.val), by omega⟩

/-- A store of a head's queries. -/
theorem q_piece (O o : ℕ) (ho : o + 64 ≤ 256) {hs : S512x256.Slices ![0, o] S512x64}
    {hO : ∀ a, (![0, O] : Fin 2 → ℕ) a + S1024x256.size a ≤ S1024x1024.size a} (x : S1x1x512x64.Idx) (y : S1x16x512x64.Idx)
    (e1 : O + o = 64 * (y 1).val) (e2 : (y 2).val = (x 2).val) (e3 : (y 3).val = (x 3).val) :
    (show FVec Ideal S1x1x512x64 .bf16 from shapeCast S1x1x512x64 (truncf (F := Ideal) .bf16 (extractStridedSlice S512x64 ![0, o]
      (k0_pay38 (F := Ideal) (k0_pay3 (F := Ideal) x0 x2) (View.ld (Val := Elt Ideal) (e' := .bf16) x4 (Rect.unit ![0, O] ![1024, 256] hO))) hs)
      bitsLt_bf16_f32) shapeCasts_S512x64_S1x1x512x64) x = qE x0 x2 x4 (y 1) (y 2) (y 3) := by
  have b1 : (y 1 : ℕ) < 16 := (y 1).isLt
  have b3 : (x 3 : ℕ) < 64 := (x 3).isLt
  refine (lane_at o ho hs _ x).trans ((q_at O hO _ _ (by show O + (o + _) < 1024; omega)).trans ?_)
  unfold qE
  refine congrArg (· * qs) (congr (congrArg (bcol x0 x2 x4) (Fin.ext e2.symm)) (Fin.ext ?_))
  show O + (o + (x 3).val) = 64 * (y 1).val + (y 3).val
  omega

/-- A store of a head's keys. -/
theorem k_piece (O o : ℕ) (ho : o + 64 ≤ 256) {hs : S512x256.Slices ![0, o] S512x64}
    {hO : ∀ a, (![0, O] : Fin 2 → ℕ) a + S1024x256.size a ≤ S1024x2048.size a} (x : S1x1x512x64.Idx) (y : S1x16x512x64.Idx)
    (e1 : O + o = 64 * (y 1).val) (e2 : (y 2).val = (x 2).val) (e3 : (y 3).val = (x 3).val) :
    (show FVec Ideal S1x1x512x64 .bf16 from shapeCast S1x1x512x64 (truncf (F := Ideal) .bf16 (extractStridedSlice S512x64 ![0, o]
      (k0_pay39 (F := Ideal) (k0_pay3 (F := Ideal) x0 x1) (View.ld (Val := Elt Ideal) (e' := .bf16) x3 (Rect.unit ![0, O] ![1024, 256] hO))) hs)
      bitsLt_bf16_f32) shapeCasts_S512x64_S1x1x512x64) x = kvE 0 (by decide) x0 x1 x3 (y 1) (y 2) (y 3) := by
  have b1 : (y 1 : ℕ) < 16 := (y 1).isLt
  have b3 : (x 3 : ℕ) < 64 := (x 3).isLt
  refine (lane_at o ho hs _ x).trans ((kv_at O hO _ _ (by show O + (o + _) < 2048; omega)).trans ?_)
  unfold kvE
  refine congr (congrArg (bcol x0 x1 x3) (Fin.ext e2.symm)) (Fin.ext ?_)
  show O + (o + (x 3).val) = 0 + (64 * (y 1).val + (y 3).val)
  omega

/-- A store of a head's values, transposed. -/
theorem v_piece (O o : ℕ) (ho : o + 64 ≤ 256) {hs : S512x256.Slices ![0, o] S512x64}
    {hO : ∀ a, (![0, O] : Fin 2 → ℕ) a + S1024x256.size a ≤ S1024x2048.size a} (x : S1x1x64x512.Idx) (y : S1x16x64x512.Idx)
    (e1 : O + o = 1024 + 64 * (y 1).val) (e2 : (y 2).val = (x 2).val) (e3 : (y 3).val = (x 3).val) :
    (show FVec Ideal S1x1x64x512 .bf16 from shapeCast S1x1x64x512 (truncf (F := Ideal) .bf16 (transpose S64x512 [1, 0] (extractStridedSlice S512x64 ![0, o]
      (k0_pay39 (F := Ideal) (k0_pay3 (F := Ideal) x0 x1) (View.ld (Val := Elt Ideal) (e' := .bf16) x3 (Rect.unit ![0, O] ![1024, 256] hO))) hs)
      transposes_S512x64_p1_0_S64x512) bitsLt_bf16_f32) shapeCasts_S64x512_S1x1x64x512) x = kvE 1024 (by decide) x0 x1 x3 (y 1) (y 3) (y 2) := by
  have b1 : (y 1 : ℕ) < 16 := (y 1).isLt
  have b2 : (x 2 : ℕ) < 64 := (x 2).isLt
  refine (laneT_at o ho hs _ x).trans ((kv_at O hO _ _ (by show O + (o + _) < 2048; omega)).trans ?_)
  unfold kvE
  refine congr (congrArg (bcol x0 x1 x3) (Fin.ext e3.symm)) (Fin.ext ?_)
  show O + (o + (x 2).val) = 1024 + (64 * (y 1).val + (y 2).val)
  omega

/-- The block of the queries. -/
theorem q_block (y : S1x16x512x64.Idx) :
    (show FVec Ideal S1x16x512x64 .bf16 from out0_5 (F := Ideal) x0 x1 x2 x3 x4) y = qE x0 x2 x4 (y 1) (y 2) (y 3) := by
  unfold_out out0_5
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x2 r0_1 = x2 := View.ld_unit_lit (Val := Elt Ideal) (e := .f32) (S := S1x1024) (off := ![0, 0]) inb_S1x1024_S1x1024_0_0 x2 (by decide)
  simp only [l0, l1]
  canon_tiles x h
  case piece0 => exact q_piece (x0 := x0) (x2 := x2) (x4 := x4) 768 192 (by decide) (hs := slices_S512x256_o0_192_S512x64) x y (by omega) (by omega) (by omega)
  case piece1 => exact q_piece (x0 := x0) (x2 := x2) (x4 := x4) 768 128 (by decide) (hs := slices_S512x256_o0_128_S512x64) x y (by omega) (by omega) (by omega)
  case piece2 => exact q_piece (x0 := x0) (x2 := x2) (x4 := x4) 768 64 (by decide) (hs := slices_S512x256_o0_64_S512x64) x y (by omega) (by omega) (by omega)
  case piece3 => exact q_piece (x0 := x0) (x2 := x2) (x4 := x4) 768 0 (by decide) (hs := slices_S512x256_o0_0_S512x64) x y (by omega) (by omega) (by omega)
  case piece4 => exact q_piece (x0 := x0) (x2 := x2) (x4 := x4) 512 192 (by decide) (hs := slices_S512x256_o0_192_S512x64) x y (by omega) (by omega) (by omega)
  case piece5 => exact q_piece (x0 := x0) (x2 := x2) (x4 := x4) 512 128 (by decide) (hs := slices_S512x256_o0_128_S512x64) x y (by omega) (by omega) (by omega)
  case piece6 => exact q_piece (x0 := x0) (x2 := x2) (x4 := x4) 512 64 (by decide) (hs := slices_S512x256_o0_64_S512x64) x y (by omega) (by omega) (by omega)
  case piece7 => exact q_piece (x0 := x0) (x2 := x2) (x4 := x4) 512 0 (by decide) (hs := slices_S512x256_o0_0_S512x64) x y (by omega) (by omega) (by omega)
  case piece8 => exact q_piece (x0 := x0) (x2 := x2) (x4 := x4) 256 192 (by decide) (hs := slices_S512x256_o0_192_S512x64) x y (by omega) (by omega) (by omega)
  case piece9 => exact q_piece (x0 := x0) (x2 := x2) (x4 := x4) 256 128 (by decide) (hs := slices_S512x256_o0_128_S512x64) x y (by omega) (by omega) (by omega)
  case piece10 => exact q_piece (x0 := x0) (x2 := x2) (x4 := x4) 256 64 (by decide) (hs := slices_S512x256_o0_64_S512x64) x y (by omega) (by omega) (by omega)
  case piece11 => exact q_piece (x0 := x0) (x2 := x2) (x4 := x4) 256 0 (by decide) (hs := slices_S512x256_o0_0_S512x64) x y (by omega) (by omega) (by omega)
  case piece12 => exact q_piece (x0 := x0) (x2 := x2) (x4 := x4) 0 192 (by decide) (hs := slices_S512x256_o0_192_S512x64) x y (by omega) (by omega) (by omega)
  case piece13 => exact q_piece (x0 := x0) (x2 := x2) (x4 := x4) 0 128 (by decide) (hs := slices_S512x256_o0_128_S512x64) x y (by omega) (by omega) (by omega)
  case piece14 => exact q_piece (x0 := x0) (x2 := x2) (x4 := x4) 0 64 (by decide) (hs := slices_S512x256_o0_64_S512x64) x y (by omega) (by omega) (by omega)
  case piece15 => exact q_piece (x0 := x0) (x2 := x2) (x4 := x4) 0 0 (by decide) (hs := slices_S512x256_o0_0_S512x64) x y (by omega) (by omega) (by omega)

/-- The block of the keys. -/
theorem k_block (y : S1x16x512x64.Idx) :
    (show FVec Ideal S1x16x512x64 .bf16 from out0_6 (F := Ideal) x0 x1 x2 x3 x4) y = kvE 0 (by decide) x0 x1 x3 (y 1) (y 2) (y 3) := by
  unfold_out out0_6
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  simp only [l0, l1]
  canon_tiles x h
  case piece0 => exact k_piece (x0 := x0) (x1 := x1) (x3 := x3) 768 192 (by decide) (hs := slices_S512x256_o0_192_S512x64) x y (by omega) (by omega) (by omega)
  case piece1 => exact k_piece (x0 := x0) (x1 := x1) (x3 := x3) 768 128 (by decide) (hs := slices_S512x256_o0_128_S512x64) x y (by omega) (by omega) (by omega)
  case piece2 => exact k_piece (x0 := x0) (x1 := x1) (x3 := x3) 768 64 (by decide) (hs := slices_S512x256_o0_64_S512x64) x y (by omega) (by omega) (by omega)
  case piece3 => exact k_piece (x0 := x0) (x1 := x1) (x3 := x3) 768 0 (by decide) (hs := slices_S512x256_o0_0_S512x64) x y (by omega) (by omega) (by omega)
  case piece4 => exact k_piece (x0 := x0) (x1 := x1) (x3 := x3) 512 192 (by decide) (hs := slices_S512x256_o0_192_S512x64) x y (by omega) (by omega) (by omega)
  case piece5 => exact k_piece (x0 := x0) (x1 := x1) (x3 := x3) 512 128 (by decide) (hs := slices_S512x256_o0_128_S512x64) x y (by omega) (by omega) (by omega)
  case piece6 => exact k_piece (x0 := x0) (x1 := x1) (x3 := x3) 512 64 (by decide) (hs := slices_S512x256_o0_64_S512x64) x y (by omega) (by omega) (by omega)
  case piece7 => exact k_piece (x0 := x0) (x1 := x1) (x3 := x3) 512 0 (by decide) (hs := slices_S512x256_o0_0_S512x64) x y (by omega) (by omega) (by omega)
  case piece8 => exact k_piece (x0 := x0) (x1 := x1) (x3 := x3) 256 192 (by decide) (hs := slices_S512x256_o0_192_S512x64) x y (by omega) (by omega) (by omega)
  case piece9 => exact k_piece (x0 := x0) (x1 := x1) (x3 := x3) 256 128 (by decide) (hs := slices_S512x256_o0_128_S512x64) x y (by omega) (by omega) (by omega)
  case piece10 => exact k_piece (x0 := x0) (x1 := x1) (x3 := x3) 256 64 (by decide) (hs := slices_S512x256_o0_64_S512x64) x y (by omega) (by omega) (by omega)
  case piece11 => exact k_piece (x0 := x0) (x1 := x1) (x3 := x3) 256 0 (by decide) (hs := slices_S512x256_o0_0_S512x64) x y (by omega) (by omega) (by omega)
  case piece12 => exact k_piece (x0 := x0) (x1 := x1) (x3 := x3) 0 192 (by decide) (hs := slices_S512x256_o0_192_S512x64) x y (by omega) (by omega) (by omega)
  case piece13 => exact k_piece (x0 := x0) (x1 := x1) (x3 := x3) 0 128 (by decide) (hs := slices_S512x256_o0_128_S512x64) x y (by omega) (by omega) (by omega)
  case piece14 => exact k_piece (x0 := x0) (x1 := x1) (x3 := x3) 0 64 (by decide) (hs := slices_S512x256_o0_64_S512x64) x y (by omega) (by omega) (by omega)
  case piece15 => exact k_piece (x0 := x0) (x1 := x1) (x3 := x3) 0 0 (by decide) (hs := slices_S512x256_o0_0_S512x64) x y (by omega) (by omega) (by omega)

/-- The block of the transposed values. -/
theorem v_block (y : S1x16x64x512.Idx) :
    (show FVec Ideal S1x16x64x512 .bf16 from out0_7 (F := Ideal) x0 x1 x2 x3 x4) y = kvE 1024 (by decide) x0 x1 x3 (y 1) (y 3) (y 2) := by
  unfold_out out0_7
  have l0 : View.ld (Val := Elt Ideal) (e' := .f32) x0 r0_0 = x0 := View.ld_unit_lit (Val := Elt Ideal) (e := .f32) (S := S512x1024) (off := ![0, 0]) inb_S512x1024_S512x1024_0_0 x0 (by decide)
  have l1 : View.ld (Val := Elt Ideal) (e' := .f32) x1 r0_1 = x1 := View.ld_unit_lit (Val := Elt Ideal) (e := .f32) (S := S1x1024) (off := ![0, 0]) inb_S1x1024_S1x1024_0_0 x1 (by decide)
  simp only [l0, l1]
  canon_tiles x h
  case piece0 => exact v_piece (x0 := x0) (x1 := x1) (x3 := x3) 1792 192 (by decide) (hs := slices_S512x256_o0_192_S512x64) x y (by omega) (by omega) (by omega)
  case piece1 => exact v_piece (x0 := x0) (x1 := x1) (x3 := x3) 1792 128 (by decide) (hs := slices_S512x256_o0_128_S512x64) x y (by omega) (by omega) (by omega)
  case piece2 => exact v_piece (x0 := x0) (x1 := x1) (x3 := x3) 1792 64 (by decide) (hs := slices_S512x256_o0_64_S512x64) x y (by omega) (by omega) (by omega)
  case piece3 => exact v_piece (x0 := x0) (x1 := x1) (x3 := x3) 1792 0 (by decide) (hs := slices_S512x256_o0_0_S512x64) x y (by omega) (by omega) (by omega)
  case piece4 => exact v_piece (x0 := x0) (x1 := x1) (x3 := x3) 1536 192 (by decide) (hs := slices_S512x256_o0_192_S512x64) x y (by omega) (by omega) (by omega)
  case piece5 => exact v_piece (x0 := x0) (x1 := x1) (x3 := x3) 1536 128 (by decide) (hs := slices_S512x256_o0_128_S512x64) x y (by omega) (by omega) (by omega)
  case piece6 => exact v_piece (x0 := x0) (x1 := x1) (x3 := x3) 1536 64 (by decide) (hs := slices_S512x256_o0_64_S512x64) x y (by omega) (by omega) (by omega)
  case piece7 => exact v_piece (x0 := x0) (x1 := x1) (x3 := x3) 1536 0 (by decide) (hs := slices_S512x256_o0_0_S512x64) x y (by omega) (by omega) (by omega)
  case piece8 => exact v_piece (x0 := x0) (x1 := x1) (x3 := x3) 1280 192 (by decide) (hs := slices_S512x256_o0_192_S512x64) x y (by omega) (by omega) (by omega)
  case piece9 => exact v_piece (x0 := x0) (x1 := x1) (x3 := x3) 1280 128 (by decide) (hs := slices_S512x256_o0_128_S512x64) x y (by omega) (by omega) (by omega)
  case piece10 => exact v_piece (x0 := x0) (x1 := x1) (x3 := x3) 1280 64 (by decide) (hs := slices_S512x256_o0_64_S512x64) x y (by omega) (by omega) (by omega)
  case piece11 => exact v_piece (x0 := x0) (x1 := x1) (x3 := x3) 1280 0 (by decide) (hs := slices_S512x256_o0_0_S512x64) x y (by omega) (by omega) (by omega)
  case piece12 => exact v_piece (x0 := x0) (x1 := x1) (x3 := x3) 1024 192 (by decide) (hs := slices_S512x256_o0_192_S512x64) x y (by omega) (by omega) (by omega)
  case piece13 => exact v_piece (x0 := x0) (x1 := x1) (x3 := x3) 1024 128 (by decide) (hs := slices_S512x256_o0_128_S512x64) x y (by omega) (by omega) (by omega)
  case piece14 => exact v_piece (x0 := x0) (x1 := x1) (x3 := x3) 1024 64 (by decide) (hs := slices_S512x256_o0_64_S512x64) x y (by omega) (by omega) (by omega)
  case piece15 => exact v_piece (x0 := x0) (x1 := x1) (x3 := x3) 1024 0 (by decide) (hs := slices_S512x256_o0_0_S512x64) x y (by omega) (by omega) (by omega)

end Cert.Kernel5Ideal.Sbp

end
-- ==== Proof.SbProjValue.lean ====
/- The attention's projection call: the arrays its blocks are cut from, and the arrays it leaves. -/
module

public import proofs.«01_k».proof.Proof.SbProjKer
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Sbp

open Cert.Kernel5Ideal Cert.Kernel5Ideal.Gen Cert.Ffn Cert.SbProj

/-- Every window's block index at a grid point: batch `t / 16`, block `t % 16` of its sequence. -/
theorem idx_val : ∀ t : Fin cfg0.N, win0_0.index t = ![t.val, 0]
    ∧ win0_1.index t = ![0, 0] ∧ win0_2.index t = ![0, 0] ∧ win0_3.index t = ![0, 0] ∧ win0_4.index t = ![0, 0]
    ∧ win0_5.index t = ![t.val / 16, 0, t.val % 16, 0] ∧ win0_6.index t = ![t.val / 16, 0, t.val % 16, 0]
    ∧ win0_7.index t = ![t.val / 16, 0, 0, t.val % 16] :=
  (by decide +kernel : ∀ t : Fin grid0.N, _)

variable (m : (ℓ : Loc nD τ sig) → Buf (Elt Ideal) ℓ) (c : Dev nD)

/-- The tokens' rows. -/
abbrev a0 : FVec Ideal S8x8192x1024 .f32 := m ((c : Thread nD τ).loc main_arg0)
/-- The keys' and values' gain. -/
abbrev a1 : FVec Ideal S1024 .f32 := m ((c : Thread nD τ).loc main_arg1)
/-- The queries' gain. -/
abbrev a2 : FVec Ideal S1024 .f32 := m ((c : Thread nD τ).loc main_arg2)
/-- The keys' and values' weights. -/
abbrev a3 : FVec Ideal S1024x2048 .f32 := m ((c : Thread nD τ).loc main_arg3)
/-- The queries' weights. -/
abbrev a4 : FVec Ideal S1024x1024 .f32 := m ((c : Thread nD τ).loc main_arg4)

/-- The rows as the host reshapes them. -/
theorem v0_at (r : Fin 65536) (e : Fin 1024) : (show FVec Ideal S65536x1024 .f32 from V m c main_v0) (ix2 r e)
    = a0 m c (ix3 ⟨r / 8192, by omega⟩ ⟨r % 8192, by omega⟩ e) := by
  unfold V
  after_reads_at

/-- The keys' and values' gain, as a row. -/
theorem v1_at (e : Fin 1024) : (show FVec Ideal S1x1024 .f32 from V m c main_v1) (ix2 0 e) = a1 m c (ix1 e) := by
  unfold V
  after_reads_at

/-- The queries' gain, as a row. -/
theorem v2_at (e : Fin 1024) : (show FVec Ideal S1x1024 .f32 from V m c main_v2) (ix2 0 e) = a2 m c (ix1 e) := by
  unfold V
  after_reads_at

/-- The keys' and values' weights, cast. -/
theorem v3_at (d : Fin 1024) (f : Fin 2048) : (show FVec Ideal S1024x2048 .bf16 from V m c main_v3) (ix2 d f) = a3 m c (ix2 d f) := by
  unfold V
  after_reads_at

/-- The queries' weights, cast. -/
theorem v4_at (d f : Fin 1024) : (show FVec Ideal S1024x1024 .bf16 from V m c main_v4) (ix2 d f) = a4 m c (ix2 d f) := by
  unfold V
  after_reads_at

/-- The grid has 128 points. -/
theorem lt_N (t : Fin cfg0.N) : t.val < 128 := lt_of_lt_of_eq t.isLt (by decide +kernel)

/-- The block of rows at a point. -/
theorem b0_at (t : Fin cfg0.N) (i : Fin 512) (e : Fin 1024) : (show FVec Ideal S512x1024 .f32 from iblk m c 0 t) (ix2 i e)
    = a0 m c (ix3 ⟨t.val / 16, by have := lt_N t; omega⟩ ⟨t.val % 16 * 512 + i, by omega⟩ e) := by
  have hN := lt_N t
  refine Eq.trans ?_ ((v0_at m c ⟨t.val * 512 + i, by omega⟩ e).trans ?_)
  · unfold iblk; generalize V m c (Pipeline.arrRef spec0 0) = X; blk_ext [idx_val t]
  · blk_ext

/-- The keys' and values' gain at a point. -/
theorem b1_at (t : Fin cfg0.N) (e : Fin 1024) : (show FVec Ideal S1x1024 .f32 from iblk m c 1 t) (ix2 0 e) = a1 m c (ix1 e) := by
  refine Eq.trans ?_ (v1_at m c e)
  unfold iblk; generalize V m c (Pipeline.arrRef spec0 1) = X; blk_ext [idx_val t]

/-- The queries' gain at a point. -/
theorem b2_at (t : Fin cfg0.N) (e : Fin 1024) : (show FVec Ideal S1x1024 .f32 from iblk m c 2 t) (ix2 0 e) = a2 m c (ix1 e) := by
  refine Eq.trans ?_ (v2_at m c e)
  unfold iblk; generalize V m c (Pipeline.arrRef spec0 2) = X; blk_ext [idx_val t]

/-- The keys' and values' weights at a point: all of them. -/
theorem b3_at (t : Fin cfg0.N) (d : Fin 1024) (f : Fin 2048) : (show FVec Ideal S1024x2048 .bf16 from iblk m c 3 t) (ix2 d f) = a3 m c (ix2 d f) := by
  refine Eq.trans ?_ (v3_at m c d f)
  unfold iblk; generalize V m c (Pipeline.arrRef spec0 3) = X; blk_ext [idx_val t]

/-- The queries' weights at a point: all of them. -/
theorem b4_at (t : Fin cfg0.N) (d f : Fin 1024) : (show FVec Ideal S1024x1024 .bf16 from iblk m c 4 t) (ix2 d f) = a4 m c (ix2 d f) := by
  refine Eq.trans ?_ (v4_at m c d f)
  unfold iblk; generalize V m c (Pipeline.arrRef spec0 4) = X; blk_ext [idx_val t]

/-- The queries, from the arguments. -/
def QO : FVec Ideal S8x16x8192x64 .bf16 := fun y => qOut (a0 m c) (a2 m c) (a4 m c) (y 0) (y 1) (y 2) (y 3)

/-- The keys, from the arguments. -/
def KO : FVec Ideal S8x16x8192x64 .bf16 := fun y => kvOut 0 (by decide) (a0 m c) (a1 m c) (a3 m c) (y 0) (y 1) (y 2) (y 3)

/-- The transposed values, from the arguments. -/
def VO : FVec Ideal S8x16x64x8192 .bf16 := fun y => kvOut 1024 (by decide) (a0 m c) (a1 m c) (a3 m c) (y 0) (y 1) (y 3) (y 2)

/-- A point's queries. -/
theorem q_point (t : Fin cfg0.N) (h : Fin 16) (i : Fin 512) (d : Fin 64) : qE (iblk m c 0 t) (iblk m c 2 t) (iblk m c 4 t) h i d
    = qOut (a0 m c) (a2 m c) (a4 m c) ⟨t.val / 16, by have := lt_N t; omega⟩ h ⟨t.val % 16 * 512 + i, by omega⟩ d := by
  unfold qE qOut bcol
  simp only [b0_at, b2_at, b4_at]

/-- A point's keys or values. -/
theorem kv_point (o : ℕ) (ho : o ≤ 1024) (t : Fin cfg0.N) (h : Fin 16) (i : Fin 512) (d : Fin 64) :
    kvE o ho (iblk m c 0 t) (iblk m c 1 t) (iblk m c 3 t) h i d
    = kvOut o ho (a0 m c) (a1 m c) (a3 m c) ⟨t.val / 16, by have := lt_N t; omega⟩ h ⟨t.val % 16 * 512 + i, by omega⟩ d := by
  unfold kvE kvOut bcol
  simp only [b0_at, b1_at, b3_at]

/-- The queries the call leaves. -/
theorem q_final : (show FVec Ideal S8x16x8192x64 .bf16 from (dats m 0 c).arrAt 5 (cfgs 0).N) = QO m c := by
  refine (dats m 0 c).arrAt_eq_of_covers 5 _ (by decide +kernel) fun t hf y => ?_
  have hN := lt_N t
  blk_simp
  rw [after0_5]
  refine (q_block y).trans ((q_point m c t (y 1) (y 2) (y 3)).trans ?_)
  have h2 : (y 2 : ℕ) < 512 := (y 2).isLt
  refine (congrArg (QO m c) (show (win0_5.blk t).view.emb y = @ix4 8 16 8192 64 ⟨t.val / 16, by omega⟩ (y 1) ⟨t.val % 16 * 512 + (y 2).val, by omega⟩ (y 3) from ?_)).symm
  funext a
  fin_cases a <;> refine Fin.ext ?_ <;> blk_simp [idx_val t] <;> rfl

/-- The keys the call leaves. -/
theorem k_final : (show FVec Ideal S8x16x8192x64 .bf16 from (dats m 0 c).arrAt 6 (cfgs 0).N) = KO m c := by
  refine (dats m 0 c).arrAt_eq_of_covers 6 _ (by decide +kernel) fun t hf y => ?_
  have hN := lt_N t
  blk_simp
  rw [after0_6]
  refine (k_block y).trans ((kv_point m c 0 _ t (y 1) (y 2) (y 3)).trans ?_)
  have h2 : (y 2 : ℕ) < 512 := (y 2).isLt
  refine (congrArg (KO m c) (show (win0_6.blk t).view.emb y = @ix4 8 16 8192 64 ⟨t.val / 16, by omega⟩ (y 1) ⟨t.val % 16 * 512 + (y 2).val, by omega⟩ (y 3) from ?_)).symm
  funext a
  fin_cases a <;> refine Fin.ext ?_ <;> blk_simp [idx_val t] <;> rfl

/-- The transposed values the call leaves. -/
theorem v_final : (show FVec Ideal S8x16x64x8192 .bf16 from (dats m 0 c).arrAt 7 (cfgs 0).N) = VO m c := by
  refine (dats m 0 c).arrAt_eq_of_covers 7 _ (by decide +kernel) fun t hf y => ?_
  have hN := lt_N t
  blk_simp
  rw [after0_7]
  refine (v_block y).trans ((kv_point m c 1024 _ t (y 1) (y 3) (y 2)).trans ?_)
  have h3 : (y 3 : ℕ) < 512 := (y 3).isLt
  refine (congrArg (VO m c) (show (win0_7.blk t).view.emb y = @ix4 8 16 64 8192 ⟨t.val / 16, by omega⟩ (y 1) (y 2) ⟨t.val % 16 * 512 + (y 3).val, by omega⟩ from ?_)).symm
  funext a
  fin_cases a <;> refine Fin.ext ?_ <;> blk_simp [idx_val t] <;> rfl

end Cert.Kernel5Ideal.Sbp

end
-- ==== Proof.SbProjRef.lean ====
/- The projections before the attention in the reference, entry by entry. -/
module

public import proofs.«01_k».proof.Proof.Gen.Reference5Ideal.Run
public import proofs.«01_k».proof.Proof.SbProj
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Reference5Ideal.Sbp

open Cert.Reference5Ideal Cert.Reference5Ideal.Gen Cert.Reference5Ideal.Value Cert.Ffn Cert.SbProj

/-- The root-mean-square norm of the rows, times a gain. -/
def normStage (u : FVec Ideal S8x8192x1024 .f32) (g : FVec Ideal S1024 .f32) : FVec Ideal S8x8192x1024 .f32 :=
  mulf (mulf u (broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf u u) (constant S_ .f32 0x00000000#32) reducesTo_S8x8192x1024_S8x8192_d2 h_S_))
    (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The product of the normed rows with the queries' weights. -/
def qProd (h : FVec Ideal S8x8192x1024 .f32) (w : FVec Ideal S1024x1024 .f32) : FVec Ideal S8x8192x1024 .f32 :=
  Host.dotGeneral dot_S8x8192x1024_S1024x1024_S8x8192x1024_2_0_01_1_n_n none h w

/-- The product of the normed rows with the keys' and values' weights. -/
def kvProd (h : FVec Ideal S8x8192x1024 .f32) (w : FVec Ideal S1024x2048 .f32) : FVec Ideal S8x8192x2048 .f32 :=
  Host.dotGeneral dot_S8x8192x1024_S1024x2048_S8x8192x2048_2_0_01_1_n_n none h w

/-- The split into heads. -/
def heads (p : FVec Ideal S8x8192x1024 .f32) : FVec Ideal S8x16x8192x64 .f32 :=
  transpose S8x16x8192x64 [0, 2, 1, 3] (shapeCast S8x8192x16x64 p shapeCasts_S8x8192x1024_S8x8192x16x64) transposes_S8x8192x16x64_S8x16x8192x64_0_2_1_3

/-- The scaled queries. -/
def qStage (p : FVec Ideal S8x8192x1024 .f32) : FVec Ideal S8x16x8192x64 .bf16 :=
  truncf .bf16 (mulf (heads p) (broadcastInDim S8x16x8192x64 ![] bcast_S_S8x16x8192x64 (constant S_ .f32 0x3E38AA3B#32))) bitsLt_bf16_f32

/-- The keys: the product's first half. -/
def kStage (p : FVec Ideal S8x8192x2048 .f32) : FVec Ideal S8x16x8192x64 .bf16 :=
  truncf .bf16 (heads (extractStridedSlice S8x8192x1024 ![0, 0, 0] p slices_S8x8192x2048_S8x8192x1024_0_0_0)) bitsLt_bf16_f32

/-- The transposed values: the product's second half. -/
def vStage (p : FVec Ideal S8x8192x2048 .f32) : FVec Ideal S8x16x64x8192 .bf16 :=
  truncf .bf16 (transpose S8x16x64x8192 [0, 1, 3, 2]
    (heads (extractStridedSlice S8x8192x1024 ![0, 0, 1024] p slices_S8x8192x2048_S8x8192x1024_0_0_1024))
    transposes_S8x16x8192x64_S8x16x64x8192_0_1_3_2) bitsLt_bf16_f32

/-- An entry of the norm. -/
theorem norm_at (u : FVec Ideal S8x8192x1024 .f32) (g : FVec Ideal S1024 .f32) (b : Fin 8) (s : Fin 8192) (e : Fin 1024) :
    normStage u g (ix3 b s e) = nrm (fun e => u (ix3 b s e)) (fun e => g (ix1 e)) e := by
  unfold normStage nrm
  pointwise

/-- An entry of the queries' product. -/
theorem qProd_at (h : FVec Ideal S8x8192x1024 .f32) (w : FVec Ideal S1024x1024 .f32) (b : Fin 8) (s : Fin 8192) (f : Fin 1024) :
    qProd h w (ix3 b s f) = ∑ d : Fin 1024, h (ix3 b s d) * w (ix2 d f) := by
  unfold qProd
  pointwise

/-- An entry of the keys' and values' product. -/
theorem kvProd_at (h : FVec Ideal S8x8192x1024 .f32) (w : FVec Ideal S1024x2048 .f32) (b : Fin 8) (s : Fin 8192) (f : Fin 2048) :
    kvProd h w (ix3 b s f) = ∑ d : Fin 1024, h (ix3 b s d) * w (ix2 d f) := by
  unfold kvProd
  pointwise

/-- An entry of the split into heads. -/
theorem heads_at (p : FVec Ideal S8x8192x1024 .f32) (b : Fin 8) (h : Fin 16) (s : Fin 8192) (d : Fin 64) :
    heads p (ix4 b h s d) = p (ix3 b s ⟨64 * h.val + d.val, by omega⟩) := by
  unfold heads
  pointwise
  exact congrArg p (by idx_ext)

/-- An entry of the scaled queries. -/
theorem qStage_at (p : FVec Ideal S8x8192x1024 .f32) (b : Fin 8) (h : Fin 16) (s : Fin 8192) (d : Fin 64) :
    qStage p (ix4 b h s d) = p (ix3 b s ⟨64 * h.val + d.val, by omega⟩) * qs := by
  unfold qStage qs
  rw [← heads_at p b h s d]
  generalize heads p = X
  pointwise

/-- An entry of the keys. -/
theorem kStage_at (p : FVec Ideal S8x8192x2048 .f32) (b : Fin 8) (h : Fin 16) (s : Fin 8192) (d : Fin 64) :
    kStage p (ix4 b h s d) = p (ix3 b s ⟨0 + (64 * h.val + d.val), by omega⟩) := by
  unfold kStage
  refine Eq.trans (b := heads (extractStridedSlice S8x8192x1024 ![0, 0, 0] p slices_S8x8192x2048_S8x8192x1024_0_0_0) (ix4 b h s d)) ?_ ?_
  · generalize heads _ = X
    pointwise
  · rw [heads_at]
    pointwise
    all_goals exact congrArg p (by idx_ext)

/-- An entry of the transposed values. -/
theorem vStage_at (p : FVec Ideal S8x8192x2048 .f32) (b : Fin 8) (h : Fin 16) (s : Fin 8192) (d : Fin 64) :
    vStage p (ix4 b h d s) = p (ix3 b s ⟨1024 + (64 * h.val + d.val), by omega⟩) := by
  unfold vStage
  refine Eq.trans (b := heads (extractStridedSlice S8x8192x1024 ![0, 0, 1024] p slices_S8x8192x2048_S8x8192x1024_0_0_1024) (ix4 b h s d)) ?_ ?_
  · generalize heads _ = X
    pointwise
  · rw [heads_at]
    pointwise

variable (m : (ℓ : Loc nD τ sig) → Buf (Elt Ideal) ℓ) (c : Dev nD)

/-- The rows. -/
abbrev a0 : FVec Ideal S8x8192x1024 .f32 := m ((c.tc : Thread nD τ).loc main_arg0)
/-- The keys' and values' gain. -/
abbrev a1 : FVec Ideal S1024 .f32 := m ((c.tc : Thread nD τ).loc main_arg1)
/-- The queries' gain. -/
abbrev a2 : FVec Ideal S1024 .f32 := m ((c.tc : Thread nD τ).loc main_arg2)
/-- The keys' and values' weights. -/
abbrev a3 : FVec Ideal S1024x2048 .f32 := m ((c.tc : Thread nD τ).loc main_arg3)
/-- The queries' weights. -/
abbrev a4 : FVec Ideal S1024x1024 .f32 := m ((c.tc : Thread nD τ).loc main_arg4)

/-- The queries' entries. -/
theorem q_at (b : Fin 8) (h : Fin 16) (s : Fin 8192) (d : Fin 64) :
    qStage (qProd (normStage (a0 m c) (a2 m c)) (a4 m c)) (ix4 b h s d) = qOut (a0 m c) (a2 m c) (a4 m c) b h s d := by
  rw [qStage_at, qProd_at]
  simp only [norm_at]
  rfl

/-- The keys' entries. -/
theorem k_at (b : Fin 8) (h : Fin 16) (s : Fin 8192) (d : Fin 64) :
    kStage (kvProd (normStage (a0 m c) (a1 m c)) (a3 m c)) (ix4 b h s d) = kvOut 0 (by decide) (a0 m c) (a1 m c) (a3 m c) b h s d := by
  rw [kStage_at, kvProd_at]
  simp only [norm_at]
  rfl

/-- The transposed values' entries. -/
theorem v_at (b : Fin 8) (h : Fin 16) (s : Fin 8192) (d : Fin 64) :
    vStage (kvProd (normStage (a0 m c) (a1 m c)) (a3 m c)) (ix4 b h d s) = kvOut 1024 (by decide) (a0 m c) (a1 m c) (a3 m c) b h s d := by
  rw [vStage_at, kvProd_at]
  simp only [norm_at]
  rfl

end Cert.Reference5Ideal.Sbp

end
-- ==== Proof.SbProjEq.lean ====
/- The attention's projection call leaves what its reference leaves. -/
module

public import proofs.«01_k».proof.Proof.SbProjValue
public import proofs.«01_k».proof.Proof.SbProjRef
public import Idealize.ShloMosaic.Lib.Quiescent
public import proofs.«01_k».proof.Defs
public import Idealize.ShloMosaic.Adequacy
public import Idealize.ShloMosaic.Init

@[expose] public section

noncomputable section

namespace Cert.Proof

open Idealize.ShloMosaic Idealize.SL.Sem

/-- The projection's reference leaves its arguments as they are and every counter at zero. -/
theorem reference5_frame [Cert.Reference5Ideal.Facts] : Cert.quiescent_Reference5Ideal := fun m ρ _ =>
  (θ_run _ _ _).mono (fun r h => ⟨fun c => (h c).2.2.2, sem_eq_zero_of_no_sems (by decide) r.2⟩)
    (Cert.Reference5Ideal.Value.run m ρ)

section
variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)
  (c : Dev Cert.Kernel5Ideal.nD)

open Cert.Reference5Ideal.Sbp (qStage kStage vStage qProd kvProd normStage)

/-- From equal arguments, the reference's queries are the kernel's. -/
theorem q5 (h0 : Cert.Reference5Ideal.Sbp.a0 m' c = Cert.Kernel5Ideal.Sbp.a0 m c)
    (h2 : Cert.Reference5Ideal.Sbp.a2 m' c = Cert.Kernel5Ideal.Sbp.a2 m c)
    (h4 : Cert.Reference5Ideal.Sbp.a4 m' c = Cert.Kernel5Ideal.Sbp.a4 m c) :
    qStage (qProd (normStage (Cert.Reference5Ideal.Sbp.a0 m' c) (Cert.Reference5Ideal.Sbp.a2 m' c)) (Cert.Reference5Ideal.Sbp.a4 m' c))
      = Cert.Kernel5Ideal.Sbp.QO m c := by
  unfold Cert.Kernel5Ideal.Sbp.QO
  rw [← h0, ← h2, ← h4]
  funext y
  refine (congrArg _ (show y = @ix4 8 16 8192 64 (y 0) (y 1) (y 2) (y 3) by idx_ext)).trans ?_
  exact Cert.Reference5Ideal.Sbp.q_at m' c (y 0) (y 1) (y 2) (y 3)

/-- From equal arguments, the reference's keys are the kernel's. -/
theorem k5 (h0 : Cert.Reference5Ideal.Sbp.a0 m' c = Cert.Kernel5Ideal.Sbp.a0 m c)
    (h1 : Cert.Reference5Ideal.Sbp.a1 m' c = Cert.Kernel5Ideal.Sbp.a1 m c)
    (h3 : Cert.Reference5Ideal.Sbp.a3 m' c = Cert.Kernel5Ideal.Sbp.a3 m c) :
    kStage (kvProd (normStage (Cert.Reference5Ideal.Sbp.a0 m' c) (Cert.Reference5Ideal.Sbp.a1 m' c)) (Cert.Reference5Ideal.Sbp.a3 m' c))
      = Cert.Kernel5Ideal.Sbp.KO m c := by
  unfold Cert.Kernel5Ideal.Sbp.KO
  rw [← h0, ← h1, ← h3]
  funext y
  refine (congrArg _ (show y = @ix4 8 16 8192 64 (y 0) (y 1) (y 2) (y 3) by idx_ext)).trans ?_
  exact Cert.Reference5Ideal.Sbp.k_at m' c (y 0) (y 1) (y 2) (y 3)

/-- From equal arguments, the reference's transposed values are the kernel's. -/
theorem v5 (h0 : Cert.Reference5Ideal.Sbp.a0 m' c = Cert.Kernel5Ideal.Sbp.a0 m c)
    (h1 : Cert.Reference5Ideal.Sbp.a1 m' c = Cert.Kernel5Ideal.Sbp.a1 m c)
    (h3 : Cert.Reference5Ideal.Sbp.a3 m' c = Cert.Kernel5Ideal.Sbp.a3 m c) :
    vStage (kvProd (normStage (Cert.Reference5Ideal.Sbp.a0 m' c) (Cert.Reference5Ideal.Sbp.a1 m' c)) (Cert.Reference5Ideal.Sbp.a3 m' c))
      = Cert.Kernel5Ideal.Sbp.VO m c := by
  unfold Cert.Kernel5Ideal.Sbp.VO
  rw [← h0, ← h1, ← h3]
  funext y
  refine (congrArg _ (show y = @ix4 8 16 64 8192 (y 0) (y 1) (y 2) (y 3) by idx_ext)).trans ?_
  exact Cert.Reference5Ideal.Sbp.v_at m' c (y 0) (y 1) (y 3) (y 2)

end

/-- The projection call's three results are its reference's. -/
theorem value5 : Cert.algebraic_Kernel5Ideal_Reference5Ideal :=
  fun m ρ m' ρ' _ hag =>
    ⟨fun c => Cert.Kernel5Ideal.Sbp.QO m c, fun c => Cert.Kernel5Ideal.Sbp.KO m c, fun c => Cert.Kernel5Ideal.Sbp.VO m c,
      (θ_run _ _ _).mono (fun _ h c => ⟨(h c).1.trans (Cert.Kernel5Ideal.Sbp.q_final m c),
          (h c).2.1.trans (Cert.Kernel5Ideal.Sbp.k_final m c), (h c).2.2.1.trans (Cert.Kernel5Ideal.Sbp.v_final m c), (h c).2.2.2⟩)
        (Cert.Kernel5Ideal.Value.run_blocks m ρ),
      (θ_run _ _ _).mono (fun _ h c => ⟨(h c).1.trans (q5 m m' c (hag c).1 (hag c).2.2.1 (hag c).2.2.2.2),
          (h c).2.1.trans (k5 m m' c (hag c).1 (hag c).2.1 (hag c).2.2.2.1),
          (h c).2.2.1.trans (v5 m m' c (hag c).1 (hag c).2.1 (hag c).2.2.2.1), (h c).2.2.2⟩)
        (Cert.Reference5Ideal.Value.run m' ρ')⟩

end Cert.Proof

end
-- ==== Proof.RefLoop.lean ====
/- The reference's loop over chunks: what one trip makes of the carried state and of the stacked outputs. -/
module

public import proofs.«01_k».proof.Proof.Gen.ReferenceIdeal.Run
public import proofs.«01_k».proof.Proof.RetMath
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Gen Cert.ReferenceIdeal.Value Cert.Retention

variable (m : (ℓ : Loc nD τ sig) → Buf (Elt Ideal) ℓ)

/-- The start of the trip's slices: the trip's number on the chunk axis, zero on the others. -/
abbrev startOf (w : IVec S_ 32) : Fin 5 → ℤ := fun k =>
  (((![w, constantI S_ 32 0#32, constantI S_ 32 0#32, constantI S_ 32 0#32, constantI S_ 32 0#32] : Fin 5 → IVec S_ 32)) k
    (Shape.Idx.first h_S_)).toInt

/-- The start on the chunk axis. -/
theorem startOf_zero (n : Fin 64) : startOf (constantI S_ 32 (BitVec.ofNat 32 n)) 0 = (n.val : ℤ) :=
  toInt_ofNat n.val (by omega)

/-- The trip's slice of the stacked queries or keys. -/
theorem chunk256_at (X : FVec Ideal S64x8x4x128x256 .f32) (n : Fin 64) (b : Fin 8) (h : Fin 4) (i : Fin 128) (d : Fin 256) :
    shapeCast S8x4x128x256 (Host.dynamicSlice S1x8x4x128x256 X (startOf (constantI S_ 32 (BitVec.ofNat 32 n)))
      sliceFits_S64x8x4x128x256_S1x8x4x128x256) shapeCasts_S1x8x4x128x256_S8x4x128x256 (ix4 b h i d) = X (ix5 n b h i d) := by
  pointwise
  have hn := n.isLt
  simp only [Host.clampedStart_of_le (s := S64x8x4x128x256) (t := S1x8x4x128x256) rfl _ 0 n.val (startOf_zero n)
      (show n.val + 1 ≤ 64 by omega),
    Host.clampedStart_of_le (s := S64x8x4x128x256) (t := S1x8x4x128x256) rfl
      (startOf (constantI S_ 32 (BitVec.ofNat 32 n))) 1 0 rfl (by decide),
    Host.clampedStart_of_le (s := S64x8x4x128x256) (t := S1x8x4x128x256) rfl
      (startOf (constantI S_ 32 (BitVec.ofNat 32 n))) 2 0 rfl (by decide),
    Host.clampedStart_of_le (s := S64x8x4x128x256) (t := S1x8x4x128x256) rfl
      (startOf (constantI S_ 32 (BitVec.ofNat 32 n))) 3 0 rfl (by decide),
    Host.clampedStart_of_le (s := S64x8x4x128x256) (t := S1x8x4x128x256) rfl
      (startOf (constantI S_ 32 (BitVec.ofNat 32 n))) 4 0 rfl (by decide), Nat.zero_add]

/-- The trip's slice of the stacked values. -/
theorem chunk512_at (X : FVec Ideal S64x8x4x128x512 .f32) (n : Fin 64) (b : Fin 8) (h : Fin 4) (i : Fin 128) (d : Fin 512) :
    shapeCast S8x4x128x512 (Host.dynamicSlice S1x8x4x128x512 X (startOf (constantI S_ 32 (BitVec.ofNat 32 n)))
      sliceFits_S64x8x4x128x512_S1x8x4x128x512) shapeCasts_S1x8x4x128x512_S8x4x128x512 (ix4 b h i d) = X (ix5 n b h i d) := by
  pointwise
  have hn := n.isLt
  simp only [Host.clampedStart_of_le (s := S64x8x4x128x512) (t := S1x8x4x128x512) rfl _ 0 n.val (startOf_zero n)
      (show n.val + 1 ≤ 64 by omega),
    Host.clampedStart_of_le (s := S64x8x4x128x512) (t := S1x8x4x128x512) rfl
      (startOf (constantI S_ 32 (BitVec.ofNat 32 n))) 1 0 rfl (by decide),
    Host.clampedStart_of_le (s := S64x8x4x128x512) (t := S1x8x4x128x512) rfl
      (startOf (constantI S_ 32 (BitVec.ofNat 32 n))) 2 0 rfl (by decide),
    Host.clampedStart_of_le (s := S64x8x4x128x512) (t := S1x8x4x128x512) rfl
      (startOf (constantI S_ 32 (BitVec.ofNat 32 n))) 3 0 rfl (by decide),
    Host.clampedStart_of_le (s := S64x8x4x128x512) (t := S1x8x4x128x512) rfl
      (startOf (constantI S_ 32 (BitVec.ofNat 32 n))) 4 0 rfl (by decide), Nat.zero_add]

/-- Writing the trip's output over its row of the stack. -/
theorem update_at (X : FVec Ideal S64x8x4x128x512 .f32) (U : FVec Ideal S1x8x4x128x512 .f32) (n n' : Fin 64) (b : Fin 8)
    (h : Fin 4) (i : Fin 128) (e : Fin 512) :
    Host.dynamicUpdateSlice X U (startOf (constantI S_ 32 (BitVec.ofNat 32 n)))
      sliceFits_S64x8x4x128x512_S1x8x4x128x512 (ix5 n' b h i e) = if n' = n then U (ix5 0 b h i e) else X (ix5 n' b h i e) := by
  have hn := n.isLt
  pointwise
  simp only [Host.clampedStart_of_le (s := S64x8x4x128x512) (t := S1x8x4x128x512) rfl _ 0 n.val (startOf_zero n)
      (show n.val + 1 ≤ 64 by omega),
    Host.clampedStart_of_le (s := S64x8x4x128x512) (t := S1x8x4x128x512) rfl
      (startOf (constantI S_ 32 (BitVec.ofNat 32 n))) 1 0 rfl (by decide),
    Host.clampedStart_of_le (s := S64x8x4x128x512) (t := S1x8x4x128x512) rfl
      (startOf (constantI S_ 32 (BitVec.ofNat 32 n))) 2 0 rfl (by decide),
    Host.clampedStart_of_le (s := S64x8x4x128x512) (t := S1x8x4x128x512) rfl
      (startOf (constantI S_ 32 (BitVec.ofNat 32 n))) 3 0 rfl (by decide),
    Host.clampedStart_of_le (s := S64x8x4x128x512) (t := S1x8x4x128x512) rfl
      (startOf (constantI S_ 32 (BitVec.ofNat 32 n))) 4 0 rfl (by decide), Nat.zero_add]
  by_cases hc : n' = n
  · subst hc
    rw [dif_pos ⟨⟨le_rfl, by omega⟩, by omega, by omega, by omega, by omega⟩, if_pos rfl]
    simp only [Nat.sub_self, Nat.sub_zero]
    rfl
  · rw [dif_neg (fun hh => hc (Fin.ext (by omega))), if_neg hc]

/-- The trip's queries. -/
theorem qc_at (V0 : Valuation τ sig (Elt Ideal)) (n : Fin 64)
    (h7 : V0 (Proc.devRef .tc main_v60_7) = constantI S_ 32 (BitVec.ofNat 32 n))
    (b : Fin 8) (h : Fin 4) (i : Fin 128) (d : Fin 256) :
    (show FVec Ideal S8x4x128x256 .f32 from res_main_while0b_v65 V0) (ix4 b h i d)
      = (show FVec Ideal S64x8x4x128x256 .f32 from V0 (Proc.devRef .tc main_v60_0)) (ix5 n b h i d) := by
  unfold res_main_while0b_v65
  rw [h7]
  exact chunk256_at _ n b h i d

/-- The trip's keys. -/
theorem kc_at (V0 : Valuation τ sig (Elt Ideal)) (n : Fin 64)
    (h7 : V0 (Proc.devRef .tc main_v60_7) = constantI S_ 32 (BitVec.ofNat 32 n))
    (b : Fin 8) (h : Fin 4) (i : Fin 128) (d : Fin 256) :
    (show FVec Ideal S8x4x128x256 .f32 from res_main_while0b_v66 V0) (ix4 b h i d)
      = (show FVec Ideal S64x8x4x128x256 .f32 from V0 (Proc.devRef .tc main_v60_1)) (ix5 n b h i d) := by
  unfold res_main_while0b_v66
  rw [h7]
  exact chunk256_at _ n b h i d

/-- The trip's values. -/
theorem vc_at (V0 : Valuation τ sig (Elt Ideal)) (n : Fin 64)
    (h7 : V0 (Proc.devRef .tc main_v60_7) = constantI S_ 32 (BitVec.ofNat 32 n))
    (b : Fin 8) (h : Fin 4) (i : Fin 128) (d : Fin 512) :
    (show FVec Ideal S8x4x128x512 .f32 from res_main_while0b_v67 V0) (ix4 b h i d)
      = (show FVec Ideal S64x8x4x128x512 .f32 from V0 (Proc.devRef .tc main_v60_2)) (ix5 n b h i d) := by
  unfold res_main_while0b_v67
  rw [h7]
  exact chunk512_at _ n b h i d

/-- The state after a trip: the carried one decayed over the chunk, and the chunk's own key-value products. -/
theorem state_at (V0 : Valuation τ sig (Elt Ideal)) (b : Fin 8) (h : Fin 4) (d : Fin 256) (e : Fin 512) :
    (show FVec Ideal S8x4x256x512 .f32 from step_main_v60_8 V0) (ix4 b h d e)
      = (show EReal from (show FVec Ideal S8x4x256x512 .f32 from V0 (Proc.devRef .tc main_v60_8)) (ix4 b h d e))
          * (show FVec Ideal S4 .f32 from V0 (Proc.devRef .tc main_v60_5)) (ix1 h)
        + ∑ x : Fin 128, (show EReal from (show FVec Ideal S8x4x128x256 .f32 from res_main_while0b_v66 V0) (ix4 b h x d))
            * (show FVec Ideal S4x128 .f32 from V0 (Proc.devRef .tc main_v60_6)) (ix2 h x)
            * (show FVec Ideal S8x4x128x512 .f32 from res_main_while0b_v67 V0) (ix4 b h x e) := by
  unfold step_main_v60_8
  simp only [id_eq]
  clean_types
  pointwise

/-- The stack after a trip: the trip's own row is the chunk's output, the others are as they were. -/
theorem stack_at (V0 : Valuation τ sig (Elt Ideal)) (n n' : Fin 64)
    (h7 : V0 (Proc.devRef .tc main_v60_7) = constantI S_ 32 (BitVec.ofNat 32 n)) (b : Fin 8) (h : Fin 4) (i : Fin 128) (e : Fin 512) :
    (show FVec Ideal S64x8x4x128x512 .f32 from step_main_v60_9 V0) (ix5 n' b h i e)
      = if n' = n then
          (∑ x : Fin 128, (∑ y : Fin 256,
              (show EReal from (show FVec Ideal S8x4x128x256 .f32 from res_main_while0b_v65 V0) (ix4 b h i y))
                * (show FVec Ideal S8x4x128x256 .f32 from res_main_while0b_v66 V0) (ix4 b h x y))
              * (show FVec Ideal S4x128x128 .f32 from V0 (Proc.devRef .tc main_v60_3)) (ix3 h i x)
              * (show FVec Ideal S8x4x128x512 .f32 from res_main_while0b_v67 V0) (ix4 b h x e))
            + (∑ y : Fin 256, (show EReal from (show FVec Ideal S8x4x128x256 .f32 from res_main_while0b_v65 V0) (ix4 b h i y))
                * (show FVec Ideal S8x4x256x512 .f32 from V0 (Proc.devRef .tc main_v60_8)) (ix4 b h y e))
              * (show FVec Ideal S4x128 .f32 from V0 (Proc.devRef .tc main_v60_4)) (ix2 h i)
        else (show FVec Ideal S64x8x4x128x512 .f32 from V0 (Proc.devRef .tc main_v60_9)) (ix5 n' b h i e) := by
  unfold step_main_v60_9
  rw [h7]
  simp only [id_eq]
  refine (update_at _ _ n n' b h i e).trans ?_
  clean_types
  pointwise

/-- The rows of the stack as the result's rows, the heads side by side. -/
theorem out_at (V0 : Valuation τ sig (Elt Ideal)) (t : Fin 65536) (e : Fin 2048) :
    (show FVec Ideal S65536x2048 .f32 from out_main_v64 V0) (ix2 t e)
      = (show FVec Ideal S64x8x4x128x512 .f32 from V0 (Proc.devRef .tc main_v60_9))
          (ix5 ⟨(t : ℕ) % 8192 / 128, by omega⟩ ⟨(t : ℕ) / 8192, by omega⟩ ⟨(e : ℕ) / 512, by omega⟩
            ⟨(t : ℕ) % 8192 % 128, by omega⟩ ⟨(e : ℕ) % 512, by omega⟩) := by
  unfold out_main_v64
  clean_types
  pointwise

section Entry

variable (m : (ℓ : Loc nD τ sig) → Buf (Elt Ideal) ℓ) (c : Dev nD)

/-- The queries before the loop, chunk by chunk. -/
theorem entry_q (n : Fin 64) (b : Fin 8) (h : Fin 4) (i : Fin 128) (d : Fin 256) :
    (show FVec Ideal S64x8x4x128x256 .f32 from entryContents preI m c (Proc.devRef .tc main_v60_0)) (ix5 n b h i d)
      = (show FVec Ideal S65536x1024 .bf16 from m ((c : Thread nD τ).loc main_arg0))
          (ix2 ⟨b * 8192 + (n * 128 + i), by omega⟩ ⟨h * 256 + d, by omega⟩) := by
  simp only [entryContents, StableHlo.afterL_cons, StableHlo.afterL_nil]
  after_reads_at
  simp only [id_eq]
  clean_types
  pointwise

/-- The keys before the loop. -/
theorem entry_k (n : Fin 64) (b : Fin 8) (h : Fin 4) (i : Fin 128) (d : Fin 256) :
    (show FVec Ideal S64x8x4x128x256 .f32 from entryContents preI m c (Proc.devRef .tc main_v60_1)) (ix5 n b h i d)
      = (show FVec Ideal S65536x1024 .bf16 from m ((c : Thread nD τ).loc main_arg1))
          (ix2 ⟨b * 8192 + (n * 128 + i), by omega⟩ ⟨h * 256 + d, by omega⟩) := by
  simp only [entryContents, StableHlo.afterL_cons, StableHlo.afterL_nil]
  after_reads_at
  simp only [id_eq]
  clean_types
  pointwise

/-- The values before the loop. -/
theorem entry_v (n : Fin 64) (b : Fin 8) (h : Fin 4) (i : Fin 128) (e : Fin 512) :
    (show FVec Ideal S64x8x4x128x512 .f32 from entryContents preI m c (Proc.devRef .tc main_v60_2)) (ix5 n b h i e)
      = (show FVec Ideal S65536x2048 .bf16 from m ((c : Thread nD τ).loc main_arg2))
          (ix2 ⟨b * 8192 + (n * 128 + i), by omega⟩ ⟨h * 512 + e, by omega⟩) := by
  simp only [entryContents, StableHlo.afterL_cons, StableHlo.afterL_nil]
  after_reads_at
  simp only [id_eq]
  clean_types
  pointwise

/-- The decays within a chunk. -/
theorem entry_inner (h : Fin 4) (i j : Fin 128) :
    (show FVec Ideal S4x128x128 .f32 from entryContents preI m c (Proc.devRef .tc main_v60_3)) (ix3 h i j)
      = ((if (j : ℕ) ≤ i then decay (lg h) ((i : ℝ) - j) else 0 : ℝ) : EReal) := by
  simp only [entryContents, StableHlo.afterL_cons, StableHlo.afterL_nil]
  after_reads_at
  simp only [id_eq]
  clean_types
  pointwise
  rw [sitofp_ofNat _ (by omega : (i : ℕ) < 65536), sitofp_ofNat _ (by omega : (j : ℕ) < 65536), ← EReal.coe_sub]
  by_cases hij : (j : ℕ) ≤ i
  · have h0 : (0 : EReal) ≤ (((i : ℕ) : ℝ) - ((j : ℕ) : ℝ) : ℝ) := EReal.coe_nonneg.2 (sub_nonneg.2 (Nat.cast_le.2 hij))
    rw [if_pos h0, if_pos hij]
    exact host_decay _ _ _ (by omega) rfl
  · have h0 : ¬ (0 : EReal) ≤ (((i : ℕ) : ℝ) - ((j : ℕ) : ℝ) : ℝ) := fun h =>
      hij (Nat.cast_le.1 (sub_nonneg.1 (EReal.coe_nonneg.1 h)))
    rw [if_neg h0, if_neg hij, EReal.coe_zero]

/-- The decay of a query from the chunk's start. -/
theorem entry_qdec (h : Fin 4) (i : Fin 128) :
    (show FVec Ideal S4x128 .f32 from entryContents preI m c (Proc.devRef .tc main_v60_4)) (ix2 h i)
      = ((decay (lg h) ((i : ℝ) + 1) : ℝ) : EReal) := by
  simp only [entryContents, StableHlo.afterL_cons, StableHlo.afterL_nil]
  after_reads_at
  simp only [id_eq]
  clean_types
  pointwise
  refine host_decay _ _ _ (by omega) ?_
  rw [sitofp_ofNat _ (by omega), EReal.coe_add, EReal.coe_one]

/-- The decay over a chunk. -/
theorem entry_cdec (h : Fin 4) :
    (show FVec Ideal S4 .f32 from entryContents preI m c (Proc.devRef .tc main_v60_5)) (ix1 h)
      = ((decay (lg h) (128 : ℕ) : ℝ) : EReal) := by
  simp only [entryContents, StableHlo.afterL_cons, StableHlo.afterL_nil]
  after_reads_at
  simp only [id_eq]
  clean_types
  pointwise
  refine host_decay _ _ _ (by omega) ?_
  rw [bits_128]; norm_num

/-- The decay of a key to the chunk's end. -/
theorem entry_kdec (h : Fin 4) (i : Fin 128) :
    (show FVec Ideal S4x128 .f32 from entryContents preI m c (Proc.devRef .tc main_v60_6)) (ix2 h i)
      = ((decay (lg h) (((128 : ℕ) : ℝ) - 1 - i) : ℝ) : EReal) := by
  simp only [entryContents, StableHlo.afterL_cons, StableHlo.afterL_nil]
  after_reads_at
  simp only [id_eq]
  clean_types
  pointwise
  refine host_decay _ _ _ (by omega) ?_
  rw [sitofp_ofNat _ (by omega), bits_127, ← EReal.coe_sub]; norm_num

/-- The state before the loop is zero. -/
theorem entry_state (b : Fin 8) (h : Fin 4) (d : Fin 256) (e : Fin 512) :
    (show FVec Ideal S8x4x256x512 .f32 from entryContents preI m c (Proc.devRef .tc main_v60_8)) (ix4 b h d e) = (0 : EReal) := by
  simp only [entryContents, StableHlo.afterL_cons, StableHlo.afterL_nil]
  after_reads_at
  simp only [id_eq]
  clean_types
  pointwise

end Entry

/-- What the carried buffers hold before trip `n`: the inputs and the decays, the state before position `n * 128`, and the
    outputs of the chunks that are through. -/
structure Inv (q k : ℕ → ℕ → ℕ → Fin 256 → ℝ) (v : ℕ → ℕ → ℕ → Fin 512 → ℝ) (n : ℕ) (W : Valuation τ sig (Elt Ideal)) : Prop where
  ctr : W (Proc.devRef .tc main_v60_7) = constantI S_ 32 (BitVec.ofNat 32 n)
  hq : ∀ (n : Fin 64) (b : Fin 8) (h : Fin 4) (i : Fin 128) (d : Fin 256),
    (show FVec Ideal S64x8x4x128x256 .f32 from W (Proc.devRef .tc main_v60_0)) (ix5 n b h i d)
      = ((q b h (n * 128 + i) d : ℝ) : EReal)
  hk : ∀ (n : Fin 64) (b : Fin 8) (h : Fin 4) (i : Fin 128) (d : Fin 256),
    (show FVec Ideal S64x8x4x128x256 .f32 from W (Proc.devRef .tc main_v60_1)) (ix5 n b h i d)
      = ((k b h (n * 128 + i) d : ℝ) : EReal)
  hv : ∀ (n : Fin 64) (b : Fin 8) (h : Fin 4) (i : Fin 128) (e : Fin 512),
    (show FVec Ideal S64x8x4x128x512 .f32 from W (Proc.devRef .tc main_v60_2)) (ix5 n b h i e)
      = ((v b h (n * 128 + i) e : ℝ) : EReal)
  inner : ∀ (h : Fin 4) (i j : Fin 128),
    (show FVec Ideal S4x128x128 .f32 from W (Proc.devRef .tc main_v60_3)) (ix3 h i j)
      = ((if (j : ℕ) ≤ i then decay (lg h) ((i : ℝ) - j) else 0 : ℝ) : EReal)
  qdec : ∀ (h : Fin 4) (i : Fin 128),
    (show FVec Ideal S4x128 .f32 from W (Proc.devRef .tc main_v60_4)) (ix2 h i) = ((decay (lg h) ((i : ℝ) + 1) : ℝ) : EReal)
  cdec : ∀ h : Fin 4,
    (show FVec Ideal S4 .f32 from W (Proc.devRef .tc main_v60_5)) (ix1 h) = ((decay (lg h) (128 : ℕ) : ℝ) : EReal)
  kdec : ∀ (h : Fin 4) (i : Fin 128),
    (show FVec Ideal S4x128 .f32 from W (Proc.devRef .tc main_v60_6)) (ix2 h i)
      = ((decay (lg h) (((128 : ℕ) : ℝ) - 1 - i) : ℝ) : EReal)
  state : ∀ (b : Fin 8) (h : Fin 4) (d : Fin 256) (e : Fin 512),
    (show FVec Ideal S8x4x256x512 .f32 from W (Proc.devRef .tc main_v60_8)) (ix4 b h d e)
      = ((stateAt (lg h) (k b h) (v b h) (n * 128) d e : ℝ) : EReal)
  stack : ∀ (n' : Fin 64) (b : Fin 8) (h : Fin 4) (i : Fin 128) (e : Fin 512), (n' : ℕ) < n →
    (show FVec Ideal S64x8x4x128x512 .f32 from W (Proc.devRef .tc main_v60_9)) (ix5 n' b h i e)
      = ((outAt (lg h) (q b h) (k b h) (v b h) (n' * 128 + i) e : ℝ) : EReal)

/-- A trip keeps the invariant. -/
theorem Inv.step {q k : ℕ → ℕ → ℕ → Fin 256 → ℝ} {v : ℕ → ℕ → ℕ → Fin 512 → ℝ} {n : ℕ} {W : Valuation τ sig (Elt Ideal)}
    (I : Inv q k v n W) (hn : n < 64) : Inv q k v (n + 1) (STEP W) where
  ctr := by
    rw [STEP_main_v60_7]; unfold step_main_v60_7; rw [I.ctr]; funext i
    show BitVec.ofNat 32 n + 1#32 = BitVec.ofNat 32 (n + 1)
    simp only [BitVec.ofNat_add]
  hq := by rw [STEP_main_v60_0]; exact I.hq
  hk := by rw [STEP_main_v60_1]; exact I.hk
  hv := by rw [STEP_main_v60_2]; exact I.hv
  inner := by rw [STEP_main_v60_3]; exact I.inner
  qdec := by rw [STEP_main_v60_4]; exact I.qdec
  cdec := by rw [STEP_main_v60_5]; exact I.cdec
  kdec := by rw [STEP_main_v60_6]; exact I.kdec
  state b h d e := by
    rw [STEP_main_v60_8, Nat.succ_mul]
    refine (state_at W b h d e).trans ?_
    refine state_step _ _ _ (n * 128) 128 d e _ _ (fun j => _) (fun j => _) (I.state b h d e) (I.cdec h) (fun j => ?_) fun j => ?_
    · rw [kc_at W ⟨n, hn⟩ I.ctr, I.hk, I.kdec, EReal.coe_mul]
    · rw [vc_at W ⟨n, hn⟩ I.ctr, I.hv]
  stack n' b h i e hn' := by
    rw [STEP_main_v60_9]
    refine (stack_at W ⟨n, hn⟩ n' I.ctr b h i e).trans ?_
    by_cases hc : n' = ⟨n, hn⟩
    · rw [if_pos hc, show (n' : ℕ) = n from congrArg Fin.val hc]
      refine out_step _ _ _ _ (n * 128) 128 i e (fun y => _) (fun y => _) (fun j y => _) (fun j => _) (fun j => _) _ (fun y => ?_)
        (fun j y => ?_) (fun j => I.inner h i j) (fun j => ?_) (fun y => I.state b h y e) (I.qdec h i)
      · rw [qc_at W ⟨n, hn⟩ I.ctr, I.hq]
      · rw [kc_at W ⟨n, hn⟩ I.ctr, I.hk]
      · rw [vc_at W ⟨n, hn⟩ I.ctr, I.hv]
    · rw [if_neg hc]
      exact I.stack n' b h i e (lt_of_le_of_ne (Nat.lt_succ_iff.1 hn') fun hh => hc (Fin.ext hh))

/-- The invariant before every trip. -/
theorem Inv.iterate {q k : ℕ → ℕ → ℕ → Fin 256 → ℝ} {v : ℕ → ℕ → ℕ → Fin 512 → ℝ} {W : Valuation τ sig (Elt Ideal)}
    (I : Inv q k v 0 W) : ∀ n : ℕ, n ≤ 64 → Inv q k v n (STEP^[n] W)
  | 0, _ => I
  | n + 1, hn => by
    rw [Function.iterate_succ_apply']
    exact (Inv.iterate I n (by omega)).step (by omega)

/-- The invariant before the first trip, the inputs being numbers. -/
theorem entry_inv (m : (ℓ : Loc nD τ sig) → Buf (Elt Ideal) ℓ) (c : Dev nD)
    (hq : ∀ i, (show FVec Ideal S65536x1024 .bf16 from m ((c : Thread nD τ).loc main_arg0)) i ≠ (⊤ : EReal)
      ∧ (show FVec Ideal S65536x1024 .bf16 from m ((c : Thread nD τ).loc main_arg0)) i ≠ (⊥ : EReal))
    (hk : ∀ i, (show FVec Ideal S65536x1024 .bf16 from m ((c : Thread nD τ).loc main_arg1)) i ≠ (⊤ : EReal)
      ∧ (show FVec Ideal S65536x1024 .bf16 from m ((c : Thread nD τ).loc main_arg1)) i ≠ (⊥ : EReal))
    (hv : ∀ i, (show FVec Ideal S65536x2048 .bf16 from m ((c : Thread nD τ).loc main_arg2)) i ≠ (⊤ : EReal)
      ∧ (show FVec Ideal S65536x2048 .bf16 from m ((c : Thread nD τ).loc main_arg2)) i ≠ (⊥ : EReal)) :
    Inv (fun b h => seqOf 256 (show FVec Ideal S65536x1024 .bf16 from m ((c : Thread nD τ).loc main_arg0)) b h)
      (fun b h => seqOf 256 (show FVec Ideal S65536x1024 .bf16 from m ((c : Thread nD τ).loc main_arg1)) b h)
      (fun b h => seqOf 512 (show FVec Ideal S65536x2048 .bf16 from m ((c : Thread nD τ).loc main_arg2)) b h)
      0 (entryContents preI m c) where
  ctr := ctr_entry m c
  hq n b h i d := (entry_q m c n b h i d).trans (rd_coe _ hq _ _)
  hk n b h i d := (entry_k m c n b h i d).trans (rd_coe _ hk _ _)
  hv n b h i e := (entry_v m c n b h i e).trans (rd_coe _ hv _ _)
  inner := entry_inner m c
  qdec := entry_qdec m c
  cdec := entry_cdec m c
  kdec := entry_kdec m c
  state b h d e := by rw [Nat.zero_mul, stateAt_zero, EReal.coe_zero]; exact entry_state m c b h d e
  stack n' b h i e hn' := absurd hn' (Nat.not_lt_zero _)

/-- The reference's result: every position's retention. -/
theorem result_at (m : (ℓ : Loc nD τ sig) → Buf (Elt Ideal) ℓ) (c : Dev nD)
    (hq : ∀ i, (show FVec Ideal S65536x1024 .bf16 from m ((c : Thread nD τ).loc main_arg0)) i ≠ (⊤ : EReal)
      ∧ (show FVec Ideal S65536x1024 .bf16 from m ((c : Thread nD τ).loc main_arg0)) i ≠ (⊥ : EReal))
    (hk : ∀ i, (show FVec Ideal S65536x1024 .bf16 from m ((c : Thread nD τ).loc main_arg1)) i ≠ (⊤ : EReal)
      ∧ (show FVec Ideal S65536x1024 .bf16 from m ((c : Thread nD τ).loc main_arg1)) i ≠ (⊥ : EReal))
    (hv : ∀ i, (show FVec Ideal S65536x2048 .bf16 from m ((c : Thread nD τ).loc main_arg2)) i ≠ (⊤ : EReal)
      ∧ (show FVec Ideal S65536x2048 .bf16 from m ((c : Thread nD τ).loc main_arg2)) i ≠ (⊥ : EReal))
    (t : Fin 65536) (e : Fin 2048) :
    (show FVec Ideal S65536x2048 .f32 from out_main_v64 (STEP^[64] (entryContents preI m c))) (ix2 t e)
      = ((outAt (lg (e / 512))
          (seqOf 256 (show FVec Ideal S65536x1024 .bf16 from m ((c : Thread nD τ).loc main_arg0)) (t / 8192) (e / 512))
          (seqOf 256 (show FVec Ideal S65536x1024 .bf16 from m ((c : Thread nD τ).loc main_arg1)) (t / 8192) (e / 512))
          (seqOf 512 (show FVec Ideal S65536x2048 .bf16 from m ((c : Thread nD τ).loc main_arg2)) (t / 8192) (e / 512))
          (t % 8192) ⟨(e : ℕ) % 512, Nat.mod_lt _ (by norm_num)⟩ : ℝ) : EReal) := by
  refine (out_at _ t e).trans ?_
  refine (((entry_inv m c hq hk hv).iterate 64 le_rfl).stack _ _ _ _ _ (by show (t : ℕ) % 8192 / 128 < 64; omega)).trans ?_
  show ((outAt _ _ _ _ ((t : ℕ) % 8192 / 128 * 128 + (t : ℕ) % 8192 % 128) _ : ℝ) : EReal) = _
  rw [Nat.div_add_mod']

end Cert.ReferenceIdeal.Ret

end
-- ==== Proof.lean ====
module

public import proofs.«01_k».proof.Proof.Pre
public import proofs.«01_k».proof.Proof.SbOutValue
public import proofs.«01_k».proof.Proof.SbOutRef
public import proofs.«01_k».proof.Proof.RetOutValue
public import proofs.«01_k».proof.Proof.RetOutRef
public import proofs.«01_k».proof.Proof.RetProjEq
public import proofs.«01_k».proof.Proof.SbProjEq
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.RefLoop
public import Idealize.ShloMosaic.Lib.Quiescent
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The precondition makes the kernel's three arguments finite on every device. -/
theorem finite_of_pre [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Ret.Finite m c :=
  have e := Cert.Pre_finite.entries _ _ _ (h c)
  ⟨e.1, e.2.1, e.2.2⟩

/-- The reference leaves its arguments as they are; it declares no semaphore, so every counter ends at zero. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

/-- From arguments equal to the kernel's and finite, the reference's result is the retention of those arguments. -/
theorem reference_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hf : Cert.KernelIdeal.Ret.Finite m c)
    (h0 : (show FVec Ideal Cert.ReferenceIdeal.S65536x1024 .bf16 from
      m' ((c.tc : Thread Cert.ReferenceIdeal.nD Cert.ReferenceIdeal.τ).loc Cert.ReferenceIdeal.main_arg0)) = Cert.KernelIdeal.Ret.Qm m c)
    (h1 : (show FVec Ideal Cert.ReferenceIdeal.S65536x1024 .bf16 from
      m' ((c.tc : Thread Cert.ReferenceIdeal.nD Cert.ReferenceIdeal.τ).loc Cert.ReferenceIdeal.main_arg1)) = Cert.KernelIdeal.Ret.Km m c)
    (h2 : (show FVec Ideal Cert.ReferenceIdeal.S65536x2048 .bf16 from
      m' ((c.tc : Thread Cert.ReferenceIdeal.nD Cert.ReferenceIdeal.τ).loc Cert.ReferenceIdeal.main_arg2)) = Cert.KernelIdeal.Ret.Vm m c) :
    (show FVec Ideal Cert.ReferenceIdeal.S65536x2048 .f32 from
      Cert.ReferenceIdeal.Value.out_main_v64 (Cert.ReferenceIdeal.Value.STEP^[64]
        (StableHlo.entryContents Cert.ReferenceIdeal.Value.preI m' c)))
      = Cert.KernelIdeal.Ret.RET (Cert.KernelIdeal.Ret.Qm m c) (Cert.KernelIdeal.Ret.Km m c) (Cert.KernelIdeal.Ret.Vm m c) := by
  rw [← h0, ← h1, ← h2]
  funext y
  refine (congrArg _ (show y = @ix2 65536 2048 (y 0) (y 1) by idx_ext)).trans ?_
  exact Cert.ReferenceIdeal.Ret.result_at m' c (fun i => h0 ▸ hf.q i) (fun i => h1 ▸ hf.k i) (fun i => h2 ▸ hf.v i) (y 0) (y 1)

/-- On finite arguments the kernel's result is the reference's: both are the retention's closed form. -/
theorem value [Cert.Pre_finite.Facts] : Cert.algebraic_KernelIdeal_ReferenceIdeal_pre_finite :=
  fun m ρ m' ρ' hpre hag =>
    ⟨fun c => Cert.KernelIdeal.Ret.RET (Cert.KernelIdeal.Ret.Qm m c) (Cert.KernelIdeal.Ret.Km m c) (Cert.KernelIdeal.Ret.Vm m c),
      (θ_run _ _ _).mono (fun _ h c => ⟨(h c).1.trans (finite_of_pre m hpre c).final, (h c).2⟩)
        (Cert.KernelIdeal.Value.run_blocks m ρ),
      (θ_run _ _ _).mono (fun _ h c => ⟨(h c).1.trans
          (reference_value m m' c (finite_of_pre m hpre c) (hag c).1 (hag c).2.1 (hag c).2.2), (h c).2⟩)
        (Cert.ReferenceIdeal.Value.run m' ρ')⟩

/-- The last call's reference leaves its arguments as they are and every counter at zero. -/
theorem reference2_frame : Cert.quiescent_Reference2Ideal := fun m ρ _ =>
  (θ_run _ _ _).mono (fun r h => ⟨fun c => (h c).2, sem_eq_zero_of_no_sems (by decide) r.2⟩)
    (Cert.Reference2Ideal.Value.run m ρ)

/-- From arguments equal to the kernel's, the last call's reference leaves what the kernel leaves. -/
theorem reference2_value
    (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : Cert.Reference2Ideal.Out.a0 m' c = Cert.Kernel2Ideal.Out.a0 m c)
    (h1 : Cert.Reference2Ideal.Out.a1 m' c = Cert.Kernel2Ideal.Out.a1 m c)
    (h2 : Cert.Reference2Ideal.Out.a2 m' c = Cert.Kernel2Ideal.Out.a2 m c)
    (h3 : Cert.Reference2Ideal.Out.a3 m' c = Cert.Kernel2Ideal.Out.a3 m c)
    (h4 : Cert.Reference2Ideal.Out.a4 m' c = Cert.Kernel2Ideal.Out.a4 m c)
    (h5 : Cert.Reference2Ideal.Out.a5 m' c = Cert.Kernel2Ideal.Out.a5 m c)
    (h6 : Cert.Reference2Ideal.Out.a6 m' c = Cert.Kernel2Ideal.Out.a6 m c) :
    (show FVec Ideal Cert.Reference2Ideal.S65536x1024 .f32 from Cert.Reference2Ideal.Value.res_main_v35 m' c)
      = Cert.Kernel2Ideal.Out.OUT m c := by
  unfold Cert.Kernel2Ideal.Out.OUT
  rw [← h0, ← h1, ← h2, ← h3, ← h4, ← h5, ← h6]
  funext y
  refine (congrArg _ (show y = @ix2 65536 1024 (y 0) (y 1) by idx_ext)).trans ?_
  exact Cert.Reference2Ideal.Out.result_at m' c (y 0) (y 1)

/-- The last call's result is its reference's. -/
theorem value2 : Cert.algebraic_Kernel2Ideal_Reference2Ideal :=
  fun m ρ m' ρ' _ hag =>
    ⟨fun c => Cert.Kernel2Ideal.Out.OUT m c,
      (θ_run _ _ _).mono (fun _ h c => ⟨(h c).1.trans (Cert.Kernel2Ideal.Out.final m c), (h c).2⟩)
        (Cert.Kernel2Ideal.Value.run_blocks m ρ),
      (θ_run _ _ _).mono (fun _ h c => ⟨(h c).1.trans
          (reference2_value m m' c (hag c).1 (hag c).2.1 (hag c).2.2.1 (hag c).2.2.2.1 (hag c).2.2.2.2.1
            (hag c).2.2.2.2.2.1 (hag c).2.2.2.2.2.2), (h c).2⟩)
        (Cert.Reference2Ideal.Value.run m' ρ')⟩

/-- The retention output's reference leaves its arguments as they are and every counter at zero. -/
theorem reference3_frame : Cert.quiescent_Reference3Ideal := fun m ρ _ =>
  (θ_run _ _ _).mono (fun r h => ⟨fun c => (h c).2, sem_eq_zero_of_no_sems (by decide) r.2⟩)
    (Cert.Reference3Ideal.Value.run m ρ)

/-- From arguments equal to the kernel's, the retention output's reference leaves what the kernel leaves. -/
theorem reference3_value
    (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : Cert.Reference3Ideal.Out.a0 m' c = Cert.Kernel3Ideal.Out.a0 m c)
    (h1 : Cert.Reference3Ideal.Out.a1 m' c = Cert.Kernel3Ideal.Out.a1 m c)
    (h2 : Cert.Reference3Ideal.Out.a2 m' c = Cert.Kernel3Ideal.Out.a2 m c)
    (h3 : Cert.Reference3Ideal.Out.a3 m' c = Cert.Kernel3Ideal.Out.a3 m c)
    (h4 : Cert.Reference3Ideal.Out.a4 m' c = Cert.Kernel3Ideal.Out.a4 m c)
    (h5 : Cert.Reference3Ideal.Out.a5 m' c = Cert.Kernel3Ideal.Out.a5 m c)
    (h6 : Cert.Reference3Ideal.Out.a6 m' c = Cert.Kernel3Ideal.Out.a6 m c)
    (h7 : Cert.Reference3Ideal.Out.a7 m' c = Cert.Kernel3Ideal.Out.a7 m c) :
    (show FVec Ideal Cert.Reference3Ideal.S65536x1024 .f32 from Cert.Reference3Ideal.Value.res_main_v49 m' c)
      = Cert.Kernel3Ideal.Out.OUT m c := by
  unfold Cert.Kernel3Ideal.Out.OUT
  rw [← h0, ← h1, ← h2, ← h3, ← h4, ← h5, ← h6, ← h7]
  funext y
  refine (congrArg _ (show y = @ix2 65536 1024 (y 0) (y 1) by idx_ext)).trans ?_
  exact Cert.Reference3Ideal.Out.result_at m' c (y 0) (y 1)

/-- The retention output call's result is its reference's. -/
theorem value3 : Cert.algebraic_Kernel3Ideal_Reference3Ideal :=
  fun m ρ m' ρ' _ hag =>
    ⟨fun c => Cert.Kernel3Ideal.Out.OUT m c,
      (θ_run _ _ _).mono (fun _ h c => ⟨(h c).1.trans (Cert.Kernel3Ideal.Out.final m c), (h c).2⟩)
        (Cert.Kernel3Ideal.Value.run_blocks m ρ),
      (θ_run _ _ _).mono (fun _ h c => ⟨(h c).1.trans
          (reference3_value m m' c (hag c).1 (hag c).2.1 (hag c).2.2.1 (hag c).2.2.2.1 (hag c).2.2.2.2.1
            (hag c).2.2.2.2.2.1 (hag c).2.2.2.2.2.2.1 (hag c).2.2.2.2.2.2.2.1), (h c).2⟩)
        (Cert.Reference3Ideal.Value.run m' ρ')⟩

/-- Everything claimed of the calls. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    trivial,
    @value Cert.Pre_finite.facts,
    trivial,
    value2,
    trivial,
    value3,
    trivial,
    value4,
    trivial,
    value5⟩

end Cert.Proof

end
